-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_ReferenceFirstIdeal (m : (ℓ : Loc Cert.ReferenceFirstIdeal.nD Cert.ReferenceFirstIdeal.τ Cert.ReferenceFirstIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_scores [hPre_finite_scores : Cert.Pre_finite_scores.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))).1 = (fun _ => 1#1)
    ∧ (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))).2.1 = (fun _ => 1#1)
    ∧ (Cert.Pre_finite_scores.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3))).2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_scores [hPre_finite_scores : Cert.Pre_finite_scores.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))).1 = (fun _ => 1#1)
    ∧ (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))).2.1 = (fun _ => 1#1)
    ∧ (Cert.Pre_finite_scores.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3)
      ∧ r.2.mem ((c.tc : Thread Cert.KernelFirst.nD Cert.KernelFirst.τ).loc Cert.KernelFirst.main_arg4) = m ((c.tc : Thread Cert.KernelFirst.nD Cert.KernelFirst.τ).loc Cert.KernelFirst.main_arg4)
      ∧ r.2.mem ((c.tc : Thread Cert.KernelFirst.nD Cert.KernelFirst.τ).loc Cert.KernelFirst.main_arg5) = m ((c.tc : Thread Cert.KernelFirst.nD Cert.KernelFirst.τ).loc Cert.KernelFirst.main_arg5)
      ∧ r.2.mem ((c.tc : Thread Cert.KernelFirst.nD Cert.KernelFirst.τ).loc Cert.KernelFirst.main_arg6) = m ((c.tc : Thread Cert.KernelFirst.nD Cert.KernelFirst.τ).loc Cert.KernelFirst.main_arg6))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4)
      ∧ r.2.mem ((c.tc : Thread Cert.KernelProj.nD Cert.KernelProj.τ).loc Cert.KernelProj.main_arg5) = m ((c.tc : Thread Cert.KernelProj.nD Cert.KernelProj.τ).loc Cert.KernelProj.main_arg5)
      ∧ r.2.mem ((c.tc : Thread Cert.KernelProj.nD Cert.KernelProj.τ).loc Cert.KernelProj.main_arg6) = m ((c.tc : Thread Cert.KernelProj.nD Cert.KernelProj.τ).loc Cert.KernelProj.main_arg6))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
      ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
      ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4)
      ∧ r.2.mem ((c.tc : Thread Cert.ReferenceProjIdeal.nD Cert.ReferenceProjIdeal.τ).loc Cert.ReferenceProjIdeal.main_arg5) = m ((c.tc : Thread Cert.ReferenceProjIdeal.nD Cert.ReferenceProjIdeal.τ).loc Cert.ReferenceProjIdeal.main_arg5)
      ∧ r.2.mem ((c.tc : Thread Cert.ReferenceProjIdeal.nD Cert.ReferenceProjIdeal.τ).loc Cert.ReferenceProjIdeal.main_arg6) = m ((c.tc : Thread Cert.ReferenceProjIdeal.nD Cert.ReferenceProjIdeal.τ).loc Cert.ReferenceProjIdeal.main_arg6))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_KernelAttnIdeal_pre_finite_scores [hKernelAttnIdeal : Cert.KernelAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_scores m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def quiescent_ReferenceAttnIdeal_pre_finite_scores [hReferenceAttnIdeal : Cert.ReferenceAttnIdeal.Facts] [hPre_finite_scores : Cert.Pre_finite_scores.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_scores m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelFirst_KernelFirstIdeal : Prop :=
  True

def algebraic_KernelFirstIdeal_ReferenceFirstIdeal [hKernelFirstIdeal : Cert.KernelFirstIdeal.Facts] [hReferenceFirstIdeal : Cert.ReferenceFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)
      ∧ m' ((c.tc : Thread Cert.ReferenceFirstIdeal.nD Cert.ReferenceFirstIdeal.τ).loc Cert.ReferenceFirstIdeal.main_arg3) = m ((c.tc : Thread Cert.KernelFirstIdeal.nD Cert.KernelFirstIdeal.τ).loc Cert.KernelFirstIdeal.main_arg3)
      ∧ m' ((c.tc : Thread Cert.ReferenceFirstIdeal.nD Cert.ReferenceFirstIdeal.τ).loc Cert.ReferenceFirstIdeal.main_arg4) = m ((c.tc : Thread Cert.KernelFirstIdeal.nD Cert.KernelFirstIdeal.τ).loc Cert.KernelFirstIdeal.main_arg4)
      ∧ m' ((c.tc : Thread Cert.ReferenceFirstIdeal.nD Cert.ReferenceFirstIdeal.τ).loc Cert.ReferenceFirstIdeal.main_arg5) = m ((c.tc : Thread Cert.KernelFirstIdeal.nD Cert.KernelFirstIdeal.τ).loc Cert.KernelFirstIdeal.main_arg5)
      ∧ m' ((c.tc : Thread Cert.ReferenceFirstIdeal.nD Cert.ReferenceFirstIdeal.τ).loc Cert.ReferenceFirstIdeal.main_arg6) = m ((c.tc : Thread Cert.KernelFirstIdeal.nD Cert.KernelFirstIdeal.τ).loc Cert.KernelFirstIdeal.main_arg6)) →
    ∃ (v0 : (c : Dev Cert.KernelFirstIdeal.nD) → Buf (Elt Ideal) ((c.tc : Thread Cert.KernelFirstIdeal.nD Cert.KernelFirstIdeal.τ).loc Cert.KernelFirstIdeal.main_v5)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v5) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
          ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
          ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
          ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v79) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)
          ∧ r.2.mem ((c.tc : Thread Cert.ReferenceFirstIdeal.nD Cert.ReferenceFirstIdeal.τ).loc Cert.ReferenceFirstIdeal.main_arg5) = m' ((c.tc : Thread Cert.ReferenceFirstIdeal.nD Cert.ReferenceFirstIdeal.τ).loc Cert.ReferenceFirstIdeal.main_arg5)
          ∧ r.2.mem ((c.tc : Thread Cert.ReferenceFirstIdeal.nD Cert.ReferenceFirstIdeal.τ).loc Cert.ReferenceFirstIdeal.main_arg6) = m' ((c.tc : Thread Cert.ReferenceFirstIdeal.nD Cert.ReferenceFirstIdeal.τ).loc Cert.ReferenceFirstIdeal.main_arg6))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)) →
    ∃ (v0 : (c : Dev Cert.KernelMidIdeal.nD) → Buf (Elt Ideal) ((c.tc : Thread Cert.KernelMidIdeal.nD Cert.KernelMidIdeal.τ).loc Cert.KernelMidIdeal.main_v5)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v5) = v0 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v78) = v0 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)
      ∧ m' ((c.tc : Thread Cert.ReferenceProjIdeal.nD Cert.ReferenceProjIdeal.τ).loc Cert.ReferenceProjIdeal.main_arg5) = m ((c.tc : Thread Cert.KernelProjIdeal.nD Cert.KernelProjIdeal.τ).loc Cert.KernelProjIdeal.main_arg5)
      ∧ m' ((c.tc : Thread Cert.ReferenceProjIdeal.nD Cert.ReferenceProjIdeal.τ).loc Cert.ReferenceProjIdeal.main_arg6) = m ((c.tc : Thread Cert.KernelProjIdeal.nD Cert.KernelProjIdeal.τ).loc Cert.KernelProjIdeal.main_arg6)) →
    ∃ (v0 : (c : Dev Cert.KernelProjIdeal.nD) → Buf (Elt Ideal) ((c.tc : Thread Cert.KernelProjIdeal.nD Cert.KernelProjIdeal.τ).loc Cert.KernelProjIdeal.main_v33_0)) (v1 : (c : Dev Cert.KernelProjIdeal.nD) → Buf (Elt Ideal) ((c.tc : Thread Cert.KernelProjIdeal.nD Cert.KernelProjIdeal.τ).loc Cert.KernelProjIdeal.main_v33_1)) (v2 : (c : Dev Cert.KernelProjIdeal.nD) → Buf (Elt Ideal) ((c.tc : Thread Cert.KernelProjIdeal.nD Cert.KernelProjIdeal.τ).loc Cert.KernelProjIdeal.main_v33_2)) (v3 : (c : Dev Cert.KernelProjIdeal.nD) → Buf (Elt Ideal) ((c.tc : Thread Cert.KernelProjIdeal.nD Cert.KernelProjIdeal.τ).loc Cert.KernelProjIdeal.main_v33_3)) (v4 : (c : Dev Cert.KernelProjIdeal.nD) → Buf (Elt Ideal) ((c.tc : Thread Cert.KernelProjIdeal.nD Cert.KernelProjIdeal.τ).loc Cert.KernelProjIdeal.main_v33_4)) (v5 : (c : Dev Cert.KernelProjIdeal.nD) → Buf (Elt Ideal) ((c.tc : Thread Cert.KernelProjIdeal.nD Cert.KernelProjIdeal.τ).loc Cert.KernelProjIdeal.main_v33_5)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v33_0) = v0 c
          ∧ r.2.mem ((c.tc : Thread Cert.KernelProjIdeal.nD Cert.KernelProjIdeal.τ).loc Cert.KernelProjIdeal.main_v33_1) = v1 c
          ∧ r.2.mem ((c.tc : Thread Cert.KernelProjIdeal.nD Cert.KernelProjIdeal.τ).loc Cert.KernelProjIdeal.main_v33_2) = v2 c
          ∧ r.2.mem ((c.tc : Thread Cert.KernelProjIdeal.nD Cert.KernelProjIdeal.τ).loc Cert.KernelProjIdeal.main_v33_3) = v3 c
          ∧ r.2.mem ((c.tc : Thread Cert.KernelProjIdeal.nD Cert.KernelProjIdeal.τ).loc Cert.KernelProjIdeal.main_v33_4) = v4 c
          ∧ r.2.mem ((c.tc : Thread Cert.KernelProjIdeal.nD Cert.KernelProjIdeal.τ).loc Cert.KernelProjIdeal.main_v33_5) = v5 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4)
          ∧ r.2.mem ((c.tc : Thread Cert.KernelProjIdeal.nD Cert.KernelProjIdeal.τ).loc Cert.KernelProjIdeal.main_arg5) = m ((c.tc : Thread Cert.KernelProjIdeal.nD Cert.KernelProjIdeal.τ).loc Cert.KernelProjIdeal.main_arg5)
          ∧ r.2.mem ((c.tc : Thread Cert.KernelProjIdeal.nD Cert.KernelProjIdeal.τ).loc Cert.KernelProjIdeal.main_arg6) = m ((c.tc : Thread Cert.KernelProjIdeal.nD Cert.KernelProjIdeal.τ).loc Cert.KernelProjIdeal.main_arg6))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v141) = v0 c
          ∧ r.2.mem ((c.tc : Thread Cert.ReferenceProjIdeal.nD Cert.ReferenceProjIdeal.τ).loc Cert.ReferenceProjIdeal.main_v142) = v1 c
          ∧ r.2.mem ((c.tc : Thread Cert.ReferenceProjIdeal.nD Cert.ReferenceProjIdeal.τ).loc Cert.ReferenceProjIdeal.main_v143) = v2 c
          ∧ r.2.mem ((c.tc : Thread Cert.ReferenceProjIdeal.nD Cert.ReferenceProjIdeal.τ).loc Cert.ReferenceProjIdeal.main_v140) = v3 c
          ∧ r.2.mem ((c.tc : Thread Cert.ReferenceProjIdeal.nD Cert.ReferenceProjIdeal.τ).loc Cert.ReferenceProjIdeal.main_v41) = v4 c
          ∧ r.2.mem ((c.tc : Thread Cert.ReferenceProjIdeal.nD Cert.ReferenceProjIdeal.τ).loc Cert.ReferenceProjIdeal.main_v144) = v5 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4)
          ∧ r.2.mem ((c.tc : Thread Cert.ReferenceProjIdeal.nD Cert.ReferenceProjIdeal.τ).loc Cert.ReferenceProjIdeal.main_arg5) = m' ((c.tc : Thread Cert.ReferenceProjIdeal.nD Cert.ReferenceProjIdeal.τ).loc Cert.ReferenceProjIdeal.main_arg5)
          ∧ r.2.mem ((c.tc : Thread Cert.ReferenceProjIdeal.nD Cert.ReferenceProjIdeal.τ).loc Cert.ReferenceProjIdeal.main_arg6) = m' ((c.tc : Thread Cert.ReferenceProjIdeal.nD Cert.ReferenceProjIdeal.τ).loc Cert.ReferenceProjIdeal.main_arg6))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v5)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v5) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v59) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v3)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v3) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v36) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def preserves_KernelAttn_KernelAttnIdeal : Prop :=
  IdealRules.named_const.Statement Cert.KernelAttnIdeal.κ "mask" .f32 0xF149F2CA#32 ⊥

def algebraic_KernelAttnIdeal_ReferenceAttnIdeal_pre_finite_scores [hKernelAttnIdeal : Cert.KernelAttnIdeal.Facts] [hReferenceAttnIdeal : Cert.ReferenceAttnIdeal.Facts] [hPre_finite_scores : Cert.Pre_finite_scores.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_scores m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)) →
    ∃ (v0 : (c : Dev Cert.KernelAttnIdeal.nD) → Buf (Elt Ideal) ((c.tc : Thread Cert.KernelAttnIdeal.nD Cert.KernelAttnIdeal.τ).loc Cert.KernelAttnIdeal.main_v0)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v0) = v0 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v39) = v0 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3))

def Claim : Prop :=
  ∃ (hKernel : Cert.Kernel.Facts) (hKernelIdeal : Cert.KernelIdeal.Facts) (hReferenceIdeal : Cert.ReferenceIdeal.Facts) (hKernelFirst : Cert.KernelFirst.Facts) (hKernelFirstIdeal : Cert.KernelFirstIdeal.Facts) (hReferenceFirstIdeal : Cert.ReferenceFirstIdeal.Facts) (hKernelMid : Cert.KernelMid.Facts) (hKernelMidIdeal : Cert.KernelMidIdeal.Facts) (hReferenceMidIdeal : Cert.ReferenceMidIdeal.Facts) (hKernelProj : Cert.KernelProj.Facts) (hKernelProjIdeal : Cert.KernelProjIdeal.Facts) (hReferenceProjIdeal : Cert.ReferenceProjIdeal.Facts) (hKernelMerge : Cert.KernelMerge.Facts) (hKernelMergeIdeal : Cert.KernelMergeIdeal.Facts) (hReferenceMergeIdeal : Cert.ReferenceMergeIdeal.Facts) (hKernelMod : Cert.KernelMod.Facts) (hKernelModIdeal : Cert.KernelModIdeal.Facts) (hReferenceModIdeal : Cert.ReferenceModIdeal.Facts) (hKernelAttn : Cert.KernelAttn.Facts) (hKernelAttnIdeal : Cert.KernelAttnIdeal.Facts) (hReferenceAttnIdeal : Cert.ReferenceAttnIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_KernelFirst (hKernelFirst := hKernelFirst)
    ∧ quiescent_KernelFirstIdeal (hKernelFirstIdeal := hKernelFirstIdeal)
    ∧ quiescent_ReferenceFirstIdeal (hReferenceFirstIdeal := hReferenceFirstIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelAttn (hKernelAttn := hKernelAttn)
    ∧ quiescent_KernelAttnIdeal (hKernelAttnIdeal := hKernelAttnIdeal)
    ∧ quiescent_KernelAttnIdeal_pre_finite_scores (hKernelAttnIdeal := hKernelAttnIdeal) (hPre_finite_scores := hPre_finite_scores)
    ∧ quiescent_ReferenceAttnIdeal (hReferenceAttnIdeal := hReferenceAttnIdeal)
    ∧ quiescent_ReferenceAttnIdeal_pre_finite_scores (hReferenceAttnIdeal := hReferenceAttnIdeal) (hPre_finite_scores := hPre_finite_scores)
    ∧ preserves_Kernel_KernelIdeal
    ∧ algebraic_KernelIdeal_ReferenceIdeal (hKernelIdeal := hKernelIdeal) (hReferenceIdeal := hReferenceIdeal)
    ∧ preserves_KernelFirst_KernelFirstIdeal
    ∧ algebraic_KernelFirstIdeal_ReferenceFirstIdeal (hKernelFirstIdeal := hKernelFirstIdeal) (hReferenceFirstIdeal := hReferenceFirstIdeal)
    ∧ preserves_KernelMid_KernelMidIdeal
    ∧ algebraic_KernelMidIdeal_ReferenceMidIdeal (hKernelMidIdeal := hKernelMidIdeal) (hReferenceMidIdeal := hReferenceMidIdeal)
    ∧ preserves_KernelProj_KernelProjIdeal
    ∧ algebraic_KernelProjIdeal_ReferenceProjIdeal (hKernelProjIdeal := hKernelProjIdeal) (hReferenceProjIdeal := hReferenceProjIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelMod_KernelModIdeal
    ∧ algebraic_KernelModIdeal_ReferenceModIdeal (hKernelModIdeal := hKernelModIdeal) (hReferenceModIdeal := hReferenceModIdeal)
    ∧ preserves_KernelAttn_KernelAttnIdeal
    ∧ algebraic_KernelAttnIdeal_ReferenceAttnIdeal_pre_finite_scores (hKernelAttnIdeal := hKernelAttnIdeal) (hReferenceAttnIdeal := hReferenceAttnIdeal) (hPre_finite_scores := hPre_finite_scores)
-- ==== Pre_finite_scores.lean ====
abbrev S8 : Shape := ⟨1, ![8]⟩
abbrev S4x8448x512 : Shape := ⟨3, ![4, 8448, 512]⟩
abbrev S4x8448x128 : Shape := ⟨3, ![4, 8448, 128]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S4x8448x512 : S_.BroadcastsInDim S4x8448x512 (![] : Fin 0 → Fin S4x8448x512.rank)
  bcast_S_S4x8448x128 : S_.BroadcastsInDim S4x8448x128 (![] : Fin 0 → Fin S4x8448x128.rank)

variable [Facts]

def fn {F : FTy → Type} [FloatOps F] (main_arg0 : FVec F S8 .f32) (main_arg1 : FVec F S4x8448x512 .bf16) (main_arg2 : FVec F S4x8448x128 .bf16) (main_arg3 : FVec F S4x8448x128 .bf16) : IVec S8 1 × IVec S4x8448x512 1 × IVec S4x8448x128 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S4x8448x512 .f32 := (extf .f32 · bitsLt_bf16_f32) main_arg1
  let main_v4 : FVec F S4x8448x512 .f32 := Host.absf main_v3
  let main_cst_0 : FVec F S_ .f32 := constant S_ .f32 0x7F800000#32
  let main_v5 : FVec F S4x8448x512 .f32 := broadcastInDim S4x8448x512 ![] bcast_S_S4x8448x512 main_cst_0
  let main_v6 : IVec S4x8448x512 1 := cmpf .olt main_v4 main_v5
  let main_v7 : FVec F S4x8448x128 .f32 := (extf .f32 · bitsLt_bf16_f32) main_arg2
  let main_v8 : FVec F S4x8448x128 .f32 := Host.absf main_v7
  let main_cst_1 : FVec F S_ .f32 := constant S_ .f32 0x7F800000#32
  let main_v9 : FVec F S4x8448x128 .f32 := broadcastInDim S4x8448x128 ![] bcast_S_S4x8448x128 main_cst_1
  let main_v10 : IVec S4x8448x128 1 := cmpf .olt main_v8 main_v9
  (main_v2, main_v6, main_v10)
-- ==== Kernel.lean ====
abbrev S4x8448x1024 : Shape := ⟨3, ![4, 8448, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S5x9x1024 : Shape := ⟨3, ![5, 9, 1024]⟩
abbrev S1x1024 : Shape := ⟨2, ![1, 1024]⟩
abbrev S4x8192x1024 : Shape := ⟨3, ![4, 8192, 1024]⟩
abbrev S1x1024x1024 : Shape := ⟨3, ![1, 1024, 1024]⟩
abbrev S1x9x1024 : Shape := ⟨3, ![1, 9, 1024]⟩
abbrev S1024x2816 : Shape := ⟨2, ![1024, 2816]⟩
abbrev S1024x1024 : Shape := ⟨2, ![1024, 1024]⟩
abbrev S1024x1 : Shape := ⟨2, ![1024, 1]⟩
abbrev S1x1x1024 : Shape := ⟨3, ![1, 1, 1024]⟩
abbrev S1024x256 : Shape := ⟨2, ![1024, 256]⟩

abbrev nBuf : Space → Nat
  | .hbm => 12
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S5x9x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x2816, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c256_i32 : BitVec 32 := 256#32
  let arg1 : BitVec 32 := BitVec.ofNat 32 (i 1).val
  let c1024_i32 : BitVec 32 := 1024#32
  let v0 : BitVec 32 := Scalar.muli arg1 c1024_i32
  let v1 : BitVec 32 := Scalar.addi c256_i32 v0
  v1
def cc0_transform_0 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c256_i32 : BitVec 32 := 256#32
  let v1 : BitVec 32 := Scalar.addi c256_i32 v0
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8448x1024 : Shape := ⟨3, ![4, 8448, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S4x8192x1024 : Shape := ⟨3, ![4, 8192, 1024]⟩
abbrev S4x9216 : Shape := ⟨2, ![4, 9216]⟩
abbrev S4x1x9216 : Shape := ⟨3, ![4, 1, 9216]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S4x8192x5632 : Shape := ⟨3, ![4, 8192, 5632]⟩
abbrev S4x8192x2816 : Shape := ⟨3, ![4, 8192, 2816]⟩
abbrev S1x1x1024 : Shape := ⟨3, ![1, 1, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4x8192x1024, .f32⟩
  | .hbm, ⟨7, _⟩ => ⟨S4x9216, .f32⟩
  | .hbm, ⟨8, _⟩ => ⟨S4x1x9216, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S_, .f32⟩
  | .hbm, ⟨28, _⟩ => ⟨S4x8192, .f32⟩
  | .hbm, ⟨29, _⟩ => ⟨S4x8192x1, .f32⟩
  | .hbm, ⟨30, _⟩ => ⟨S_, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S_, .f32⟩
  | .hbm, ⟨42, _⟩ => ⟨S4x1x1024, .f32⟩
  | .hbm, ⟨43, _⟩ => ⟨S4x1x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x5632, .f32⟩
  | .hbm, ⟨49, _⟩ => ⟨S4x8192x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S_, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S4x8192x2816, .f32⟩
  | .hbm, ⟨60, _⟩ => ⟨S4x8192x2816, .f32⟩
  | .hbm, ⟨61, _⟩ => ⟨S4x8192x1024, .f32⟩
  | .hbm, ⟨62, _⟩ => ⟨S_, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x1x1024, .f32⟩
  | .hbm, ⟨67, _⟩ => ⟨S4x1x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S_, .f32⟩
  | .hbm, ⟨72, _⟩ => ⟨S4x8192, .f32⟩
  | .hbm, ⟨73, _⟩ => ⟨S4x8192x1, .f32⟩
  | .hbm, ⟨74, _⟩ => ⟨S_, .f32⟩
  | .hbm, ⟨75, _⟩ => ⟨S4x8192x1, .f32⟩
  | .hbm, ⟨76, _⟩ => ⟨S4x8192x1, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S_, .f32⟩
  | .hbm, ⟨81, _⟩ => ⟨S4x8192, .f32⟩
  | .hbm, ⟨82, _⟩ => ⟨S4x8192x1, .f32⟩
  | .hbm, ⟨83, _⟩ => ⟨S_, .f32⟩
  | .hbm, ⟨84, _⟩ => ⟨S4x8192x1, .f32⟩
  | .hbm, ⟨85, _⟩ => ⟨S4x8192x1, .f32⟩
  | .hbm, ⟨86, _⟩ => ⟨S4x8192x1024, .f32⟩
  | .hbm, ⟨87, _⟩ => ⟨S4x8192x1024, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S4x8192x1, .f32⟩
  | .hbm, ⟨92, _⟩ => ⟨S4x8192x1024, .f32⟩
  | .hbm, ⟨93, _⟩ => ⟨S4x8192x1024, .f32⟩
  | .hbm, ⟨94, _⟩ => ⟨S1x1x1024, .f32⟩
  | .hbm, ⟨95, _⟩ => ⟨S4x8192x1024, .f32⟩
  | .hbm, ⟨96, _⟩ => ⟨S4x8192x1024, .f32⟩
  | .hbm, ⟨97, _⟩ => ⟨S1x1x1024, .f32⟩
  | .hbm, ⟨98, _⟩ => ⟨S4x8192x1024, .f32⟩
  | .hbm, ⟨99, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== KernelFirst.lean ====
abbrev S4x8192x1024 : Shape := ⟨3, ![4, 8192, 1024]⟩
abbrev S4x256x1024 : Shape := ⟨3, ![4, 256, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S5x9x1024 : Shape := ⟨3, ![5, 9, 1024]⟩
abbrev S1x1024 : Shape := ⟨2, ![1, 1024]⟩
abbrev S4x8448x1024 : Shape := ⟨3, ![4, 8448, 1024]⟩
abbrev S1x768x1024 : Shape := ⟨3, ![1, 768, 1024]⟩
abbrev S1x256x1024 : Shape := ⟨3, ![1, 256, 1024]⟩
abbrev S1x9x1024 : Shape := ⟨3, ![1, 9, 1024]⟩
abbrev S768x2816 : Shape := ⟨2, ![768, 2816]⟩
abbrev S768x1024 : Shape := ⟨2, ![768, 1024]⟩
abbrev S256x1024 : Shape := ⟨2, ![256, 1024]⟩
abbrev S512x1024 : Shape := ⟨2, ![512, 1024]⟩
abbrev S768x1 : Shape := ⟨2, ![768, 1]⟩
abbrev S1x1x1024 : Shape := ⟨3, ![1, 1, 1024]⟩
abbrev S768 : Shape := ⟨1, ![768]⟩
abbrev S1024x256 : Shape := ⟨2, ![1024, 256]⟩
abbrev S768x256 : Shape := ⟨2, ![768, 256]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S5x9216, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S5x9x1024, .f32⟩
  | .hbm, ⟨8, _⟩ => ⟨S1024x5632, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S1x768x1024, .f32⟩
  | .local _ .vmem, ⟨12, _⟩ => ⟨S1x768x1024, .f32⟩
  | .local _ .vmem, ⟨13, _⟩ => ⟨S768x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg1 : BitVec 32 := BitVec.ofNat 32 (i 1).val
  let c768_i32 : BitVec 32 := 768#32
  let v0 : BitVec 32 := Scalar.muli arg1 c768_i32
  let c256_i32 : BitVec 32 := 256#32
  let v1 : BitVec 32 := Scalar.subi v0 c256_i32
  let c0_i32 : BitVec 32 := 0#32
  let v2 : BitVec 32 := Scalar.maxsi v1 c0_i32
  v2
def cc0_transform_0 (i : grid0.Coords) : Fin 3 → Nat :=
  let arg0 : BitVec 32 := BitVec.ofNat 32 (i 0).val
  let arg1 : BitVec 32 := BitVec.ofNat 32 (i 1).val
  let c768_i32 : BitVec 32 := 768#32
  let v0 : BitVec 32 := Scalar.muli arg1 c768_i32
  let c256_i32 : BitVec 32 := 256#32
  let v1 : BitVec 32 := Scalar.subi v0 c256_i32
  let c0_i32 : BitVec 32 := 0#32
  let v2 : BitVec 32 := Scalar.maxsi v1 c0_i32
  let v3 : BitVec 32 := v2
  let c0_i32_0 : BitVec 32 := 0#32
  let c0_i32_1 : BitVec 32 := 0#32
  ![arg0.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x9x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x768x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceFirstIdeal.lean ====
abbrev S4x8192x1024 : Shape := ⟨3, ![4, 8192, 1024]⟩
abbrev S4x256x1024 : Shape := ⟨3, ![4, 256, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S4x8448x1024 : Shape := ⟨3, ![4, 8448, 1024]⟩
abbrev S4x1024 : Shape := ⟨2, ![4, 1024]⟩
abbrev S1x1024 : Shape := ⟨2, ![1, 1024]⟩
abbrev S1x1x1024 : Shape := ⟨3, ![1, 1, 1024]⟩
abbrev S4x1x1024 : Shape := ⟨3, ![4, 1, 1024]⟩
abbrev S_ : Shape := ⟨0, ![]⟩
abbrev S4x8448 : Shape := ⟨2, ![4, 8448]⟩
abbrev S4x8448x1 : Shape := ⟨3, ![4, 8448, 1]⟩
abbrev S4x8448x5632 : Shape := ⟨3, ![4, 8448, 5632]⟩
abbrev S4x8448x2816 : Shape := ⟨3, ![4, 8448, 2816]⟩

abbrev nBuf : Space → Nat
  | .hbm => 108
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S5x9216, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S4x8448x1024, .f32⟩
  | .hbm, ⟨8, _⟩ => ⟨S4x1024, .f32⟩
  | .hbm, ⟨9, _⟩ => ⟨S1x1024, .f32⟩
  | .hbm, ⟨10, _⟩ => ⟨S1x1x1024, .f32⟩
  | .hbm, ⟨11, _⟩ => ⟨S4x256x1024, .f32⟩
  | .hbm, ⟨12, _⟩ => ⟨S4x1x1024, .f32⟩
  | .hbm, ⟨13, _⟩ => ⟨S4x8192x1024, .f32⟩
  | .hbm, ⟨14, _⟩ => ⟨S4x8448x1024, .f32⟩
  | .hbm, ⟨15, _⟩ => ⟨S4x1024, .f32⟩
  | .hbm, ⟨16, _⟩ => ⟨S1x1024, .f32⟩
  | .hbm, ⟨17, _⟩ => ⟨S1x1x1024, .f32⟩
  | .hbm, ⟨18, _⟩ => ⟨S4x256x1024, .f32⟩
  | .hbm, ⟨19, _⟩ => ⟨S4x1x1024, .f32⟩
  | .hbm, ⟨20, _⟩ => ⟨S4x8192x1024, .f32⟩
  | .hbm, ⟨21, _⟩ => ⟨S4x8448x1024, .f32⟩
  | .hbm, ⟨22, _⟩ => ⟨S4x1024, .f32⟩
  | .hbm, ⟨23, _⟩ => ⟨S1x1024, .f32⟩
  | .hbm, ⟨24, _⟩ => ⟨S1x1x1024, .f32⟩
  | .hbm, ⟨25, _⟩ => ⟨S4x256x1024, .f32⟩
  | .hbm, ⟨26, _⟩ => ⟨S4x1x1024, .f32⟩
  | .hbm, ⟨27, _⟩ => ⟨S4x8192x1024, .f32⟩
  | .hbm, ⟨28, _⟩ => ⟨S4x8448x1024, .f32⟩
  | .hbm, ⟨29, _⟩ => ⟨S_, .f32⟩
  | .hbm, ⟨30, _⟩ => ⟨S4x8448, .f32⟩
  | .hbm, ⟨31, _⟩ => ⟨S4x8448x1, .f32⟩
  | .hbm, ⟨32, _⟩ => ⟨S_, .f32⟩
  | .hbm, ⟨33, _⟩ => ⟨S4x8448x1, .f32⟩
  | .hbm, ⟨34, _⟩ => ⟨S4x8448x1, .f32⟩
  | .hbm, ⟨35, _⟩ => ⟨S4x8448x1024, .f32⟩
  | .hbm, ⟨36, _⟩ => ⟨S4x8448x1024, .f32⟩
  | .hbm, ⟨37, _⟩ => ⟨S4x8448x1024, .f32⟩
  | .hbm, ⟨38, _⟩ => ⟨S_, .f32⟩
  | .hbm, ⟨39, _⟩ => ⟨S4x8448, .f32⟩
  | .hbm, ⟨40, _⟩ => ⟨S4x8448x1, .f32⟩
  | .hbm, ⟨41, _⟩ => ⟨S_, .f32⟩
  | .hbm, ⟨42, _⟩ => ⟨S4x8448x1, .f32⟩
  | .hbm, ⟨43, _⟩ => ⟨S4x8448x1, .f32⟩
  | .hbm, ⟨44, _⟩ => ⟨S4x8448x1024, .f32⟩
  | .hbm, ⟨45, _⟩ => ⟨S4x8448x1024, .f32⟩
  | .hbm, ⟨46, _⟩ => ⟨S_, .f32⟩
  | .hbm, ⟨47, _⟩ => ⟨S4x8448x1, .f32⟩
  | .hbm, ⟨48, _⟩ => ⟨S4x8448x1, .f32⟩
  | .hbm, ⟨49, _⟩ => ⟨S4x8448x1, .f32⟩
  | .hbm, ⟨50, _⟩ => ⟨S4x8448x1024, .f32⟩
  | .hbm, ⟨51, _⟩ => ⟨S4x8448x1024, .f32⟩
  | .hbm, ⟨52, _⟩ => ⟨S_, .f32⟩
  | .hbm, ⟨53, _⟩ => ⟨S4x8448x1024, .f32⟩
  | .hbm, ⟨54, _⟩ => ⟨S4x8448x1024, .f32⟩
  | .hbm, ⟨55, _⟩ => ⟨S4x8448x1024, .f32⟩
  | .hbm, ⟨56, _⟩ => ⟨S4x8448x1024, .f32⟩
  | .hbm, ⟨57, _⟩ => ⟨S4x8448x5632, .f32⟩
  | .hbm, ⟨58, _⟩ => ⟨S4x8448x2816, .f32⟩
  | .hbm, ⟨59, _⟩ => ⟨S4x8448x2816, .f32⟩
  | .hbm, ⟨60, _⟩ => ⟨S4x8448x2816, .f32⟩
  | .hbm, ⟨61, _⟩ => ⟨S4x8448x2816, .f32⟩
  | .hbm, ⟨62, _⟩ => ⟨S_, .f32⟩
  | .hbm, ⟨63, _⟩ => ⟨S4x8448x2816, .f32⟩
  | .hbm, ⟨64, _⟩ => ⟨S4x8448x2816, .f32⟩
  | .hbm, ⟨65, _⟩ => ⟨S_, .f32⟩
  | .hbm, ⟨66, _⟩ => ⟨S4x8448x2816, .f32⟩
  | .hbm, ⟨67, _⟩ => ⟨S4x8448x2816, .f32⟩
  | .hbm, ⟨68, _⟩ => ⟨S4x8448x2816, .f32⟩
  | .hbm, ⟨69, _⟩ => ⟨S4x8448x2816, .f32⟩
  | .hbm, ⟨70, _⟩ => ⟨S4x8448x1024, .f32⟩
  | .hbm, ⟨71, _⟩ => ⟨S_, .f32⟩
  | .hbm, ⟨72, _⟩ => ⟨S4x8448x1024, .f32⟩
  | .hbm, ⟨73, _⟩ => ⟨S4x8448x1024, .f32⟩
  | .hbm, ⟨74, _⟩ => ⟨S_, .f32⟩
  | .hbm, ⟨75, _⟩ => ⟨S4x8448x1024, .f32⟩
  | .hbm, ⟨76, _⟩ => ⟨S4x8448x1024, .f32⟩
  | .hbm, ⟨77, _⟩ => ⟨S4x8448x1024, .f32⟩
  | .hbm, ⟨78, _⟩ => ⟨S4x8448x1024, .f32⟩
  | .hbm, ⟨79, _⟩ => ⟨S_, .f32⟩
  | .hbm, ⟨80, _⟩ => ⟨S4x8448, .f32⟩
  | .hbm, ⟨81, _⟩ => ⟨S4x8448x1, .f32⟩
  | .hbm, ⟨82, _⟩ => ⟨S_, .f32⟩
  | .hbm, ⟨83, _⟩ => ⟨S4x8448x1, .f32⟩
  | .hbm, ⟨84, _⟩ => ⟨S4x8448x1, .f32⟩
  | .hbm, ⟨85, _⟩ => ⟨S4x8448x1024, .f32⟩
  | .hbm, ⟨86, _⟩ => ⟨S4x8448x1024, .f32⟩
  | .hbm, ⟨87, _⟩ => ⟨S4x8448x1024, .f32⟩
  | .hbm, ⟨88, _⟩ => ⟨S_, .f32⟩
  | .hbm, ⟨89, _⟩ => ⟨S4x8448, .f32⟩
  | .hbm, ⟨90, _⟩ => ⟨S4x8448x1, .f32⟩
  | .hbm, ⟨91, _⟩ => ⟨S_, .f32⟩
  | .hbm, ⟨92, _⟩ => ⟨S4x8448x1, .f32⟩
  | .hbm, ⟨93, _⟩ => ⟨S4x8448x1, .f32⟩
  | .hbm, ⟨94, _⟩ => ⟨S4x8448x1024, .f32⟩
  | .hbm, ⟨95, _⟩ => ⟨S4x8448x1024, .f32⟩
  | .hbm, ⟨96, _⟩ => ⟨S_, .f32⟩
  | .hbm, ⟨97, _⟩ => ⟨S4x8448x1, .f32⟩
  | .hbm, ⟨98, _⟩ => ⟨S4x8448x1, .f32⟩
  | .hbm, ⟨99, _⟩ => ⟨S4x8448x1, .f32⟩
  | .hbm, ⟨100, _⟩ => ⟨S4x8448x1024, .f32⟩
  | .hbm, ⟨101, _⟩ => ⟨S4x8448x1024, .f32⟩
  | .hbm, ⟨102, _⟩ => ⟨S1x1x1024, .f32⟩
  | .hbm, ⟨103, _⟩ => ⟨S4x8448x1024, .f32⟩
  | .hbm, ⟨104, _⟩ => ⟨S4x8448x1024, .f32⟩
  | .hbm, ⟨105, _⟩ => ⟨S1x1x1024, .f32⟩
  | .hbm, ⟨106, _⟩ => ⟨S4x8448x1024, .f32⟩
  | .hbm, ⟨107, _⟩ => ⟨S4x8448x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_v22 : Ref sig .tc := ⟨.hbm, 30, rfl⟩
abbrev main_v23 : Ref sig .tc := ⟨.hbm, 31, rfl⟩
abbrev main_cst_0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_cst_8 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_9 : Ref sig .tc := ⟨.hbm, 88, rfl⟩
abbrev main_v63 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== KernelMid.lean ====
abbrev S4x8448x1024 : Shape := ⟨3, ![4, 8448, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S5x9x1024 : Shape := ⟨3, ![5, 9, 1024]⟩
abbrev S1x1024 : Shape := ⟨2, ![1, 1024]⟩
abbrev S1x768x1024 : Shape := ⟨3, ![1, 768, 1024]⟩
abbrev S1x9x1024 : Shape := ⟨3, ![1, 9, 1024]⟩
abbrev S768x2816 : Shape := ⟨2, ![768, 2816]⟩
abbrev S768x1024 : Shape := ⟨2, ![768, 1024]⟩
abbrev S768x1 : Shape := ⟨2, ![768, 1]⟩
abbrev S1x1x1024 : Shape := ⟨3, ![1, 1, 1024]⟩
abbrev S768 : Shape := ⟨1, ![768]⟩
abbrev S1024x256 : Shape := ⟨2, ![1024, 256]⟩
abbrev S768x256 : Shape := ⟨2, ![768, 256]⟩

abbrev nBuf : Space → Nat
  | .hbm => 12
  | .vmem => 12
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S5x9x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S1x768x1024, .f32⟩
  | .local _ .vmem, ⟨10, _⟩ => ⟨S1x768x1024, .f32⟩
  | .local _ .vmem, ⟨11, _⟩ => ⟨S768x2816, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceMidIdeal.lean ====
abbrev S4x8448x1024 : Shape := ⟨3, ![4, 8448, 1024]⟩
abbrev S5x9216 : Shape := ⟨2, ![5, 9216]⟩
abbrev S1024x5632 : Shape := ⟨2, ![1024, 5632]⟩
abbrev S2816x1024 : Shape := ⟨2, ![2816, 1024]⟩
abbrev S1024 : Shape := ⟨1, ![1024]⟩
abbrev S4x1024 : Shape := ⟨2, ![4, 1024]⟩
abbrev S1x1024 : Shape := ⟨2, ![1, 1024]⟩
abbrev S1x1x1024 : Shape := ⟨3, ![1, 1, 1024]⟩
abbrev S4x256x1024 : Shape := ⟨3, ![4, 256, 1024]⟩
abbrev S4x1x1024 : Shape := ⟨3, ![4, 1, 1024]⟩
abbrev S4x8192x1024 : Shape := ⟨3, ![4, 8192, 1024]⟩
abbrev S_ : Shape := ⟨0, ![]⟩
abbrev S4x8448 : Shape := ⟨2, ![4, 8448]⟩
abbrev S4x8448x1 : Shape := ⟨3, ![4, 8448, 1]⟩
abbrev S4x8448x5632 : Shape := ⟨3, ![4, 8448, 5632]⟩
abbrev S4x8448x2816 : Shape := ⟨3, ![4, 8448, 2816]⟩

abbrev nBuf : Space → Nat
  | .hbm => 106
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S4x1024, .f32⟩
  | .hbm, ⟨7, _⟩ => ⟨S1x1024, .f32⟩
  | .hbm, ⟨8, _⟩ => ⟨S1x1x1024, .f32⟩
  | .hbm, ⟨9, _⟩ => ⟨S4x256x1024, .f32⟩
  | .hbm, ⟨10, _⟩ => ⟨S4x1x1024, .f32⟩
  | .hbm, ⟨11, _⟩ => ⟨S4x8192x1024, .f32⟩
  | .hbm, ⟨12, _⟩ => ⟨S4x8448x1024, .f32⟩
  | .hbm, ⟨13, _⟩ => ⟨S4x1024, .f32⟩
  | .hbm, ⟨14, _⟩ => ⟨S1x1024, .f32⟩
  | .hbm, ⟨15, _⟩ => ⟨S1x1x1024, .f32⟩
  | .hbm, ⟨16, _⟩ => ⟨S4x256x1024, .f32⟩
  | .hbm, ⟨17, _⟩ => ⟨S4x1x1024, .f32⟩
  | .hbm, ⟨18, _⟩ => ⟨S4x8192x1024, .f32⟩
  | .hbm, ⟨19, _⟩ => ⟨S4x8448x1024, .f32⟩
  | .hbm, ⟨20, _⟩ => ⟨S4x1024, .f32⟩
  | .hbm, ⟨21, _⟩ => ⟨S1x1024, .f32⟩
  | .hbm, ⟨22, _⟩ => ⟨S1x1x1024, .f32⟩
  | .hbm, ⟨23, _⟩ => ⟨S4x256x1024, .f32⟩
  | .hbm, ⟨24, _⟩ => ⟨S4x1x1024, .f32⟩
  | .hbm, ⟨25, _⟩ => ⟨S4x8192x1024, .f32⟩
  | .hbm, ⟨26, _⟩ => ⟨S4x8448x1024, .f32⟩
  | .hbm, ⟨27, _⟩ => ⟨S_, .f32⟩
  | .hbm, ⟨28, _⟩ => ⟨S4x8448, .f32⟩
  | .hbm, ⟨29, _⟩ => ⟨S4x8448x1, .f32⟩
  | .hbm, ⟨30, _⟩ => ⟨S_, .f32⟩
  | .hbm, ⟨31, _⟩ => ⟨S4x8448x1, .f32⟩
  | .hbm, ⟨32, _⟩ => ⟨S4x8448x1, .f32⟩
  | .hbm, ⟨33, _⟩ => ⟨S4x8448x1024, .f32⟩
  | .hbm, ⟨34, _⟩ => ⟨S4x8448x1024, .f32⟩
  | .hbm, ⟨35, _⟩ => ⟨S4x8448x1024, .f32⟩
  | .hbm, ⟨36, _⟩ => ⟨S_, .f32⟩
  | .hbm, ⟨37, _⟩ => ⟨S4x8448, .f32⟩
  | .hbm, ⟨38, _⟩ => ⟨S4x8448x1, .f32⟩
  | .hbm, ⟨39, _⟩ => ⟨S_, .f32⟩
  | .hbm, ⟨40, _⟩ => ⟨S4x8448x1, .f32⟩
  | .hbm, ⟨41, _⟩ => ⟨S4x8448x1, .f32⟩
  | .hbm, ⟨42, _⟩ => ⟨S4x8448x1024, .f32⟩
  | .hbm, ⟨43, _⟩ => ⟨S4x8448x1024, .f32⟩
  | .hbm, ⟨44, _⟩ => ⟨S_, .f32⟩
  | .hbm, ⟨45, _⟩ => ⟨S4x8448x1, .f32⟩
  | .hbm, ⟨46, _⟩ => ⟨S4x8448x1, .f32⟩
  | .hbm, ⟨47, _⟩ => ⟨S4x8448x1, .f32⟩
  | .hbm, ⟨48, _⟩ => ⟨S4x8448x1024, .f32⟩
  | .hbm, ⟨49, _⟩ => ⟨S4x8448x1024, .f32⟩
  | .hbm, ⟨50, _⟩ => ⟨S_, .f32⟩
  | .hbm, ⟨51, _⟩ => ⟨S4x8448x1024, .f32⟩
  | .hbm, ⟨52, _⟩ => ⟨S4x8448x1024, .f32⟩
  | .hbm, ⟨53, _⟩ => ⟨S4x8448x1024, .f32⟩
  | .hbm, ⟨54, _⟩ => ⟨S4x8448x1024, .f32⟩
  | .hbm, ⟨55, _⟩ => ⟨S4x8448x5632, .f32⟩
  | .hbm, ⟨56, _⟩ => ⟨S4x8448x2816, .f32⟩
  | .hbm, ⟨57, _⟩ => ⟨S4x8448x2816, .f32⟩
  | .hbm, ⟨58, _⟩ => ⟨S4x8448x2816, .f32⟩
  | .hbm, ⟨59, _⟩ => ⟨S4x8448x2816, .f32⟩
  | .hbm, ⟨60, _⟩ => ⟨S_, .f32⟩
  | .hbm, ⟨61, _⟩ => ⟨S4x8448x2816, .f32⟩
  | .hbm, ⟨62, _⟩ => ⟨S4x8448x2816, .f32⟩
  | .hbm, ⟨63, _⟩ => ⟨S_, .f32⟩
  | .hbm, ⟨64, _⟩ => ⟨S4x8448x2816, .f32⟩
  | .hbm, ⟨65, _⟩ => ⟨S4x8448x2816, .f32⟩
  | .hbm, ⟨66, _⟩ => ⟨S4x8448x2816, .f32⟩
  | .hbm, ⟨67, _⟩ => ⟨S4x8448x2816, .f32⟩
  | .hbm, ⟨68, _⟩ => ⟨S4x8448x1024, .f32⟩
  | .hbm, ⟨69, _⟩ => ⟨S_, .f32⟩
  | .hbm, ⟨70, _⟩ => ⟨S4x8448x1024, .f32⟩
  | .hbm, ⟨71, _⟩ => ⟨S4x8448x1024, .f32⟩
  | .hbm, ⟨72, _⟩ => ⟨S_, .f32⟩
  | .hbm, ⟨73, _⟩ => ⟨S4x8448x1024, .f32⟩
  | .hbm, ⟨74, _⟩ => ⟨S4x8448x1024, .f32⟩
  | .hbm, ⟨75, _⟩ => ⟨S4x8448x1024, .f32⟩
  | .hbm, ⟨76, _⟩ => ⟨S4x8448x1024, .f32⟩
  | .hbm, ⟨77, _⟩ => ⟨S_, .f32⟩
  | .hbm, ⟨78, _⟩ => ⟨S4x8448, .f32⟩
  | .hbm, ⟨79, _⟩ => ⟨S4x8448x1, .f32⟩
  | .hbm, ⟨80, _⟩ => ⟨S_, .f32⟩
  | .hbm, ⟨81, _⟩ => ⟨S4x8448x1, .f32⟩
  | .hbm, ⟨82, _⟩ => ⟨S4x8448x1, .f32⟩
  | .hbm, ⟨83, _⟩ => ⟨S4x8448x1024, .f32⟩
  | .hbm, ⟨84, _⟩ => ⟨S4x8448x1024, .f32⟩
  | .hbm, ⟨85, _⟩ => ⟨S4x8448x1024, .f32⟩
  | .hbm, ⟨86, _⟩ => ⟨S_, .f32⟩
  | .hbm, ⟨87, _⟩ => ⟨S4x8448, .f32⟩
  | .hbm, ⟨88, _⟩ => ⟨S4x8448x1, .f32⟩
  | .hbm, ⟨89, _⟩ => ⟨S_, .f32⟩
  | .hbm, ⟨90, _⟩ => ⟨S4x8448x1, .f32⟩
  | .hbm, ⟨91, _⟩ => ⟨S4x8448x1, .f32⟩
  | .hbm, ⟨92, _⟩ => ⟨S4x8448x1024, .f32⟩
  | .hbm, ⟨93, _⟩ => ⟨S4x8448x1024, .f32⟩
  | .hbm, ⟨94, _⟩ => ⟨S_, .f32⟩
  | .hbm, ⟨95, _⟩ => ⟨S4x8448x1, .f32⟩
  | .hbm, ⟨96, _⟩ => ⟨S4x8448x1, .f32⟩
  | .hbm, ⟨97, _⟩ => ⟨S4x8448x1, .f32⟩
  | .hbm, ⟨98, _⟩ => ⟨S4x8448x1024, .f32⟩
  | .hbm, ⟨99, _⟩ => ⟨S4x8448x1024, .f32⟩
  | .hbm, ⟨100, _⟩ => ⟨S1x1x1024, .f32⟩
  | .hbm, ⟨101, _⟩ => ⟨S4x8448x1024, .f32⟩
  | .hbm, ⟨102, _⟩ => ⟨S4x8448x1024, .f32⟩
  | .hbm, ⟨103, _⟩ => ⟨S1x1x1024, .f32⟩
  | .hbm, ⟨104, _⟩ => ⟨S4x8448x1024, .f32⟩
  | .hbm, ⟨105, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_cst_10 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== KernelProj.lean ====
abbrev S4x8448x1024 : Shape := ⟨3, ![4, 8448, 1024]⟩
abbrev S5x9216 : Shape := ⟨2, ![5, 9216]⟩
abbrev S1024x6208 : Shape := ⟨2, ![1024, 6208]⟩
abbrev S8192x16 : Shape := ⟨2, ![8192, 16]⟩
abbrev S512 : Shape := ⟨1, ![512]⟩
abbrev S128 : Shape := ⟨1, ![128]⟩
abbrev S5x9x1024 : Shape := ⟨3, ![5, 9, 1024]⟩
abbrev S8192x64 : Shape := ⟨2, ![8192, 64]⟩
abbrev S_ : Shape := ⟨0, ![]⟩
abbrev S256x64 : Shape := ⟨2, ![256, 64]⟩
abbrev S8448x64 : Shape := ⟨2, ![8448, 64]⟩
abbrev S8448x128 : Shape := ⟨2, ![8448, 128]⟩
abbrev S1024x512 : Shape := ⟨2, ![1024, 512]⟩
abbrev S1024x128 : Shape := ⟨2, ![1024, 128]⟩
abbrev S1024x1856 : Shape := ⟨2, ![1024, 1856]⟩
abbrev S1024x1728 : Shape := ⟨2, ![1024, 1728]⟩
abbrev S1024x64 : Shape := ⟨2, ![1024, 64]⟩
abbrev S1024x1920 : Shape := ⟨2, ![1024, 1920]⟩
abbrev S1024x3072 : Shape := ⟨2, ![1024, 3072]⟩
abbrev S512x1 : Shape := ⟨2, ![512, 1]⟩
abbrev S128x1 : Shape := ⟨2, ![128, 1]⟩
abbrev S1024x6912 : Shape := ⟨2, ![1024, 6912]⟩
abbrev S4x8448x512 : Shape := ⟨3, ![4, 8448, 512]⟩
abbrev S4x8448x128 : Shape := ⟨3, ![4, 8448, 128]⟩
abbrev S4x8448x1920 : Shape := ⟨3, ![4, 8448, 1920]⟩
abbrev S4x8448x3072 : Shape := ⟨3, ![4, 8448, 3072]⟩
abbrev S1x384x1024 : Shape := ⟨3, ![1, 384, 1024]⟩
abbrev S1x9x1024 : Shape := ⟨3, ![1, 9, 1024]⟩
abbrev S384x128 : Shape := ⟨2, ![384, 128]⟩
abbrev S1x384x512 : Shape := ⟨3, ![1, 384, 512]⟩
abbrev S1x384x128 : Shape := ⟨3, ![1, 384, 128]⟩
abbrev S1x384x1920 : Shape := ⟨3, ![1, 384, 1920]⟩
abbrev S1x384x3072 : Shape := ⟨3, ![1, 384, 3072]⟩
abbrev S384x1024 : Shape := ⟨2, ![384, 1024]⟩
abbrev S384x1 : Shape := ⟨2, ![384, 1]⟩
abbrev S1x1x1024 : Shape := ⟨3, ![1, 1, 1024]⟩
abbrev S1x1024 : Shape := ⟨2, ![1, 1024]⟩
abbrev S384 : Shape := ⟨1, ![384]⟩
abbrev S384x1920 : Shape := ⟨2, ![384, 1920]⟩
abbrev S384x512 : Shape := ⟨2, ![384, 512]⟩
abbrev S384x3072 : Shape := ⟨2, ![384, 3072]⟩

abbrev nBuf : Space → Nat
  | .hbm => 55
  | .vmem => 22
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S1024x6208, .f32⟩
  | .hbm, ⟨3, _⟩ => ⟨S8192x16, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S512, .i32⟩
  | .hbm, ⟨8, _⟩ => ⟨S512, .i1⟩
  | .hbm, ⟨9, _⟩ => ⟨S128, .i32⟩
  | .hbm, ⟨10, _⟩ => ⟨S128, .i1⟩
  | .hbm, ⟨11, _⟩ => ⟨S5x9x1024, .f32⟩
  | .hbm, ⟨12, _⟩ => ⟨S8192x64, .f32⟩
  | .hbm, ⟨13, _⟩ => ⟨S8192x16, .f32⟩
  | .hbm, ⟨14, _⟩ => ⟨S8192x16, .f32⟩
  | .hbm, ⟨15, _⟩ => ⟨S8192x64, .f32⟩
  | .hbm, ⟨16, _⟩ => ⟨S_, .f32⟩
  | .hbm, ⟨17, _⟩ => ⟨S256x64, .f32⟩
  | .hbm, ⟨18, _⟩ => ⟨S8448x64, .f32⟩
  | .hbm, ⟨19, _⟩ => ⟨S_, .f32⟩
  | .hbm, ⟨20, _⟩ => ⟨S256x64, .f32⟩
  | .hbm, ⟨21, _⟩ => ⟨S8448x64, .f32⟩
  | .hbm, ⟨22, _⟩ => ⟨S8448x128, .f32⟩
  | .hbm, ⟨23, _⟩ => ⟨S8448x128, .f32⟩
  | .hbm, ⟨24, _⟩ => ⟨S1024x512, .f32⟩
  | .hbm, ⟨25, _⟩ => ⟨S1024x128, .f32⟩
  | .hbm, ⟨26, _⟩ => ⟨S1024x128, .f32⟩
  | .hbm, ⟨27, _⟩ => ⟨S1024x1856, .f32⟩
  | .hbm, ⟨28, _⟩ => ⟨S1024x1728, .f32⟩
  | .hbm, ⟨29, _⟩ => ⟨S1024x128, .f32⟩
  | .hbm, ⟨30, _⟩ => ⟨S_, .f32⟩
  | .hbm, ⟨31, _⟩ => ⟨S1024x64, .f32⟩
  | .hbm, ⟨32, _⟩ => ⟨S1024x1920, .f32⟩
  | .hbm, ⟨33, _⟩ => ⟨S1024x512, .f32⟩
  | .hbm, ⟨34, _⟩ => ⟨S1024x3072, .f32⟩
  | .hbm, ⟨35, _⟩ => ⟨S_, .i32⟩
  | .hbm, ⟨36, _⟩ => ⟨S512, .i32⟩
  | .hbm, ⟨37, _⟩ => ⟨S512, .i32⟩
  | .hbm, ⟨38, _⟩ => ⟨S512, .i32⟩
  | .hbm, ⟨39, _⟩ => ⟨S512x1, .i32⟩
  | .hbm, ⟨40, _⟩ => ⟨S1024x512, .f32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S128x1, .i32⟩
  | .hbm, ⟨46, _⟩ => ⟨S1024x128, .f32⟩
  | .hbm, ⟨47, _⟩ => ⟨S1024x6912, .f32⟩
  | .hbm, ⟨48, _⟩ => ⟨S1024x6912, .bf16⟩
  | .hbm, ⟨49, _⟩ => ⟨S4x8448x512, .bf16⟩
  | .hbm, ⟨50, _⟩ => ⟨S4x8448x128, .bf16⟩
  | .hbm, ⟨51, _⟩ => ⟨S4x8448x128, .bf16⟩
  | .hbm, ⟨52, _⟩ => ⟨S4x8448x1920, .f32⟩
  | .hbm, ⟨53, _⟩ => ⟨S4x8448x512, .f32⟩
  | .hbm, ⟨54, _⟩ => ⟨S4x8448x3072, .bf16⟩
  | .local _ .vmem, ⟨0, _⟩ => ⟨S1x384x1024, .f32⟩
  | .local _ .vmem, ⟨1, _⟩ => ⟨S1x384x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S1024x6912, .bf16⟩
  | .local _ .vmem, ⟨10, _⟩ => ⟨S1x384x512, .bf16⟩
  | .local _ .vmem, ⟨11, _⟩ => ⟨S1x384x512, .bf16⟩
  | .local _ .vmem, ⟨12, _⟩ => ⟨S1x384x128, .bf16⟩
  | .local _ .vmem, ⟨13, _⟩ => ⟨S1x384x128, .bf16⟩
  | .local _ .vmem, ⟨14, _⟩ => ⟨S1x384x128, .bf16⟩
  | .local _ .vmem, ⟨15, _⟩ => ⟨S1x384x128, .bf16⟩
  | .local _ .vmem, ⟨16, _⟩ => ⟨S1x384x1920, .f32⟩
  | .local _ .vmem, ⟨17, _⟩ => ⟨S1x384x1920, .f32⟩
  | .local _ .vmem, ⟨18, _⟩ => ⟨S1x384x512, .f32⟩
  | .local _ .vmem, ⟨19, _⟩ => ⟨S1x384x512, .f32⟩
  | .local _ .vmem, ⟨20, _⟩ => ⟨S1x384x3072, .bf16⟩
  | .local _ .vmem, ⟨21, _⟩ => ⟨S1x384x3072, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33_0 : Ref sig .tc := ⟨.hbm, 49, rfl⟩
abbrev main_v33_1 : Ref sig .tc := ⟨.hbm, 50, rfl⟩
abbrev main_v33_2 : Ref sig .tc := ⟨.hbm, 51, rfl⟩
abbrev main_v33_3 : Ref sig .tc := ⟨.hbm, 52, rfl⟩
abbrev main_v33_4 : Ref sig .tc := ⟨.hbm, 53, rfl⟩
abbrev main_v33_5 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x384x1920 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x384x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceProjIdeal.lean ====
abbrev S4x8448x1024 : Shape := ⟨3, ![4, 8448, 1024]⟩
abbrev S5x9216 : Shape := ⟨2, ![5, 9216]⟩
abbrev S1024x6208 : Shape := ⟨2, ![1024, 6208]⟩
abbrev S8192x16 : Shape := ⟨2, ![8192, 16]⟩
abbrev S4x1024 : Shape := ⟨2, ![4, 1024]⟩
abbrev S1x1024 : Shape := ⟨2, ![1, 1024]⟩
abbrev S1x1x1024 : Shape := ⟨3, ![1, 1, 1024]⟩
abbrev S4x256x1024 : Shape := ⟨3, ![4, 256, 1024]⟩
abbrev S4x1x1024 : Shape := ⟨3, ![4, 1, 1024]⟩
abbrev S4x8192x1024 : Shape := ⟨3, ![4, 8192, 1024]⟩
abbrev S_ : Shape := ⟨0, ![]⟩
abbrev S4x8448 : Shape := ⟨2, ![4, 8448]⟩
abbrev S4x8448x1 : Shape := ⟨3, ![4, 8448, 1]⟩
abbrev S4x8448x6208 : Shape := ⟨3, ![4, 8448, 6208]⟩
abbrev S4x8448x512 : Shape := ⟨3, ![4, 8448, 512]⟩
abbrev S4x8448x128 : Shape := ⟨3, ![4, 8448, 128]⟩
abbrev S4x8448x1856 : Shape := ⟨3, ![4, 8448, 1856]⟩
abbrev S4x8448x3072 : Shape := ⟨3, ![4, 8448, 3072]⟩
abbrev S4x256x512 : Shape := ⟨3, ![4, 256, 512]⟩
abbrev S4x8192x512 : Shape := ⟨3, ![4, 8192, 512]⟩
abbrev S4x8192x8x64 : Shape := ⟨4, ![4, 8192, 8, 64]⟩
abbrev S4x8192x8x32 : Shape := ⟨4, ![4, 8192, 8, 32]⟩
abbrev S8192x1x16 : Shape := ⟨3, ![8192, 1, 16]⟩
abbrev S4x8192x8x16 : Shape := ⟨4, ![4, 8192, 8, 16]⟩
abbrev S1x8192x1x16 : Shape := ⟨4, ![1, 8192, 1, 16]⟩
abbrev S4x256x128 : Shape := ⟨3, ![4, 256, 128]⟩
abbrev S4x8192x128 : Shape := ⟨3, ![4, 8192, 128]⟩
abbrev S4x8192x2x64 : Shape := ⟨4, ![4, 8192, 2, 64]⟩
abbrev S4x8192x2x32 : Shape := ⟨4, ![4, 8192, 2, 32]⟩
abbrev S4x8192x2x16 : Shape := ⟨4, ![4, 8192, 2, 16]⟩
abbrev S4x8448x1728 : Shape := ⟨3, ![4, 8448, 1728]⟩
abbrev S4x8448x64 : Shape := ⟨3, ![4, 8448, 64]⟩
abbrev S4x8448x1920 : Shape := ⟨3, ![4, 8448, 1920]⟩

abbrev nBuf : Space → Nat
  | .hbm => 160
  | .vmem => 0
  | .smem => 0
  | _ => 0

abbrev hbmTy0_0 (i : Nat) : BufTy := match i % 128 with
  | 0 => ⟨S4x8448x1024, .f32⟩
  | 1 => ⟨S5x9216, .f32⟩
  | 2 => ⟨S1024x6208, .f32⟩
  | 3 => ⟨S8192x16, .f32⟩
  | 4 => ⟨S8192x16, .f32⟩
  | 5 => ⟨S8192x16, .f32⟩
  | 6 => ⟨S8192x16, .f32⟩
  | 7 => ⟨S4x1024, .f32⟩
  | 8 => ⟨S1x1024, .f32⟩
  | 9 => ⟨S1x1x1024, .f32⟩
  | 10 => ⟨S4x256x1024, .f32⟩
  | 11 => ⟨S4x1x1024, .f32⟩
  | 12 => ⟨S4x8192x1024, .f32⟩
  | 13 => ⟨S4x8448x1024, .f32⟩
  | 14 => ⟨S4x1024, .f32⟩
  | 15 => ⟨S1x1024, .f32⟩
  | 16 => ⟨S1x1x1024, .f32⟩
  | 17 => ⟨S4x256x1024, .f32⟩
  | 18 => ⟨S4x1x1024, .f32⟩
  | 19 => ⟨S4x8192x1024, .f32⟩
  | 20 => ⟨S4x8448x1024, .f32⟩
  | 21 => ⟨S_, .f32⟩
  | 22 => ⟨S4x8448, .f32⟩
  | 23 => ⟨S4x8448x1, .f32⟩
  | 24 => ⟨S_, .f32⟩
  | 25 => ⟨S4x8448x1, .f32⟩
  | 26 => ⟨S4x8448x1, .f32⟩
  | 27 => ⟨S4x8448x1024, .f32⟩
  | 28 => ⟨S4x8448x1024, .f32⟩
  | 29 => ⟨S4x8448x1024, .f32⟩
  | 30 => ⟨S_, .f32⟩
  | 31 => ⟨S4x8448, .f32⟩
  | 32 => ⟨S4x8448x1, .f32⟩
  | 33 => ⟨S_, .f32⟩
  | 34 => ⟨S4x8448x1, .f32⟩
  | 35 => ⟨S4x8448x1, .f32⟩
  | 36 => ⟨S4x8448x1024, .f32⟩
  | 37 => ⟨S4x8448x1024, .f32⟩
  | 38 => ⟨S_, .f32⟩
  | 39 => ⟨S4x8448x1, .f32⟩
  | 40 => ⟨S4x8448x1, .f32⟩
  | 41 => ⟨S4x8448x1, .f32⟩
  | 42 => ⟨S4x8448x1024, .f32⟩
  | 43 => ⟨S4x8448x1024, .f32⟩
  | 44 => ⟨S_, .f32⟩
  | 45 => ⟨S4x8448x1024, .f32⟩
  | 46 => ⟨S4x8448x1024, .f32⟩
  | 47 => ⟨S4x8448x1024, .f32⟩
  | 48 => ⟨S4x8448x1024, .f32⟩
  | 49 => ⟨S4x8448x6208, .f32⟩
  | 50 => ⟨S4x8448x512, .f32⟩
  | 51 => ⟨S4x8448x128, .f32⟩
  | 52 => ⟨S4x8448x128, .f32⟩
  | 53 => ⟨S4x8448x1856, .f32⟩
  | 54 => ⟨S4x8448x512, .f32⟩
  | 55 => ⟨S4x8448x3072, .f32⟩
  | 56 => ⟨S4x256x512, .f32⟩
  | 57 => ⟨S4x8192x512, .f32⟩
  | 58 => ⟨S4x8192x8x64, .f32⟩
  | 59 => ⟨S4x8192x8x32, .f32⟩
  | 60 => ⟨S8192x1x16, .f32⟩
  | 61 => ⟨S8192x1x16, .f32⟩
  | 62 => ⟨S4x8192x8x16, .f32⟩
  | 63 => ⟨S4x8192x8x16, .f32⟩
  | 64 => ⟨S1x8192x1x16, .f32⟩
  | 65 => ⟨S4x8192x8x16, .f32⟩
  | 66 => ⟨S4x8192x8x16, .f32⟩
  | 67 => ⟨S1x8192x1x16, .f32⟩
  | 68 => ⟨S4x8192x8x16, .f32⟩
  | 69 => ⟨S4x8192x8x16, .f32⟩
  | 70 => ⟨S4x8192x8x16, .f32⟩
  | 71 => ⟨S1x8192x1x16, .f32⟩
  | 72 => ⟨S4x8192x8x16, .f32⟩
  | 73 => ⟨S4x8192x8x16, .f32⟩
  | 74 => ⟨S1x8192x1x16, .f32⟩
  | 75 => ⟨S4x8192x8x16, .f32⟩
  | 76 => ⟨S4x8192x8x16, .f32⟩
  | 77 => ⟨S4x8192x8x16, .f32⟩
  | 78 => ⟨S4x8192x8x32, .f32⟩
  | 79 => ⟨S4x8192x8x32, .f32⟩
  | 80 => ⟨S8192x1x16, .f32⟩
  | 81 => ⟨S8192x1x16, .f32⟩
  | 82 => ⟨S4x8192x8x16, .f32⟩
  | 83 => ⟨S4x8192x8x16, .f32⟩
  | 84 => ⟨S1x8192x1x16, .f32⟩
  | 85 => ⟨S4x8192x8x16, .f32⟩
  | 86 => ⟨S4x8192x8x16, .f32⟩
  | 87 => ⟨S1x8192x1x16, .f32⟩
  | 88 => ⟨S4x8192x8x16, .f32⟩
  | 89 => ⟨S4x8192x8x16, .f32⟩
  | 90 => ⟨S4x8192x8x16, .f32⟩
  | 91 => ⟨S1x8192x1x16, .f32⟩
  | 92 => ⟨S4x8192x8x16, .f32⟩
  | 93 => ⟨S4x8192x8x16, .f32⟩
  | 94 => ⟨S1x8192x1x16, .f32⟩
  | 95 => ⟨S4x8192x8x16, .f32⟩
  | 96 => ⟨S4x8192x8x16, .f32⟩
  | 97 => ⟨S4x8192x8x16, .f32⟩
  | 98 => ⟨S4x8192x8x32, .f32⟩
  | 99 => ⟨S4x8192x8x64, .f32⟩
  | 100 => ⟨S4x8192x512, .f32⟩
  | 101 => ⟨S4x8448x512, .f32⟩
  | 102 => ⟨S_, .f32⟩
  | 103 => ⟨S4x8448x512, .f32⟩
  | 104 => ⟨S4x8448x512, .f32⟩
  | 105 => ⟨S4x256x128, .f32⟩
  | 106 => ⟨S4x8192x128, .f32⟩
  | 107 => ⟨S4x8192x2x64, .f32⟩
  | 108 => ⟨S4x8192x2x32, .f32⟩
  | 109 => ⟨S8192x1x16, .f32⟩
  | 110 => ⟨S8192x1x16, .f32⟩
  | 111 => ⟨S4x8192x2x16, .f32⟩
  | 112 => ⟨S4x8192x2x16, .f32⟩
  | 113 => ⟨S1x8192x1x16, .f32⟩
  | 114 => ⟨S4x8192x2x16, .f32⟩
  | 115 => ⟨S4x8192x2x16, .f32⟩
  | 116 => ⟨S1x8192x1x16, .f32⟩
  | 117 => ⟨S4x8192x2x16, .f32⟩
  | 118 => ⟨S4x8192x2x16, .f32⟩
  | 119 => ⟨S4x8192x2x16, .f32⟩
  | 120 => ⟨S1x8192x1x16, .f32⟩
  | 121 => ⟨S4x8192x2x16, .f32⟩
  | 122 => ⟨S4x8192x2x16, .f32⟩
  | 123 => ⟨S1x8192x1x16, .f32⟩
  | 124 => ⟨S4x8192x2x16, .f32⟩
  | 125 => ⟨S4x8192x2x16, .f32⟩
  | 126 => ⟨S4x8192x2x16, .f32⟩
  | 127 => ⟨S4x8192x2x32, .f32⟩
  | _ => ⟨S4x8448x1024, .f32⟩

abbrev hbmTy0_1 (i : Nat) : BufTy := match i % 128 with
  | 0 => ⟨S4x8192x2x32, .f32⟩
  | 1 => ⟨S8192x1x16, .f32⟩
  | 2 => ⟨S8192x1x16, .f32⟩
  | 3 => ⟨S4x8192x2x16, .f32⟩
  | 4 => ⟨S4x8192x2x16, .f32⟩
  | 5 => ⟨S1x8192x1x16, .f32⟩
  | 6 => ⟨S4x8192x2x16, .f32⟩
  | 7 => ⟨S4x8192x2x16, .f32⟩
  | 8 => ⟨S1x8192x1x16, .f32⟩
  | 9 => ⟨S4x8192x2x16, .f32⟩
  | 10 => ⟨S4x8192x2x16, .f32⟩
  | 11 => ⟨S4x8192x2x16, .f32⟩
  | 12 => ⟨S1x8192x1x16, .f32⟩
  | 13 => ⟨S4x8192x2x16, .f32⟩
  | 14 => ⟨S4x8192x2x16, .f32⟩
  | 15 => ⟨S1x8192x1x16, .f32⟩
  | 16 => ⟨S4x8192x2x16, .f32⟩
  | 17 => ⟨S4x8192x2x16, .f32⟩
  | 18 => ⟨S4x8192x2x16, .f32⟩
  | 19 => ⟨S4x8192x2x32, .f32⟩
  | 20 => ⟨S4x8192x2x64, .f32⟩
  | 21 => ⟨S4x8192x128, .f32⟩
  | 22 => ⟨S4x8448x128, .f32⟩
  | 23 => ⟨S4x8448x1728, .f32⟩
  | 24 => ⟨S_, .f32⟩
  | 25 => ⟨S4x8448x64, .f32⟩
  | 26 => ⟨S4x8448x128, .f32⟩
  | 27 => ⟨S4x8448x1920, .f32⟩
  | 28 => ⟨S4x8448x512, .bf16⟩
  | 29 => ⟨S4x8448x128, .bf16⟩
  | 30 => ⟨S4x8448x128, .bf16⟩
  | 31 => ⟨S4x8448x3072, .bf16⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_5 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_cst_6 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩

abbrev nD : Nat := 1
abbrev τ : Topo := Topo.v7x

variable {F : FTy → Type} [FloatOps F]
-- ==== KernelMerge.lean ====
abbrev S4x8448x1024 : Shape := ⟨3, ![4, 8448, 1024]⟩
abbrev S5x9216 : Shape := ⟨2, ![5, 9216]⟩
abbrev S4x8448x3072 : Shape := ⟨3, ![4, 8448, 3072]⟩
abbrev S4x8448x512 : Shape := ⟨3, ![4, 8448, 512]⟩
abbrev S3x512x1024 : Shape := ⟨3, ![3, 512, 1024]⟩
abbrev S1024x1024 : Shape := ⟨2, ![1024, 1024]⟩
abbrev S1024 : Shape := ⟨1, ![1024]⟩
abbrev S5x9x1024 : Shape := ⟨3, ![5, 9, 1024]⟩
abbrev S1x1024 : Shape := ⟨2, ![1, 1024]⟩
abbrev S1x768x1024 : Shape := ⟨3, ![1, 768, 1024]⟩
abbrev S1x9x1024 : Shape := ⟨3, ![1, 9, 1024]⟩
abbrev S1x768x3072 : Shape := ⟨3, ![1, 768, 3072]⟩
abbrev S1x768x512 : Shape := ⟨3, ![1, 768, 512]⟩
abbrev S768x1024 : Shape := ⟨2, ![768, 1024]⟩
abbrev S768x1 : Shape := ⟨2, ![768, 1]⟩
abbrev S1x1x1024 : Shape := ⟨3, ![1, 1, 1024]⟩
abbrev S768x512 : Shape := ⟨2, ![768, 512]⟩
abbrev S1x512x1024 : Shape := ⟨3, ![1, 512, 1024]⟩
abbrev S512x1024 : Shape := ⟨2, ![512, 1024]⟩
abbrev S768 : Shape := ⟨1, ![768]⟩

abbrev nBuf : Space → Nat
  | .hbm => 16
  | .vmem => 19
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S4x8448x3072, .bf16⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S5x9x1024, .f32⟩
  | .hbm, ⟨11, _⟩ => ⟨S3x512x1024, .bf16⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S4x8448x1024, .f32⟩
  | .local _ .vmem, ⟨0, _⟩ => ⟨S1x768x1024, .f32⟩
  | .local _ .vmem, ⟨1, _⟩ => ⟨S1x768x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x768x3072, .bf16⟩
  | .local _ .vmem, ⟨6, _⟩ => ⟨S1x768x3072, .bf16⟩
  | .local _ .vmem, ⟨7, _⟩ => ⟨S1x768x512, .f32⟩
  | .local _ .vmem, ⟨8, _⟩ => ⟨S1x768x512, .f32⟩
  | .local _ .vmem, ⟨9, _⟩ => ⟨S1x768x512, .f32⟩
  | .local _ .vmem, ⟨10, _⟩ => ⟨S1x768x512, .f32⟩
  | .local _ .vmem, ⟨11, _⟩ => ⟨S1x768x512, .f32⟩
  | .local _ .vmem, ⟨12, _⟩ => ⟨S1x768x512, .f32⟩
  | .local _ .vmem, ⟨13, _⟩ => ⟨S3x512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x768x1024, .f32⟩
  | .local _ .vmem, ⟨18, _⟩ => ⟨S1x768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x9x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x768x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x768x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x768x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceMergeIdeal.lean ====
abbrev S4x8448x1024 : Shape := ⟨3, ![4, 8448, 1024]⟩
abbrev S5x9216 : Shape := ⟨2, ![5, 9216]⟩
abbrev S4x8448x3072 : Shape := ⟨3, ![4, 8448, 3072]⟩
abbrev S4x8448x512 : Shape := ⟨3, ![4, 8448, 512]⟩
abbrev S3x512x1024 : Shape := ⟨3, ![3, 512, 1024]⟩
abbrev S1024x1024 : Shape := ⟨2, ![1024, 1024]⟩
abbrev S1024 : Shape := ⟨1, ![1024]⟩
abbrev S_ : Shape := ⟨0, ![]⟩
abbrev S1x512x1024 : Shape := ⟨3, ![1, 512, 1024]⟩
abbrev S512x1024 : Shape := ⟨2, ![512, 1024]⟩
abbrev S4x1024 : Shape := ⟨2, ![4, 1024]⟩
abbrev S1x1024 : Shape := ⟨2, ![1, 1024]⟩
abbrev S1x1x1024 : Shape := ⟨3, ![1, 1, 1024]⟩
abbrev S4x256x1024 : Shape := ⟨3, ![4, 256, 1024]⟩
abbrev S4x1x1024 : Shape := ⟨3, ![4, 1, 1024]⟩
abbrev S4x8192x1024 : Shape := ⟨3, ![4, 8192, 1024]⟩
abbrev S4x8448 : Shape := ⟨2, ![4, 8448]⟩
abbrev S4x8448x1 : Shape := ⟨3, ![4, 8448, 1]⟩

abbrev nBuf : Space → Nat
  | .hbm => 78
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S5x9216, .f32⟩
  | .hbm, ⟨2, _⟩ => ⟨S4x8448x3072, .bf16⟩
  | .hbm, ⟨3, _⟩ => ⟨S4x8448x512, .f32⟩
  | .hbm, ⟨4, _⟩ => ⟨S4x8448x512, .f32⟩
  | .hbm, ⟨5, _⟩ => ⟨S4x8448x512, .f32⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4x8448x3072, .f32⟩
  | .hbm, ⟨11, _⟩ => ⟨S4x8448x3072, .f32⟩
  | .hbm, ⟨12, _⟩ => ⟨S4x8448x3072, .f32⟩
  | .hbm, ⟨13, _⟩ => ⟨S_, .f32⟩
  | .hbm, ⟨14, _⟩ => ⟨S4x8448x3072, .f32⟩
  | .hbm, ⟨15, _⟩ => ⟨S4x8448x3072, .f32⟩
  | .hbm, ⟨16, _⟩ => ⟨S_, .f32⟩
  | .hbm, ⟨17, _⟩ => ⟨S4x8448x3072, .f32⟩
  | .hbm, ⟨18, _⟩ => ⟨S4x8448x3072, .f32⟩
  | .hbm, ⟨19, _⟩ => ⟨S4x8448x1024, .f32⟩
  | .hbm, ⟨20, _⟩ => ⟨S4x8448x1024, .f32⟩
  | .hbm, ⟨21, _⟩ => ⟨S4x8448x1024, .f32⟩
  | .hbm, ⟨22, _⟩ => ⟨S1x512x1024, .f32⟩
  | .hbm, ⟨23, _⟩ => ⟨S512x1024, .f32⟩
  | .hbm, ⟨24, _⟩ => ⟨S4x8448x1024, .f32⟩
  | .hbm, ⟨25, _⟩ => ⟨S4x8448x1024, .f32⟩
  | .hbm, ⟨26, _⟩ => ⟨S1x512x1024, .f32⟩
  | .hbm, ⟨27, _⟩ => ⟨S512x1024, .f32⟩
  | .hbm, ⟨28, _⟩ => ⟨S4x8448x1024, .f32⟩
  | .hbm, ⟨29, _⟩ => ⟨S4x8448x1024, .f32⟩
  | .hbm, ⟨30, _⟩ => ⟨S4x8448x1024, .f32⟩
  | .hbm, ⟨31, _⟩ => ⟨S1x512x1024, .f32⟩
  | .hbm, ⟨32, _⟩ => ⟨S512x1024, .f32⟩
  | .hbm, ⟨33, _⟩ => ⟨S4x8448x1024, .f32⟩
  | .hbm, ⟨34, _⟩ => ⟨S4x8448x1024, .f32⟩
  | .hbm, ⟨35, _⟩ => ⟨S4x8448x1024, .f32⟩
  | .hbm, ⟨36, _⟩ => ⟨S4x8448x1024, .f32⟩
  | .hbm, ⟨37, _⟩ => ⟨S_, .f32⟩
  | .hbm, ⟨38, _⟩ => ⟨S4x8448x1024, .f32⟩
  | .hbm, ⟨39, _⟩ => ⟨S4x8448x1024, .f32⟩
  | .hbm, ⟨40, _⟩ => ⟨S4x1024, .f32⟩
  | .hbm, ⟨41, _⟩ => ⟨S1x1024, .f32⟩
  | .hbm, ⟨42, _⟩ => ⟨S1x1x1024, .f32⟩
  | .hbm, ⟨43, _⟩ => ⟨S4x256x1024, .f32⟩
  | .hbm, ⟨44, _⟩ => ⟨S4x1x1024, .f32⟩
  | .hbm, ⟨45, _⟩ => ⟨S4x8192x1024, .f32⟩
  | .hbm, ⟨46, _⟩ => ⟨S4x8448x1024, .f32⟩
  | .hbm, ⟨47, _⟩ => ⟨S4x8448x1024, .f32⟩
  | .hbm, ⟨48, _⟩ => ⟨S4x8448x1024, .f32⟩
  | .hbm, ⟨49, _⟩ => ⟨S_, .f32⟩
  | .hbm, ⟨50, _⟩ => ⟨S4x8448, .f32⟩
  | .hbm, ⟨51, _⟩ => ⟨S4x8448x1, .f32⟩
  | .hbm, ⟨52, _⟩ => ⟨S_, .f32⟩
  | .hbm, ⟨53, _⟩ => ⟨S4x8448x1, .f32⟩
  | .hbm, ⟨54, _⟩ => ⟨S4x8448x1, .f32⟩
  | .hbm, ⟨55, _⟩ => ⟨S4x8448x1024, .f32⟩
  | .hbm, ⟨56, _⟩ => ⟨S4x8448x1024, .f32⟩
  | .hbm, ⟨57, _⟩ => ⟨S4x8448x1024, .f32⟩
  | .hbm, ⟨58, _⟩ => ⟨S_, .f32⟩
  | .hbm, ⟨59, _⟩ => ⟨S4x8448, .f32⟩
  | .hbm, ⟨60, _⟩ => ⟨S4x8448x1, .f32⟩
  | .hbm, ⟨61, _⟩ => ⟨S_, .f32⟩
  | .hbm, ⟨62, _⟩ => ⟨S4x8448x1, .f32⟩
  | .hbm, ⟨63, _⟩ => ⟨S4x8448x1, .f32⟩
  | .hbm, ⟨64, _⟩ => ⟨S4x8448x1024, .f32⟩
  | .hbm, ⟨65, _⟩ => ⟨S4x8448x1024, .f32⟩
  | .hbm, ⟨66, _⟩ => ⟨S_, .f32⟩
  | .hbm, ⟨67, _⟩ => ⟨S4x8448x1, .f32⟩
  | .hbm, ⟨68, _⟩ => ⟨S4x8448x1, .f32⟩
  | .hbm, ⟨69, _⟩ => ⟨S4x8448x1, .f32⟩
  | .hbm, ⟨70, _⟩ => ⟨S4x8448x1024, .f32⟩
  | .hbm, ⟨71, _⟩ => ⟨S4x8448x1024, .f32⟩
  | .hbm, ⟨72, _⟩ => ⟨S1x1x1024, .f32⟩
  | .hbm, ⟨73, _⟩ => ⟨S4x8448x1024, .f32⟩
  | .hbm, ⟨74, _⟩ => ⟨S4x8448x1024, .f32⟩
  | .hbm, ⟨75, _⟩ => ⟨S1x1x1024, .f32⟩
  | .hbm, ⟨76, _⟩ => ⟨S4x8448x1024, .f32⟩
  | .hbm, ⟨77, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== KernelMod.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S1x1024 : Shape := ⟨2, ![1, 1024]⟩
abbrev S5x1024 : Shape := ⟨2, ![5, 1024]⟩
abbrev S2x1x9216 : Shape := ⟨3, ![2, 1, 9216]⟩
abbrev S2x5x9216 : Shape := ⟨3, ![2, 5, 9216]⟩
abbrev S1x1024x1152 : Shape := ⟨3, ![1, 1024, 1152]⟩
abbrev S1x1x1152 : Shape := ⟨3, ![1, 1, 1152]⟩
abbrev S1x5x1152 : Shape := ⟨3, ![1, 5, 1152]⟩
abbrev S1024x1152 : Shape := ⟨2, ![1024, 1152]⟩
abbrev S5x1152 : Shape := ⟨2, ![5, 1152]⟩
abbrev S1x1152 : Shape := ⟨2, ![1, 1152]⟩

abbrev nBuf : Space → Nat
  | .hbm => 8
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S1x1024, .f32⟩
  | .hbm, ⟨5, _⟩ => ⟨S5x1024, .f32⟩
  | .hbm, ⟨6, _⟩ => ⟨S2x1x9216, .f32⟩
  | .hbm, ⟨7, _⟩ => ⟨S2x5x9216, .f32⟩
  | .local _ .vmem, ⟨0, _⟩ => ⟨S5x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x5x1152, .f32⟩
  | .local _ .vmem, ⟨6, _⟩ => ⟨S1x5x1152, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S5x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S4x1024 : Shape := ⟨2, ![4, 1024]⟩
abbrev S1024 : Shape := ⟨1, ![1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S4x9216 : Shape := ⟨2, ![4, 9216]⟩
abbrev S1x9216 : Shape := ⟨2, ![1, 9216]⟩
abbrev S9216 : Shape := ⟨1, ![9216]⟩
abbrev S5x9216 : Shape := ⟨2, ![5, 9216]⟩
abbrev S1x5x9216 : Shape := ⟨3, ![1, 5, 9216]⟩
abbrev S2x5x9216 : Shape := ⟨3, ![2, 5, 9216]⟩

abbrev nBuf : Space → Nat
  | .hbm => 57
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x9216, .f32⟩
  | .hbm, ⟨3, _⟩ => ⟨S2x9216, .f32⟩
  | .hbm, ⟨4, _⟩ => ⟨S4x1024, .f32⟩
  | .hbm, ⟨5, _⟩ => ⟨S4x1024, .f32⟩
  | .hbm, ⟨6, _⟩ => ⟨S_, .f32⟩
  | .hbm, ⟨7, _⟩ => ⟨S4x1024, .f32⟩
  | .hbm, ⟨8, _⟩ => ⟨S4x1024, .f32⟩
  | .hbm, ⟨9, _⟩ => ⟨S_, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024x9216, .f32⟩
  | .hbm, ⟨23, _⟩ => ⟨S1024x9216, .f32⟩
  | .hbm, ⟨24, _⟩ => ⟨S4x9216, .f32⟩
  | .hbm, ⟨25, _⟩ => ⟨S1x9216, .f32⟩
  | .hbm, ⟨26, _⟩ => ⟨S9216, .f32⟩
  | .hbm, ⟨27, _⟩ => ⟨S1x9216, .f32⟩
  | .hbm, ⟨28, _⟩ => ⟨S4x9216, .f32⟩
  | .hbm, ⟨29, _⟩ => ⟨S4x9216, .f32⟩
  | .hbm, ⟨30, _⟩ => ⟨S1x1024x9216, .f32⟩
  | .hbm, ⟨31, _⟩ => ⟨S1024x9216, .f32⟩
  | .hbm, ⟨32, _⟩ => ⟨S9216, .f32⟩
  | .hbm, ⟨33, _⟩ => ⟨S1x9216, .f32⟩
  | .hbm, ⟨34, _⟩ => ⟨S9216, .f32⟩
  | .hbm, ⟨35, _⟩ => ⟨S9216, .f32⟩
  | .hbm, ⟨36, _⟩ => ⟨S1x9216, .f32⟩
  | .hbm, ⟨37, _⟩ => ⟨S5x9216, .f32⟩
  | .hbm, ⟨38, _⟩ => ⟨S1x1024x9216, .f32⟩
  | .hbm, ⟨39, _⟩ => ⟨S1024x9216, .f32⟩
  | .hbm, ⟨40, _⟩ => ⟨S4x9216, .f32⟩
  | .hbm, ⟨41, _⟩ => ⟨S1x9216, .f32⟩
  | .hbm, ⟨42, _⟩ => ⟨S9216, .f32⟩
  | .hbm, ⟨43, _⟩ => ⟨S1x9216, .f32⟩
  | .hbm, ⟨44, _⟩ => ⟨S4x9216, .f32⟩
  | .hbm, ⟨45, _⟩ => ⟨S4x9216, .f32⟩
  | .hbm, ⟨46, _⟩ => ⟨S1x1024x9216, .f32⟩
  | .hbm, ⟨47, _⟩ => ⟨S1024x9216, .f32⟩
  | .hbm, ⟨48, _⟩ => ⟨S9216, .f32⟩
  | .hbm, ⟨49, _⟩ => ⟨S1x9216, .f32⟩
  | .hbm, ⟨50, _⟩ => ⟨S9216, .f32⟩
  | .hbm, ⟨51, _⟩ => ⟨S9216, .f32⟩
  | .hbm, ⟨52, _⟩ => ⟨S1x9216, .f32⟩
  | .hbm, ⟨53, _⟩ => ⟨S5x9216, .f32⟩
  | .hbm, ⟨54, _⟩ => ⟨S1x5x9216, .f32⟩
  | .hbm, ⟨55, _⟩ => ⟨S1x5x9216, .f32⟩
  | .hbm, ⟨56, _⟩ => ⟨S2x5x9216, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== KernelAttn.lean ====
abbrev S8 : Shape := ⟨1, ![8]⟩
abbrev S4x8448x512 : Shape := ⟨3, ![4, 8448, 512]⟩
abbrev S4x8448x128 : Shape := ⟨3, ![4, 8448, 128]⟩
abbrev S1x128x512 : Shape := ⟨3, ![1, 128, 512]⟩
abbrev S1x128x128 : Shape := ⟨3, ![1, 128, 128]⟩
abbrev S1x256x128 : Shape := ⟨3, ![1, 256, 128]⟩
abbrev S128x512 : Shape := ⟨2, ![128, 512]⟩
abbrev S256x128 : Shape := ⟨2, ![256, 128]⟩
abbrev S128x64 : Shape := ⟨2, ![128, 64]⟩
abbrev S512x64 : Shape := ⟨2, ![512, 64]⟩
abbrev S256x64 : Shape := ⟨2, ![256, 64]⟩
abbrev S512x256 : Shape := ⟨2, ![512, 256]⟩
abbrev S512x1 : Shape := ⟨2, ![512, 1]⟩
abbrev S1 : Shape := ⟨1, ![1]⟩
abbrev S512 : Shape := ⟨1, ![512]⟩
abbrev S512x384 : Shape := ⟨2, ![512, 384]⟩
abbrev S128x128 : Shape := ⟨2, ![128, 128]⟩
abbrev S384x64 : Shape := ⟨2, ![384, 64]⟩

abbrev nBuf : Space → Nat
  | .hbm => 5
  | .vmem => 20
  | .smem => 1
  | _ => 0

abbrev bufTy : (tb : Table) → Fin (tcTables nBuf tb) → BufTy
  | .hbm, ⟨0, _⟩ => ⟨S8, .f32⟩
  | .hbm, ⟨1, _⟩ => ⟨S4x8448x512, .bf16⟩
  | .hbm, ⟨2, _⟩ => ⟨S4x8448x128, .bf16⟩
  | .hbm, ⟨3, _⟩ => ⟨S4x8448x128, .bf16⟩
  | .hbm, ⟨4, _⟩ => ⟨S4x8448x512, .f32⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S1x128x128, .bf16⟩
  | .local _ .vmem, ⟨15, _⟩ => ⟨S1x128x128, .bf16⟩
  | .local _ .vmem, ⟨16, _⟩ => ⟨S1x256x128, .bf16⟩
  | .local _ .vmem, ⟨17, _⟩ => ⟨S1x256x128, .bf16⟩
  | .local _ .vmem, ⟨18, _⟩ => ⟨S1x128x512, .f32⟩
  | .local _ .vmem, ⟨19, _⟩ => ⟨S1x128x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 66], ![false, false]⟩

def k0_cond1 (i : grid0.Coords) : BitVec 1 :=
  let arg1 : BitVec 32 := BitVec.ofNat 32 (i 1).val
  let c2_i32 : BitVec 32 := 2#32
  let v6 : BitVec 1 := Scalar.cmpi .slt arg1 c2_i32
  let v7 : BitVec 32 := Scalar.extui v6
  let c0_i32 : BitVec 32 := 0#32
  let v8 : BitVec 1 := Scalar.cmpi .ne v7 c0_i32
  v8

def k0_cond2 (i : grid0.Coords) : BitVec 1 :=
  let arg1 : BitVec 32 := BitVec.ofNat 32 (i 1).val
  let c2_i32_8 : BitVec 32 := 2#32
  let v9 : BitVec 1 := Scalar.cmpi .sge arg1 c2_i32_8
  let v10 : BitVec 32 := Scalar.extui v9
  let c0_i32_9 : BitVec 32 := 0#32
  let v11 : BitVec 1 := Scalar.cmpi .ne v10 c0_i32_9
  v11

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let c65_i32 : BitVec 32 := 65#32
  let v1 : BitVec 32 := Scalar.maxsi c2_i32 v0
  let v2 : BitVec 32 := Scalar.minsi c65_i32 v1
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c65_i32 : BitVec 32 := 65#32
  let v1 : BitVec 32 := Scalar.maxsi c2_i32 v0
  let v2 : BitVec 32 := Scalar.minsi c65_i32 v1
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c2_i32 : BitVec 32 := 2#32
  let c65_i32 : BitVec 32 := 65#32
  let v1 : BitVec 32 := Scalar.maxsi c2_i32 v0
  let v2 : BitVec 32 := Scalar.minsi c65_i32 v1
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let c65_i32 : BitVec 32 := 65#32
  let v1 : BitVec 32 := Scalar.maxsi c2_i32 v0
  let v2 : BitVec 32 := Scalar.minsi c65_i32 v1
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelAttnIdeal.lean ====
variable {F : FTy → Type} [FloatOps F] [Named F]
def κ : String → Option EReal := fun
  | "mask" => some ⊥
  | _ => none
-- ==== ReferenceAttnIdeal.lean ====
abbrev S8 : Shape := ⟨1, ![8]⟩
abbrev S4x8448x512 : Shape := ⟨3, ![4, 8448, 512]⟩
abbrev S4x8448x128 : Shape := ⟨3, ![4, 8448, 128]⟩
abbrev S4x8448x2x4x64 : Shape := ⟨5, ![4, 8448, 2, 4, 64]⟩
abbrev S4x8448x2x64 : Shape := ⟨4, ![4, 8448, 2, 64]⟩
abbrev S4x2x8448x8448x4 : Shape := ⟨5, ![4, 2, 8448, 8448, 4]⟩
abbrev S4x2x4x8448x8448 : Shape := ⟨5, ![4, 2, 4, 8448, 8448]⟩
abbrev S8448x8448 : Shape := ⟨2, ![8448, 8448]⟩
abbrev S_ : Shape := ⟨0, ![]⟩
abbrev S1x2x4x1 : Shape := ⟨4, ![1, 2, 4, 1]⟩
abbrev S4x2x4x8448 : Shape := ⟨4, ![4, 2, 4, 8448]⟩
abbrev S4x2x4x8448x1 : Shape := ⟨5, ![4, 2, 4, 8448, 1]⟩
abbrev S4x2x64x4x8448 : Shape := ⟨5, ![4, 2, 64, 4, 8448]⟩

abbrev nBuf : Space → Nat
  | .hbm => 53
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x8448x512, .bf16⟩
  | .hbm, ⟨2, _⟩ => ⟨S4x8448x128, .bf16⟩
  | .hbm, ⟨3, _⟩ => ⟨S4x8448x128, .bf16⟩
  | .hbm, ⟨4, _⟩ => ⟨S4x8448x512, .f32⟩
  | .hbm, ⟨5, _⟩ => ⟨S4x8448x2x4x64, .f32⟩
  | .hbm, ⟨6, _⟩ => ⟨S4x8448x128, .f32⟩
  | .hbm, ⟨7, _⟩ => ⟨S4x8448x2x64, .f32⟩
  | .hbm, ⟨8, _⟩ => ⟨S4x8448x128, .f32⟩
  | .hbm, ⟨9, _⟩ => ⟨S4x8448x2x64, .f32⟩
  | .hbm, ⟨10, _⟩ => ⟨S4x2x8448x8448x4, .f32⟩
  | .hbm, ⟨11, _⟩ => ⟨S4x2x4x8448x8448, .f32⟩
  | .hbm, ⟨12, _⟩ => ⟨S8448x8448, .i32⟩
  | .hbm, ⟨13, _⟩ => ⟨S8448x8448, .i32⟩
  | .hbm, ⟨14, _⟩ => ⟨S_, .i32⟩
  | .hbm, ⟨15, _⟩ => ⟨S8448x8448, .i32⟩
  | .hbm, ⟨16, _⟩ => ⟨S8448x8448, .i1⟩
  | .hbm, ⟨17, _⟩ => ⟨S_, .i32⟩
  | .hbm, ⟨18, _⟩ => ⟨S8448x8448, .i32⟩
  | .hbm, ⟨19, _⟩ => ⟨S8448x8448, .i1⟩
  | .hbm, ⟨20, _⟩ => ⟨S8448x8448, .i32⟩
  | .hbm, ⟨21, _⟩ => ⟨S8448x8448, .i32⟩
  | .hbm, ⟨22, _⟩ => ⟨S_, .i32⟩
  | .hbm, ⟨23, _⟩ => ⟨S8448x8448, .i32⟩
  | .hbm, ⟨24, _⟩ => ⟨S8448x8448, .i1⟩
  | .hbm, ⟨25, _⟩ => ⟨S8448x8448, .i1⟩
  | .hbm, ⟨26, _⟩ => ⟨S8448x8448, .i1⟩
  | .hbm, ⟨27, _⟩ => ⟨S_, .f32⟩
  | .hbm, ⟨28, _⟩ => ⟨S_, .f32⟩
  | .hbm, ⟨29, _⟩ => ⟨S4x2x4x8448x8448, .i1⟩
  | .hbm, ⟨30, _⟩ => ⟨S4x2x4x8448x8448, .f32⟩
  | .hbm, ⟨31, _⟩ => ⟨S4x2x4x8448x8448, .f32⟩
  | .hbm, ⟨32, _⟩ => ⟨S1x2x4x1, .f32⟩
  | .hbm, ⟨33, _⟩ => ⟨S_, .f32⟩
  | .hbm, ⟨34, _⟩ => ⟨S4x2x4x8448, .f32⟩
  | .hbm, ⟨35, _⟩ => ⟨S4x2x4x8448, .f32⟩
  | .hbm, ⟨36, _⟩ => ⟨S4x2x4x8448, .f32⟩
  | .hbm, ⟨37, _⟩ => ⟨S4x2x4x8448x1, .f32⟩
  | .hbm, ⟨38, _⟩ => ⟨S4x2x4x8448x8448, .f32⟩
  | .hbm, ⟨39, _⟩ => ⟨S4x2x4x8448x8448, .f32⟩
  | .hbm, ⟨40, _⟩ => ⟨S4x2x4x8448x8448, .f32⟩
  | .hbm, ⟨41, _⟩ => ⟨S_, .f32⟩
  | .hbm, ⟨42, _⟩ => ⟨S4x2x4x8448, .f32⟩
  | .hbm, ⟨43, _⟩ => ⟨S4x2x4x8448, .f32⟩
  | .hbm, ⟨44, _⟩ => ⟨S4x2x4x8448, .f32⟩
  | .hbm, ⟨45, _⟩ => ⟨S4x2x4x8448, .f32⟩
  | .hbm, ⟨46, _⟩ => ⟨S4x2x4x8448, .f32⟩
  | .hbm, ⟨47, _⟩ => ⟨S4x2x4x8448x1, .f32⟩
  | .hbm, ⟨48, _⟩ => ⟨S4x2x4x8448x8448, .f32⟩
  | .hbm, ⟨49, _⟩ => ⟨S4x2x4x8448x8448, .f32⟩
  | .hbm, ⟨50, _⟩ => ⟨S4x2x64x4x8448, .f32⟩
  | .hbm, ⟨51, _⟩ => ⟨S4x8448x2x4x64, .f32⟩
  | .hbm, ⟨52, _⟩ => ⟨S4x8448x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Spec.lean ====
/-
  The mathematics of one feed-forward sublayer, one row at a time, over the extended reals: layer normalisation, the
  modulation by a shift and a scale, the SwiGLU, the gated residual and the final normalisation with gain and bias.
  No program is mentioned here: both programs' results are read as these functions in the other modules.
-/
module

public import Idealize.ShloMosaic.Lib.Pointwise
public import Idealize.ShloMosaic.Lib.IdealHost

@[expose] public section

noncomputable section

namespace Cert.Rows

open Idealize.ShloMosaic

/-- The number of entries of a row, 1024, as the float word both programs divide by. -/
abbrev width : EReal := Ideal.ofBits .f32 0x44800000#32
/-- The small constant under the square root of a layer normalisation, as its float word. -/
abbrev eps : EReal := Ideal.ofBits .f32 0x358637BD#32
/-- One half, as its float word. -/
abbrev half : EReal := Ideal.ofBits .f32 0x3F000000#32
/-- The residual's weight, the fourth root of four, as its float word. -/
abbrev alpha : EReal := Ideal.ofBits .f32 0x3FB504F3#32

/-- The mean of a row. -/
def mean (x : Fin 1024 → EReal) : EReal := Ideal.div (∑ k, x k) width

/-- A row normalised: its mean subtracted, divided by the square root of its variance plus `eps`. -/
def normalise (x : Fin 1024 → EReal) (j : Fin 1024) : EReal :=
  (x j - mean x) * Ideal.rsqrt (Ideal.div (∑ k, (x k - mean x) * (x k - mean x)) width + eps)

/-- A normalised row, scaled by `1 + scale` and shifted. -/
def modulated (x shift scale : Fin 1024 → EReal) (j : Fin 1024) : EReal :=
  normalise x j * (1 + scale j) + shift j

/-- The gate column `q` of the first weight matrix applied to a row. -/
def gatePart (w1 : Fin 1024 → Fin 5632 → EReal) (u : Fin 1024 → EReal) (q : Fin 2816) : EReal :=
  ∑ k, u k * w1 k ⟨q.val, by omega⟩

/-- The up column `q` of the first weight matrix, which stands in its second half, applied to a row. -/
def upPart (w1 : Fin 1024 → Fin 5632 → EReal) (u : Fin 1024 → EReal) (q : Fin 2816) : EReal :=
  ∑ k, u k * w1 k ⟨2816 + q.val, by omega⟩

/-- The hidden row of a SwiGLU: `silu(gate) · up`. -/
def hidden (w1 : Fin 1024 → Fin 5632 → EReal) (u : Fin 1024 → EReal) (q : Fin 2816) : EReal :=
  gatePart w1 u q * Ideal.logistic (gatePart w1 u q) * upPart w1 u q

/-- The SwiGLU of a row. -/
def swiglu (w1 : Fin 1024 → Fin 5632 → EReal) (w2 : Fin 2816 → Fin 1024 → EReal) (u : Fin 1024 → EReal) (j : Fin 1024) : EReal :=
  ∑ q, hidden w1 u q * w2 q j

/-- The residual row plus half the gate times the SwiGLU of the modulated row. -/
def residual (w1 : Fin 1024 → Fin 5632 → EReal) (w2 : Fin 2816 → Fin 1024 → EReal) (x shift scale gate : Fin 1024 → EReal)
    (j : Fin 1024) : EReal :=
  alpha * x j + half * gate j * swiglu w1 w2 (modulated x shift scale) j

/-- One row of the feed-forward sublayer's result. -/
def ffn (w1 : Fin 1024 → Fin 5632 → EReal) (w2 : Fin 2816 → Fin 1024 → EReal) (g b : Fin 1024 → EReal)
    (x shift scale gate : Fin 1024 → EReal) (j : Fin 1024) : EReal :=
  normalise (residual w1 w2 x shift scale gate) j * g j + b j

/-- The vector that belongs to token `n` of a stream: the first 256 tokens are the context's and take `c`, the others are the
    batch element's and take `l`. -/
def tokenRow (n : Nat) (c l : Fin 1024 → EReal) (k : Fin 1024) : EReal := if n < 256 then c k else l k

/-- Equal arguments give equal rows of the feed-forward sublayer. -/
theorem ffn_congr {w1 w1' : Fin 1024 → Fin 5632 → EReal} {w2 w2' : Fin 2816 → Fin 1024 → EReal}
    {g g' b b' x x' shift shift' scale scale' gate gate' : Fin 1024 → EReal} (h1 : ∀ k q, w1 k q = w1' k q) (h2 : ∀ q k, w2 q k = w2' q k)
    (hg : ∀ k, g k = g' k) (hb : ∀ k, b k = b' k) (hx : ∀ k, x k = x' k) (hs : ∀ k, shift k = shift' k)
    (hc : ∀ k, scale k = scale' k) (ht : ∀ k, gate k = gate' k) (j : Fin 1024) :
    ffn w1 w2 g b x shift scale gate j = ffn w1' w2' g' b' x' shift' scale' gate' j := by
  obtain rfl : w1 = w1' := funext fun k => funext (h1 k)
  obtain rfl : w2 = w2' := funext fun k => funext (h2 k)
  obtain rfl := funext hg
  obtain rfl := funext hb
  obtain rfl := funext hx
  obtain rfl := funext hs
  obtain rfl := funext hc
  obtain rfl := funext ht
  rfl

/-- Equal vectors give equal choices of a token's vector. -/
theorem tokenRow_congr {n n' : Nat} {c c' l l' : Fin 1024 → EReal} (hn : n = n') (hc : ∀ k, c k = c' k) (hl : ∀ k, l k = l' k)
    (k : Fin 1024) : tokenRow n c l k = tokenRow n' c' l' k := by
  obtain rfl := hn
  obtain rfl := funext hc
  obtain rfl := funext hl
  rfl

/-- The word of one half is the real one half. -/
theorem half_eq : half = ((1 / 2 : ℝ) : EReal) := by
  simp [half, Ideal.ofBits, Ideal.ieee, -EReal.coe_mul]; norm_num

/-- The logistic function by a hyperbolic tangent of half the argument, at every extended real. -/
theorem half_tanh (x : EReal) : half * Ideal.tanh (half * x) + half = Ideal.logistic x := by
  rw [half_eq]
  induction x with
  | bot =>
    rw [EReal.coe_mul_bot_of_pos (by norm_num : (0:ℝ) < 1 / 2), Ideal.tanh_bot, Ideal.logistic_bot]
    rw [show (-1 : EReal) = ((-1 : ℝ) : EReal) from (by rw [EReal.coe_neg, EReal.coe_one]), ← EReal.coe_mul, ← EReal.coe_add]
    norm_num
  | top =>
    rw [EReal.coe_mul_top_of_pos (by norm_num : (0:ℝ) < 1 / 2), Ideal.tanh_top, Ideal.logistic_top]
    rw [show (1 : EReal) = ((1 : ℝ) : EReal) by norm_cast, ← EReal.coe_mul, ← EReal.coe_add]
    norm_num
  | coe r =>
    rw [← EReal.coe_mul, Ideal.tanh_coe, ← EReal.coe_mul, ← EReal.coe_add, Ideal.logistic_coe]
    congr 1
    have e1 : 0 < Real.exp (1 / 2 * r) := Real.exp_pos _
    have e2 : Real.exp (-(1 / 2 * r)) = (Real.exp (1 / 2 * r))⁻¹ := Real.exp_neg _
    have e3 : Real.exp (-r) = (Real.exp (1 / 2 * r))⁻¹ * (Real.exp (1 / 2 * r))⁻¹ := by
      rw [← e2, ← Real.exp_add]; congr 1; ring
    rw [Real.tanh_eq_sinh_div_cosh, Real.sinh_eq, Real.cosh_eq, e2, e3]
    field_simp
    ring

/-- So `silu` by a hyperbolic tangent is `silu`. -/
theorem silu_half_tanh (x : EReal) : x * (half * Ideal.tanh (half * x) + half) = x * Ideal.logistic x := by
  rw [half_tanh]

/-- The host's expansion of `silu` spells the logistic function by its definition. -/
theorem logistic_eq (x : EReal) : Ideal.div 1 (1 + Ideal.exp (-x)) = Ideal.logistic x := rfl

end Cert.Rows

end
-- ==== Proof.Last.Block.lean ====
/-
  What one grid point of the kernel computes, read at an index of its block: each of the row's operations as the
  function of Spec.lean it is. The grid point's blocks are variables here.
-/
module

public import proofs.«01_k».proof.Proof.Gen.KernelIdeal.Skeleton
public import proofs.«01_k».proof.Proof.Spec
public import Idealize.ShloMosaic.Lib.Pipeline.ValueKit
public import Idealize.ShloMosaic.Lib.Tactic.WordOmega

@[expose] public section

set_option maxRecDepth 16384

noncomputable section

namespace Cert.KernelIdeal.Hand

open Cert.KernelIdeal Cert.KernelIdeal.Gen Idealize.ShloMosaic Idealize.ShloMosaic.TcCoe Idealize.SL.Sem

/-- Every row of a block lies behind the context rows, so the row test of the modulation is false everywhere. -/
theorem pay3_false (i : grid0.Coords) (r : Fin 1024) : k0_pay3 i (ix2 r 0) = 0#1 := by
  have h1 : (i 1).val < 8 := (i 1).isLt
  have hr := r.isLt
  pointwise [k0_pay3]
  generalize (i 1).val = a at h1 ⊢
  have ha : Scalar.addi 256#32 (Scalar.muli (BitVec.ofNat 32 a) 1024#32) = BitVec.ofNat 32 (256 + 1024 * a) := by
    interval_cases a <;> rfl
  rw [ha]
  word_omega

/-- The modulated rows of a block, entry by entry. -/
theorem pay8_apply (i : grid0.Coords) (x0 : Vec Ideal S1x1024x1024 .f32) (c6 l6 c7 l7 : Vec Ideal S1x1x1024 .f32) (r k : Fin 1024) :
    k0_pay8 (k0_pay2 x0) (k0_pay4 i c6 l6) (k0_pay5 i c7 l7) (ix2 r k)
      = Rows.modulated (fun k => x0 (ix3 0 r k)) (fun k => l6 (ix3 0 0 k)) (fun k => l7 (ix3 0 0 k)) k := by
  have h3 := pay3_false i r
  pointwise [k0_pay8, k0_pay2, k0_pay4, k0_pay5]
  rw [h3, ValueIdx.select_zero, ValueIdx.select_zero]
  rfl

/-- One chunk of the hidden rows: `silu(gate) · up` of the row's products with 256 columns. -/
theorem pay11_apply (u : FVec Ideal S1024x1024 .bf16) (wg wu : Vec Ideal S1024x256 .bf16) (r : Fin 1024) (q : Fin 256) :
    k0_pay11 u wg wu (ix2 r q)
      = (∑ k : Fin 1024, u (ix2 r k) * wg (ix2 k q)) * Ideal.logistic (∑ k : Fin 1024, u (ix2 r k) * wg (ix2 k q))
        * ∑ k : Fin 1024, u (ix2 r k) * wu (ix2 k q) := by
  pointwise [k0_pay11]
  rw [Rows.silu_half_tanh]

section Chunks

variable (u : FVec Ideal S1024x1024 .bf16) (wg wu : Vec Ideal S1024x256 .bf16)

/-! The eleven chunks are one function of their two weight blocks, whatever names the cut of the body gave its parts. -/

/-- Chunk 0 as that function. -/
theorem chunk0 (v1 : Vec Ideal S1024x1024 .f32) (sc sh : FVec Ideal S1024x1024 .f32) :
    k0_pay10 (k0_pay9 v1 sc sh wg wu) = k0_pay11 (k0_pay8 v1 sc sh) wg wu := rfl
/-- Chunk 2 as that function. -/
theorem chunk2 : k0_pay14 (k0_pay12 u wu) (k0_pay13 u wg) = k0_pay11 u wg wu := rfl
/-- Chunk 3 as that function. -/
theorem chunk3 : k0_pay15 u wg wu = k0_pay11 u wg wu := rfl
/-- Chunk 4 as that function. -/
theorem chunk4 : k0_pay20 (k0_pay16 u wg) (k0_pay17 u wu) (k0_pay18 u wg) k0_pay19 = k0_pay11 u wg wu := rfl
/-- Chunk 5 as that function. -/
theorem chunk5 : k0_pay21 u wg wu = k0_pay11 u wg wu := rfl
/-- Chunk 6 as that function. -/
theorem chunk6 : k0_pay25 (k0_pay22 u wg) (k0_pay23 u wu) (k0_pay24 u wg) = k0_pay11 u wg wu := rfl
/-- Chunk 7 as that function. -/
theorem chunk7 : k0_pay26 u wg wu = k0_pay11 u wg wu := rfl
/-- Chunk 8 as that function. -/
theorem chunk8 : k0_pay30 (k0_pay27 u wg) (k0_pay28 u wu) (k0_pay29 u wg) (Scalar.ofBits .f32 0x3F000000#32) = k0_pay11 u wg wu := rfl
/-- Chunk 9 as that function. -/
theorem chunk9 : k0_pay31 u wg wu = k0_pay11 u wg wu := rfl
/-- Chunk 10 as that function. -/
theorem chunk10 : k0_pay35 (k0_pay32 u wg) (k0_pay33 u wu) (k0_pay34 u wg) = k0_pay11 u wg wu := rfl

end Chunks

/-- The same chunk as hidden columns, given that the columns of its two weight blocks are the gate's and the up part's at `q`. -/
theorem chunk (w1 : Fin 1024 → Fin 5632 → EReal) (U : Fin 1024 → EReal) (u : FVec Ideal S1024x1024 .bf16)
    (wg wu : Vec Ideal S1024x256 .bf16) (r : Fin 1024) (x : Fin 256) (q : Fin 2816) (hu : ∀ k : Fin 1024, u (ix2 r k) = U k)
    (hg : ∀ k : Fin 1024, wg (ix2 k x) = w1 k ⟨q.val, by omega⟩) (hp : ∀ k : Fin 1024, wu (ix2 k x) = w1 k ⟨2816 + q.val, by omega⟩) :
    k0_pay11 u wg wu (ix2 r x) = Rows.hidden w1 U q := by
  rw [pay11_apply]
  simp only [hu, hg, hp]
  rfl

/-- The gate rows of a block: the latent rows' own. -/
theorem pay7_apply (i : grid0.Coords) (c8 l8 : Vec Ideal S1x1x1024 .f32) (r k : Fin 1024) :
    k0_pay7 (k0_pay3 i) (k0_pay6 c8) l8 (ix2 r k) = l8 (ix3 0 0 k) := by
  have h3 := pay3_false i r
  pointwise [k0_pay7, k0_pay6]
  rw [h3, ValueIdx.select_zero]

/-- The block a grid point stores, given that the scratch holds the hidden rows: the sublayer's rows. -/
theorem out_apply (i : grid0.Coords) (w1 : Fin 1024 → Fin 5632 → EReal) (x0 : Vec Ideal S1x1024x1024 .f32)
    (shift scale : Fin 1024 → EReal) (c8 l8 : Vec Ideal S1x1x1024 .f32) (w2 : Vec Ideal S2816x1024 .bf16) (g b : Vec Ideal S1x1024 .f32)
    (h : FVec Ideal S1024x2816 .bf16)
    (hh : ∀ (r : Fin 1024) (q : Fin 2816), h (ix2 r q) = Rows.hidden w1
      (Rows.modulated (fun k => x0 (ix3 0 r k)) shift scale) q)
    (r k : Fin 1024) :
    k0_pay1 (k0_pay36 (k0_pay2 x0) (k0_pay7 (k0_pay3 i) (k0_pay6 c8) l8) h w2 g) b (ix3 0 r k)
      = Rows.ffn w1 (fun q k => w2 (ix2 q k)) (fun k => g (ix2 0 k)) (fun k => b (ix2 0 k))
        (fun k => x0 (ix3 0 r k)) shift scale (fun k => l8 (ix3 0 0 k)) k := by
  have h7 := pay7_apply i c8 l8 r
  generalize k0_pay7 (k0_pay3 i) (k0_pay6 c8) l8 = gate at h7 ⊢
  pointwise [k0_pay1, k0_pay36, k0_pay2]
  simp only [hh, h7]
  rfl

end Cert.KernelIdeal.Hand

end
-- ==== Proof.Last.KernelValue.lean ====
/-
  What the kernel's result array holds after the run: at every batch, row and column the sublayer's row function of the
  arguments.
-/
module

public import proofs.«01_k».proof.Proof.Gen.KernelIdeal.Value
public import proofs.«01_k».proof.Proof.Last.Block

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 1024 rows; the input tile starts 256 rows
    further down than the output tile. -/
theorem idx : ∀ t : Fin cfg0.N,
    win0_0.index t = ![t.val / 8, 256 + 1024 * (t.val % 8), 0] ∧ win0_1.index t = ![t.val / 8, 0, 0] ∧ win0_3.index t = ![0, 0]
      ∧ win0_4.index t = ![0, 0] ∧ win0_5.index t = ![0, 0] ∧ win0_6.index t = ![0, 0]
      ∧ win0_7.index t = ![t.val / 8, t.val % 8, 0] ∧ t.val / 8 < 4 :=
  (by decide +kernel : ∀ t : Fin grid0.N, _)

/-- The result array as a function of the arguments. -/
def result (x : FVec Ideal S4x8448x1024 .f32) (md : FVec Ideal S5x9216 .f32) (w1 : FVec Ideal S1024x5632 .f32)
    (w2 : FVec Ideal S2816x1024 .f32) (g b : FVec Ideal S1024 .f32) (bt : Fin 4) (r : Fin 8192) (k : Fin 1024) : EReal :=
  Rows.ffn (fun k q => w1 (ix2 k q)) (fun q k => w2 (ix2 q k)) (fun k => g (ix1 k)) (fun k => b (ix1 k))
    (fun k => x (ix3 bt ⟨256 + r.val, by omega⟩ k))
    (fun k => md (ix2 ⟨bt.val, by omega⟩ ⟨6144 + k.val, by omega⟩))
    (fun k => md (ix2 ⟨bt.val, by omega⟩ ⟨7168 + k.val, by omega⟩))
    (fun k => md (ix2 ⟨bt.val, by omega⟩ ⟨8192 + k.val, by omega⟩)) k

section Reads

variable (c : Dev nD) (t : Fin cfg0.N)

/-- The block of the token stream, 256 rows further down than the output block. -/
theorem read0 (bt : Fin 4) (ti : Fin 8) (hb : bt.val = t.val / 8) (hi : ti.val = t.val % 8) (r k : Fin 1024) :
    (iblk m c 0 t : Vec Ideal S1x1024x1024 .f32) (ix3 0 r k)
      = m ((c : Thread nD τ).loc main_arg0) (ix3 bt ⟨256 + (1024 * ti.val + r.val), by omega⟩ k) := by
  blk_simp [iblk, V]
  have h := (idx t).1
  refine congrArg _ (funext fun a => Fin.ext ?_)
  refine (Pipeline.Window.rect_emb_val_off win0_0 t (ix3 0 r k) a).trans ?_
  change win0_0.index t a + _ = _
  rw [h]
  fin_cases a <;> simp <;> omega

/-- The block of the batch element's modulation vectors. -/
theorem read1 (bt : Fin 4) (hb : bt.val = t.val / 8) (s : Fin 9) (k : Fin 1024) :
    (iblk m c 1 t : Vec Ideal S1x9x1024 .f32) (ix3 0 s k)
      = m ((c : Thread nD τ).loc main_arg1) (ix2 ⟨bt.val, by omega⟩ ⟨1024 * s.val + k.val, by omega⟩) := by
  blk_point [iblk, V, idx t]

/-- The first weight matrix. -/
theorem read3 (k : Fin 1024) (q : Fin 5632) : (iblk m c 3 t : Vec Ideal S1024x5632 .bf16) (ix2 k q)
    = m ((c : Thread nD τ).loc main_arg2) (ix2 k q) := by
  blk_point [iblk, V, idx t]

/-- The second weight matrix. -/
theorem read4 (q : Fin 2816) (k : Fin 1024) : (iblk m c 4 t : Vec Ideal S2816x1024 .bf16) (ix2 q k)
    = m ((c : Thread nD τ).loc main_arg3) (ix2 q k) := by
  blk_point [iblk, V, idx t]

/-- The gain. -/
theorem read5 (k : Fin 1024) : (iblk m c 5 t : Vec Ideal S1x1024 .f32) (ix2 0 k) = m ((c : Thread nD τ).loc main_arg4) (ix1 k) := by
  blk_point [iblk, V, idx t]

/-- The bias. -/
theorem read6 (k : Fin 1024) : (iblk m c 6 t : Vec Ideal S1x1024 .f32) (ix2 0 k) = m ((c : Thread nD τ).loc main_arg5) (ix1 k) := by
  blk_point [iblk, V, idx t]

end Reads

/-- After the run the result array holds the sublayer's rows. -/
theorem final (c : Dev nD) : (dats m 0 c).arrAt 7 (cfgs 0).N
    = fun i : S4x8192x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2) := by
  refine (dats m 0 c).arrAt_eq_of_covers 7 _ (by decide +kernel) fun t _ y => ?_
  blk_simp
  rw [after0_7]
  unfold outsAt0
  frame_out
  idx_vars y
  obtain rfl : y0 = 0 := Subsingleton.elim _ _
  refine (out_apply (grid0.coords t) (fun k q => (iblk m c 3 t : Vec Ideal S1024x5632 .bf16) (ix2 k q)) _
    (fun k => (iblk m c 1 t : Vec Ideal S1x9x1024 .f32) (ix3 0 6 k)) (fun k => (iblk m c 1 t : Vec Ideal S1x9x1024 .f32) (ix3 0 7 k))
    _ _ _ _ _ _ (fun r q => ?_) _ _).trans ?_
  · rw [View.readCov_eq_canon']
    have hy : (Rect.unit (s := S1024x2816) ![0, 0] S1024x2816.size inb_S1024x2816_S1024x2816_0_0).idx (ix2 r q) = ix2 r q := by
      funext a
      apply Fin.ext
      rw [Rect.idx_unit_val]
      fin_cases a <;> simp
    refine (congrArg (View.canon _) hy).trans ?_
    canon_tiles x h
    all_goals
      idx_vars x
      obtain rfl : r = x0 := Fin.ext h0
      replace h1 : q.val = _ := h1
      try simp only [chunk0, chunk2, chunk3, chunk4, chunk5, chunk6, chunk7, chunk8, chunk9, chunk10]
      refine chunk _ _ _ _ _ r x1 q (fun k => (pay8_apply (grid0.coords t) (iblk m c 0 t) _ _ _ _ r k).trans ?_) (fun k => ?_) (fun k => ?_)
      · refine congrArg₂ (fun a b => Rows.modulated _ a b k) (funext fun k => ?_) (funext fun k => ?_) <;> pointwise
      · pointwise
        refine congrArg (fun i => (iblk m c 3 t : Vec Ideal S1024x5632 .bf16) (ix2 k i)) (Fin.ext ?_)
        simp only [h1]
        try omega
      · pointwise
        refine congrArg (fun i => (iblk m c 3 t : Vec Ideal S1024x5632 .bf16) (ix2 k i)) (Fin.ext ?_)
        simp only [h1]
        try omega
  · obtain ⟨bt, hb⟩ : ∃ bt : Fin 4, bt.val = t.val / 8 := ⟨⟨t.val / 8, (idx t).2.2.2.2.2.2.2⟩, rfl⟩
    obtain ⟨ti, hi⟩ : ∃ ti : Fin 8, ti.val = t.val % 8 := ⟨⟨t.val % 8, Nat.mod_lt _ (by decide)⟩, rfl⟩
    have hy : ((cfg0.win 7).blk t).view.emb (ix3 0 y1 y2) = ix3 bt ⟨1024 * ti.val + y1.val, by omega⟩ y2 := by
      blk_ext [idx t]
    refine Eq.trans ?_ (congrArg (fun i : S4x8192x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2)) hy).symm
    simp only [read0 m c t bt ti hb hi, read1 m c t bt hb, read3, read4, read5, read6]
    unfold result
    refine congrArg (fun l => Rows.ffn _ _ _ _ _ _ _ l y2) (funext fun k => Eq.trans ?_ (read1 m c t bt hb 8 k))
    pointwise

end Cert.KernelIdeal.Hand

end
-- ==== Proof.Last.RefValue.lean ====
/-
  What the reference computes, read at an index: the same row functions.
-/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read Idealize.ShloMosaic Idealize.ShloMosaic.TcCoe

variable (x : FVec Ideal S4x8448x1024 .f32) (md : FVec Ideal S5x9216 .f32) (w1 : FVec Ideal S1024x5632 .f32)
  (w2 : FVec Ideal S2816x1024 .f32) (g b : FVec Ideal S1024 .f32)

/-- Row `r` of the latent rows of batch `bt`, which stand behind 256 context rows. -/
abbrev row (bt : Fin 4) (r : Fin 8192) (k : Fin 1024) : EReal := x (ix3 bt ⟨256 + r.val, by omega⟩ k)

/-- The latent modulation vector that starts at column `o`. -/
abbrev modRow (o : Nat) (ho : o + 1024 ≤ 9216) (bt : Fin 4) (k : Fin 1024) : EReal :=
  md (ix2 ⟨bt.val, by omega⟩ ⟨o + k.val, by omega⟩)

/-- The modulated rows. -/
theorem modulated_apply (bt : Fin 4) (r : Fin 8192) (k : Fin 1024) :
    val_main_v35 (F := Ideal) x md (ix3 bt r k)
      = Rows.modulated (row x bt r) (modRow md 6144 (by decide) bt) (modRow md 7168 (by decide) bt) k := by
  pointwise [val_main_v0, val_main_v1, val_main_v2, val_main_v9, val_main_v10, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_cst, val_main_cst_0, val_main_cst_1, val_main_cst_2, val_main_cst_3, val_main_cst_4]
  rfl

/-- The gated residual. -/
theorem residual_apply (bt : Fin 4) (r : Fin 8192) (k : Fin 1024) :
    val_main_v48 (F := Ideal) x md w1 w2 (ix3 bt r k)
      = Rows.residual (fun k q => w1 (ix2 k q)) (fun q k => w2 (ix2 q k)) (row x bt r) (modRow md 6144 (by decide) bt)
          (modRow md 7168 (by decide) bt) (modRow md 8192 (by decide) bt) k := by
  pointwise [val_main_v0, val_main_v1, val_main_v2, val_main_v11, val_main_v36, val_main_v37, val_main_v38, val_main_v39, val_main_v40, val_main_v41, val_main_v42, val_main_v43, val_main_v44, val_main_v45, val_main_v46, val_main_v47, val_main_v48, val_main_cst_5, val_main_cst_6, val_main_call0_v0, val_main_call0_v1, val_main_call0_v2, val_main_call0_v3, val_main_call0_v4, val_main_call0_v5, val_main_call0_cst, val_main_call0_cst_0]
  simp only [modulated_apply]
  rfl

/-- The sublayer's result. -/
theorem ffn_apply (bt : Fin 4) (r : Fin 8192) (k : Fin 1024) :
    val_main_v72 (F := Ideal) x md w1 w2 g b (ix3 bt r k)
      = Rows.ffn (fun k q => w1 (ix2 k q)) (fun q k => w2 (ix2 q k)) (fun k => g (ix1 k)) (fun k => b (ix1 k)) (row x bt r)
          (modRow md 6144 (by decide) bt) (modRow md 7168 (by decide) bt) (modRow md 8192 (by decide) bt) k := by
  pointwise [val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_cst_7, val_main_cst_8, val_main_cst_9, val_main_cst_10, val_main_cst_11]
  simp only [residual_apply]
  rfl

end Cert.ReferenceIdeal.Hand

end
-- ==== Proof.Last.Equation.lean ====
/-
  The last feed-forward sublayer: the kernel's array is the reference's result, and the two programs' claims.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Last.KernelValue
public import proofs.«01_k».proof.Proof.Last.RefValue
public import Idealize.ShloMosaic.Lib.Claim

@[expose] public section

noncomputable section

namespace Cert.Proof.Last

open Idealize.ShloMosaic Idealize.ShloMosaic.TcCoe Idealize.SL.Sem

/-- The array the kernel leaves is the reference's result. -/
theorem result_eq (m : (ℓ : Loc KernelIdeal.nD KernelIdeal.τ KernelIdeal.sig) → Buf (Elt Ideal) ℓ) (c : Dev KernelIdeal.nD) :
    (KernelIdeal.Gen.dats m 0 c).arrAt 7 KernelIdeal.cfg0.N
      = ReferenceIdeal.Read.val_main_v72 (F := Ideal) (m ((c.tc : Thread KernelIdeal.nD KernelIdeal.τ).loc KernelIdeal.main_arg0))
          (m ((c.tc : Thread KernelIdeal.nD KernelIdeal.τ).loc KernelIdeal.main_arg1))
          (m ((c.tc : Thread KernelIdeal.nD KernelIdeal.τ).loc KernelIdeal.main_arg2))
          (m ((c.tc : Thread KernelIdeal.nD KernelIdeal.τ).loc KernelIdeal.main_arg3))
          (m ((c.tc : Thread KernelIdeal.nD KernelIdeal.τ).loc KernelIdeal.main_arg4))
          (m ((c.tc : Thread KernelIdeal.nD KernelIdeal.τ).loc KernelIdeal.main_arg5)) := by
  refine (KernelIdeal.Hand.final m c).trans (funext fun i => ?_)
  idx_vars i
  exact (ReferenceIdeal.Hand.ffn_apply _ _ _ _ _ _ _ _ _).symm

/-- The idealized kernel computes what the idealized reference computes. -/
theorem algebraic : algebraic_KernelIdeal_ReferenceIdeal (hKernelIdeal := KernelIdeal.Gen.facts) (hReferenceIdeal := ReferenceIdeal.Gen.facts) := by
  pair_intro
  · run_from KernelIdeal.Value.run_blocks m g
  · run_from ReferenceIdeal.Value.run m' g'
    obtain ⟨a0, a1, a2, a3, a4, a5⟩ := hagree c
    rw [result_eq, ReferenceIdeal.Read.val_main_v72_eq]
    exact congr (congr (congr (congr (congrArg₂ _ a0 a1) a2) a3) a4) a5

/-- The reference terminates, its arguments unchanged. -/
theorem quiescent_reference : quiescent_ReferenceIdeal (hReferenceIdeal := ReferenceIdeal.Gen.facts) := by
  intro m g _
  exact (θ_run ReferenceIdeal.defs _ _).mono (fun r h => ⟨fun c => (h c).2, sem_eq_zero_of_no_sems (by decide) r.2⟩)
    (ReferenceIdeal.Value.run (F := Ideal) m g)

end Cert.Proof.Last

end
-- ==== Proof.First.Block.lean ====
/-
  The first feed-forward sublayer: what one grid point computes, read at an index of its block, as the row functions of
  Spec.lean. A block holds 768 tokens; the first block of a batch element puts the 256 context tokens in front of the
  first 512 latent ones, the others hold latent tokens only.
-/
module

public import proofs.«01_k».proof.Proof.Gen.KernelFirstIdeal.Skeleton
public import proofs.«01_k».proof.Proof.Spec
public import Idealize.ShloMosaic.Lib.Pipeline.ValueKit
public import Idealize.ShloMosaic.Lib.Tactic.WordOmega

@[expose] public section

set_option maxRecDepth 16384

noncomputable section

namespace Cert.KernelFirstIdeal.Hand

open Cert.KernelFirstIdeal Cert.KernelFirstIdeal.Gen Idealize.ShloMosaic Idealize.ShloMosaic.TcCoe Idealize.SL.Sem

/-- The row test of the modulation: whether the token stands among the first 256. -/
theorem pay3_apply (i : grid0.Coords) (r : Fin 768) :
    k0_pay3 i (ix2 r 0) = if 768 * (i 1).val + r.val < 256 then 1#1 else 0#1 := by
  have h1 : (i 1).val < 11 := (i 1).isLt
  have hr := r.isLt
  pointwise [k0_pay3]
  generalize (i 1).val = a at h1 ⊢
  have ha : Scalar.muli (BitVec.ofNat 32 a) 768#32 = BitVec.ofNat 32 (768 * a) := by
    interval_cases a <;> rfl
  rw [ha]
  split <;> word_omega

/-- A choice by the row test is the token's own vector. -/
theorem select_row (i : grid0.Coords) (r : Fin 768) (c l : Fin 1024 → EReal) (k : Fin 1024) :
    Scalar.select (k0_pay3 i (ix2 r 0)) (c k) (l k) = Rows.tokenRow (768 * (i 1).val + r.val) c l k := by
  rw [pay3_apply]
  unfold Rows.tokenRow
  split
  · rfl
  · rfl

/-- The token rows of a block: the first tile holds the context tokens and the first latent ones, which the input window
    starts with, and any other tile is the input window. -/
def tokens (i : grid0.Coords) (x0 : Vec Ideal S1x768x1024 .f32) (x1 : Vec Ideal S1x256x1024 .f32) (r : Fin 768) (k : Fin 1024) : EReal :=
  if (i 1).val = 0 then if h : r.val < 256 then x1 (ix3 0 ⟨r.val, h⟩ k) else x0 (ix3 0 ⟨r.val - 256, by omega⟩ k) else x0 (ix3 0 r k)

/-- The block of tokens the kernel puts together is that. -/
theorem pay2_apply (i : grid0.Coords) (x0 : Vec Ideal S1x768x1024 .f32) (x1 : Vec Ideal S1x256x1024 .f32) (r : Fin 768) (k : Fin 1024) :
    k0_pay2 i x0 x1 (ix2 r k) = tokens i x0 x1 r k := by
  have h1 : (i 1).val < 11 := (i 1).isLt
  have hs : Scalar.cmpi .eq (BitVec.ofNat 32 (i 1).val) 0#32 = if (i 1).val = 0 then 1#1 else 0#1 := by
    generalize (i 1).val = a at h1 ⊢
    interval_cases a <;> rfl
  unfold tokens
  pointwise [k0_pay2]
  rw [hs]
  split
  · exact ValueIdx.select_one _ _
  · exact ValueIdx.select_zero _ _

/-- The modulated rows of a block, entry by entry. -/
theorem modulated_apply (i : grid0.Coords) (x : FVec Ideal S768x1024 .f32) (X : Fin 1024 → EReal) (c6 l6 c7 l7 : Vec Ideal S1x1x1024 .f32)
    (r : Fin 768) (hX : ∀ k : Fin 1024, x (ix2 r k) = X k) (k : Fin 1024) :
    k0_pay7 x (k0_pay4 i c6 l6) (k0_pay5 i c7 l7) (ix2 r k)
      = Rows.modulated X
          (Rows.tokenRow (768 * (i 1).val + r.val) (fun k => c6 (ix3 0 0 k)) (fun k => l6 (ix3 0 0 k)))
          (Rows.tokenRow (768 * (i 1).val + r.val) (fun k => c7 (ix3 0 0 k)) (fun k => l7 (ix3 0 0 k))) k := by
  have h6 := select_row i r (fun k => c6 (ix3 0 0 k)) (fun k => l6 (ix3 0 0 k)) k
  have h7 := select_row i r (fun k => c7 (ix3 0 0 k)) (fun k => l7 (ix3 0 0 k)) k
  pointwise [k0_pay7, k0_pay4, k0_pay5]
  simp only [hX]
  unfold Rows.modulated
  rw [← h6, ← h7]
  rfl

/-- One chunk of the hidden rows: `silu(gate) · up` of the row's products with 256 columns. -/
theorem pay12_apply (u : FVec Ideal S768x1024 .bf16) (wg wu : Vec Ideal S1024x256 .bf16) (r : Fin 768) (q : Fin 256) :
    k0_pay12 u wg wu (ix2 r q)
      = (∑ k : Fin 1024, u (ix2 r k) * wg (ix2 k q)) * Ideal.logistic (∑ k : Fin 1024, u (ix2 r k) * wg (ix2 k q))
        * ∑ k : Fin 1024, u (ix2 r k) * wu (ix2 k q) := by
  pointwise [k0_pay12]
  rw [Rows.silu_half_tanh]

section Chunks

variable (u : FVec Ideal S768x1024 .bf16) (wg wu : Vec Ideal S1024x256 .bf16)

/-! The eleven chunks are one function of their two weight blocks, whatever names the cut of the body gave its parts. -/

/-- Chunk 0 as that function. -/
theorem chunk0 (v1 sh sc : FVec Ideal S768x1024 .f32) :
    k0_pay11 (k0_pay8 v1 sh sc wg) (k0_pay9 v1 sh sc wu) (k0_pay10 v1 sh sc wg) (Scalar.ofBits .f32 0x3F000000#32)
      = k0_pay12 (k0_pay7 v1 sh sc) wg wu := rfl
/-- Chunk 2 as that function. -/
theorem chunk2 : k0_pay16 (k0_pay13 u wg) (k0_pay14 u wu) (k0_pay15 u wg) = k0_pay12 u wg wu := rfl
/-- Chunk 3 as that function. -/
theorem chunk3 : k0_pay17 u wg wu = k0_pay12 u wg wu := rfl
/-- Chunk 4 as that function. -/
theorem chunk4 : k0_pay20 (k0_pay18 u wg) (k0_pay19 u wu) (Scalar.ofBits .f32 0x3F000000#32) = k0_pay12 u wg wu := rfl
/-- Chunk 5 as that function. -/
theorem chunk5 : k0_pay21 u wg wu = k0_pay12 u wg wu := rfl
/-- Chunk 6 as that function. -/
theorem chunk6 : k0_pay24 u (k0_pay22 u wg) (k0_pay23 wu) (constant S768x256 .f32 0x00000000#32) = k0_pay12 u wg wu := rfl
/-- Chunk 7 as that function. -/
theorem chunk7 : k0_pay25 u wg wu = k0_pay12 u wg wu := rfl
/-- Chunk 8 as that function. -/
theorem chunk8 : k0_pay27 u (k0_pay26 u wg) wu = k0_pay12 u wg wu := rfl
/-- Chunk 9 as that function. -/
theorem chunk9 : k0_pay28 u wg wu = k0_pay12 u wg wu := rfl
/-- Chunk 10 as that function. -/
theorem chunk10 : k0_pay30 u (k0_pay29 u wg) wu = k0_pay12 u wg wu := rfl

end Chunks

/-- The same chunk as hidden columns, given that the columns of its two weight blocks are the gate's and the up part's at `q`. -/
theorem chunk (w1 : Fin 1024 → Fin 5632 → EReal) (U : Fin 1024 → EReal) (u : FVec Ideal S768x1024 .bf16)
    (wg wu : Vec Ideal S1024x256 .bf16) (r : Fin 768) (x : Fin 256) (q : Fin 2816) (hu : ∀ k : Fin 1024, u (ix2 r k) = U k)
    (hg : ∀ k : Fin 1024, wg (ix2 k x) = w1 k ⟨q.val, by omega⟩) (hp : ∀ k : Fin 1024, wu (ix2 k x) = w1 k ⟨2816 + q.val, by omega⟩) :
    k0_pay12 u wg wu (ix2 r x) = Rows.hidden w1 U q := by
  rw [pay12_apply]
  simp only [hu, hg, hp]
  rfl

/-- The gate rows of a block. -/
theorem gate_apply (i : grid0.Coords) (c8 l8 : Vec Ideal S1x1x1024 .f32) (r : Fin 768) (k : Fin 1024) :
    k0_pay6 (k0_pay3 i) c8 l8 (ix2 r k)
      = Rows.tokenRow (768 * (i 1).val + r.val) (fun k => c8 (ix3 0 0 k)) (fun k => l8 (ix3 0 0 k)) k := by
  have h8 := select_row i r (fun k => c8 (ix3 0 0 k)) (fun k => l8 (ix3 0 0 k)) k
  pointwise [k0_pay6]
  exact h8

/-- The block a grid point stores, given that the scratch holds the hidden rows: the sublayer's rows. -/
theorem out_apply (i : grid0.Coords) (w1 : Fin 1024 → Fin 5632 → EReal) (x : FVec Ideal S768x1024 .f32) (X : Fin 1024 → EReal)
    (c8 l8 : Vec Ideal S1x1x1024 .f32) (w2 : Vec Ideal S2816x1024 .bf16) (g b : Vec Ideal S1x1024 .f32)
    (h : FVec Ideal S768x2816 .bf16) (r : Fin 768) (k : Fin 1024) (shift scale : Fin 1024 → EReal)
    (hX : ∀ k : Fin 1024, x (ix2 r k) = X k)
    (hh : ∀ q : Fin 2816, h (ix2 r q) = Rows.hidden w1 (Rows.modulated X shift scale) q) :
    k0_pay1 (k0_pay31 x (k0_pay6 (k0_pay3 i) c8 l8) h w2) (k0_pay32 x (k0_pay6 (k0_pay3 i) c8 l8) h w2) g b (ix3 0 r k)
      = Rows.ffn w1 (fun q k => w2 (ix2 q k)) (fun k => g (ix2 0 k)) (fun k => b (ix2 0 k)) X shift scale
        (Rows.tokenRow (768 * (i 1).val + r.val) (fun k => c8 (ix3 0 0 k)) (fun k => l8 (ix3 0 0 k))) k := by
  have h7 := gate_apply i c8 l8 r
  generalize k0_pay6 (k0_pay3 i) c8 l8 = gate at h7 ⊢
  pointwise [k0_pay1, k0_pay31, k0_pay32]
  simp only [hh, h7, hX]
  rfl

end Cert.KernelFirstIdeal.Hand

end
-- ==== Proof.First.KernelValue.lean ====
/-
  The first feed-forward sublayer: what the kernel's result array holds after the run, at every batch, token
  and column the sublayer's row function of the arguments.
-/
module

public import proofs.«01_k».proof.Proof.Gen.KernelFirstIdeal.Value
public import proofs.«01_k».proof.Proof.First.Block

@[expose] public section

set_option maxRecDepth 16384

noncomputable section

namespace Cert.KernelFirstIdeal.Hand

open Cert.KernelFirstIdeal Cert.KernelFirstIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 768 tokens; the input window starts 256 rows
    before the tile, or at the first row. -/
theorem idx : ∀ t : Fin cfg0.N,
    win0_0.index t = ![t.val / 11, 768 * (t.val % 11) - 256, 0] ∧ win0_1.index t = ![t.val / 11, 0, 0]
      ∧ win0_2.index t = ![t.val / 11, 0, 0] ∧ win0_3.index t = ![4, 0, 0] ∧ win0_4.index t = ![0, 0] ∧ win0_5.index t = ![0, 0]
      ∧ win0_6.index t = ![0, 0] ∧ win0_7.index t = ![0, 0]
      ∧ win0_8.index t = ![t.val / 11, t.val % 11, 0] ∧ t.val / 11 < 4 ∧ (grid0.coords t 1).val = t.val % 11 :=
  (by decide +kernel : ∀ t : Fin grid0.N, _)

/-- The row of token `r` of batch `bt`: the context's 256 tokens come first, the latent tokens after them. -/
abbrev inRow (x : FVec Ideal S4x8192x1024 .f32) (cx : FVec Ideal S4x256x1024 .f32) (bt : Fin 4) (r : Fin 8448) (k : Fin 1024) : EReal :=
  if h : r.val < 256 then cx (ix3 bt ⟨r.val, h⟩ k) else x (ix3 bt ⟨r.val - 256, by omega⟩ k)

/-- The modulation vector of token `r` of batch `bt` that starts at column `o`. -/
abbrev modRow (md : FVec Ideal S5x9216 .f32) (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The result array as a function of the arguments. -/
def result (x : FVec Ideal S4x8192x1024 .f32) (cx : FVec Ideal S4x256x1024 .f32) (md : FVec Ideal S5x9216 .f32) (w1 : FVec Ideal S1024x5632 .f32)
    (w2 : FVec Ideal S2816x1024 .f32) (g b : FVec Ideal S1024 .f32) (bt : Fin 4) (r : Fin 8448) (k : Fin 1024) : EReal :=
  Rows.ffn (fun k q => w1 (ix2 k q)) (fun q k => w2 (ix2 q k)) (fun k => g (ix1 k)) (fun k => b (ix1 k)) (inRow x cx bt r)
    (modRow md 0 (by decide) bt r) (modRow md 1024 (by decide) bt r) (modRow md 2048 (by decide) bt r) k

section Reads

variable (c : Dev nD) (t : Fin cfg0.N)

/-- The window of the latent tokens: in the first tile it starts at the first one, in any other 256 rows before the tile. -/
theorem read0 (bt : Fin 4) (hb : bt.val = t.val / 11) (r : Fin 768) (k : Fin 1024) :
    (iblk m c 0 t : Vec Ideal S1x768x1024 .f32) (ix3 0 r k)
      = m ((c : Thread nD τ).loc main_arg0) (ix3 bt ⟨768 * (t.val % 11) - 256 + r.val, by omega⟩ k) := by
  blk_simp [iblk, V]
  have h := (idx t).1
  refine congrArg _ (funext fun a => Fin.ext ?_)
  refine (Pipeline.Window.rect_emb_val_off win0_0 t (ix3 0 r k) a).trans ?_
  change win0_0.index t a + _ = _
  rw [h]
  fin_cases a <;> simp <;> omega

/-- The block of the context's tokens. -/
theorem read1 (bt : Fin 4) (hb : bt.val = t.val / 11) (r : Fin 256) (k : Fin 1024) :
    (iblk m c 1 t : Vec Ideal S1x256x1024 .f32) (ix3 0 r k) = m ((c : Thread nD τ).loc main_arg1) (ix3 bt r k) := by
  blk_point [iblk, V, idx t]

/-- The tokens of a tile are rows of the joined context and latent tokens. -/
theorem tokens_read (bt : Fin 4) (ti : Fin 11) (hb : bt.val = t.val / 11) (hi : ti.val = t.val % 11) (r : Fin 768) (k : Fin 1024) :
    tokens (grid0.coords t) (iblk m c 0 t) (iblk m c 1 t) r k
      = inRow (m ((c : Thread nD τ).loc main_arg0)) (m ((c : Thread nD τ).loc main_arg1)) bt ⟨768 * ti.val + r.val, by omega⟩ k := by
  have hc : (grid0.coords t 1).val = ti.val := (idx t).2.2.2.2.2.2.2.2.2.2.trans hi.symm
  unfold tokens inRow
  rw [hc]
  by_cases h0 : ti.val = 0
  · rw [if_pos h0]
    by_cases hr : r.val < 256
    · rw [dif_pos hr, dif_pos (show 768 * ti.val + r.val < 256 by omega), read1 m c t bt hb]
      refine congrArg (fun a => m ((c : Thread nD τ).loc main_arg1) (ix3 bt a k)) (Fin.ext ?_)
      change r.val = 768 * ti.val + r.val
      omega
    · rw [dif_neg hr, dif_neg (show ¬ 768 * ti.val + r.val < 256 by omega), read0 m c t bt hb]
      refine congrArg (fun a => m ((c : Thread nD τ).loc main_arg0) (ix3 bt a k)) (Fin.ext ?_)
      change 768 * (t.val % 11) - 256 + (r.val - 256) = 768 * ti.val + r.val - 256
      omega
  · rw [if_neg h0, dif_neg (show ¬ 768 * ti.val + r.val < 256 by omega), read0 m c t bt hb]
    refine congrArg (fun a => m ((c : Thread nD τ).loc main_arg0) (ix3 bt a k)) (Fin.ext ?_)
    change 768 * (t.val % 11) - 256 + r.val = 768 * ti.val + r.val - 256
    omega

/-- The block of the batch element's modulation vectors. -/
theorem read2 (bt : Fin 4) (hb : bt.val = t.val / 11) (s : Fin 9) (k : Fin 1024) :
    (iblk m c 2 t : Vec Ideal S1x9x1024 .f32) (ix3 0 s k)
      = m ((c : Thread nD τ).loc main_arg2) (ix2 ⟨bt.val, by omega⟩ ⟨1024 * s.val + k.val, by omega⟩) := by
  blk_point [iblk, V, idx t]

/-- The block of the context's modulation vectors. -/
theorem read3 (s : Fin 9) (k : Fin 1024) :
    (iblk m c 3 t : Vec Ideal S1x9x1024 .f32) (ix3 0 s k)
      = m ((c : Thread nD τ).loc main_arg2) (ix2 4 ⟨1024 * s.val + k.val, by omega⟩) := by
  blk_point [iblk, V, idx t]

/-- The first weight matrix. -/
theorem read4 (k : Fin 1024) (q : Fin 5632) : (iblk m c 4 t : Vec Ideal S1024x5632 .bf16) (ix2 k q)
    = m ((c : Thread nD τ).loc main_arg3) (ix2 k q) := by
  blk_point [iblk, V, idx t]

/-- The second weight matrix. -/
theorem read5 (q : Fin 2816) (k : Fin 1024) : (iblk m c 5 t : Vec Ideal S2816x1024 .bf16) (ix2 q k)
    = m ((c : Thread nD τ).loc main_arg4) (ix2 q k) := by
  blk_point [iblk, V, idx t]

/-- The gain. -/
theorem read6 (k : Fin 1024) : (iblk m c 6 t : Vec Ideal S1x1024 .f32) (ix2 0 k) = m ((c : Thread nD τ).loc main_arg5) (ix1 k) := by
  blk_point [iblk, V, idx t]

/-- The bias. -/
theorem read7 (k : Fin 1024) : (iblk m c 7 t : Vec Ideal S1x1024 .f32) (ix2 0 k) = m ((c : Thread nD τ).loc main_arg6) (ix1 k) := by
  blk_point [iblk, V, idx t]

end Reads

/-- After the run the result array holds the sublayer's rows. -/
theorem final (c : Dev nD) : (dats m 0 c).arrAt 8 (cfgs 0).N
    = fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (i 0) (i 1) (i 2) := by
  refine (dats m 0 c).arrAt_eq_of_covers 8 _ (by decide +kernel) fun t _ y => ?_
  blk_simp
  rw [after0_8]
  unfold outsAt0
  frame_out
  idx_vars y
  obtain rfl : y0 = 0 := Subsingleton.elim _ _
  refine (out_apply (grid0.coords t) (fun k q => (iblk m c 4 t : Vec Ideal S1024x5632 .bf16) (ix2 k q)) _
    (tokens (grid0.coords t) (iblk m c 0 t) (iblk m c 1 t) y1) _ _ _ _ _ _ y1 y2
    (Rows.tokenRow (768 * (grid0.coords t 1).val + y1.val) (fun k => (iblk m c 3 t : Vec Ideal S1x9x1024 .f32) (ix3 0 0 k))
      (fun k => (iblk m c 2 t : Vec Ideal S1x9x1024 .f32) (ix3 0 0 k)))
    (Rows.tokenRow (768 * (grid0.coords t 1).val + y1.val) (fun k => (iblk m c 3 t : Vec Ideal S1x9x1024 .f32) (ix3 0 1 k))
      (fun k => (iblk m c 2 t : Vec Ideal S1x9x1024 .f32) (ix3 0 1 k))) (pay2_apply _ _ _ y1) (fun q => ?_)).trans ?_
  · rw [View.readCov_eq_canon']
    have hy : (Rect.unit (s := S768x2816) ![0, 0] S768x2816.size inb_S768x2816_S768x2816_0_0).idx (ix2 y1 q) = ix2 y1 q := by
      funext a
      apply Fin.ext
      rw [Rect.idx_unit_val]
      fin_cases a <;> simp
    refine (congrArg (View.canon _) hy).trans ?_
    canon_tiles x h
    all_goals
      idx_vars x
      obtain rfl : y1 = x0 := Fin.ext h0
      replace h1 : q.val = _ := h1
      try simp only [chunk0, chunk2, chunk3, chunk4, chunk5, chunk6, chunk7, chunk8, chunk9, chunk10]
      refine chunk _ _ _ _ _ y1 x1 q (fun k => (modulated_apply (grid0.coords t) _ (tokens (grid0.coords t) (iblk m c 0 t) (iblk m c 1 t) y1) _ _ _ _ y1 (pay2_apply _ _ _ y1) k).trans ?_) (fun k => ?_) (fun k => ?_)
      · refine congrArg₂ (fun a b => Rows.modulated _ a b k) (congrArg₂ (fun a b => Rows.tokenRow _ a b) ?_ ?_)
          (congrArg₂ (fun a b => Rows.tokenRow _ a b) ?_ ?_) <;> (funext k; pointwise)
      · pointwise
        refine congrArg (fun i => (iblk m c 4 t : Vec Ideal S1024x5632 .bf16) (ix2 k i)) (Fin.ext ?_)
        simp only [h1]
        try omega
      · pointwise
        refine congrArg (fun i => (iblk m c 4 t : Vec Ideal S1024x5632 .bf16) (ix2 k i)) (Fin.ext ?_)
        simp only [h1]
        try omega
  · obtain ⟨bt, hb⟩ : ∃ bt : Fin 4, bt.val = t.val / 11 := ⟨⟨t.val / 11, (idx t).2.2.2.2.2.2.2.2.2.1⟩, rfl⟩
    obtain ⟨ti, hi⟩ : ∃ ti : Fin 11, ti.val = t.val % 11 := ⟨⟨t.val % 11, Nat.mod_lt _ (by decide)⟩, rfl⟩
    have hc : (grid0.coords t 1).val = ti.val := (idx t).2.2.2.2.2.2.2.2.2.2.trans hi.symm
    have hy : ((cfg0.win 8).blk t).view.emb (ix3 0 y1 y2) = ix3 bt ⟨768 * ti.val + y1.val, by omega⟩ y2 := by
      blk_ext [idx t]
    refine Eq.trans ?_ (congrArg (fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (i 0) (i 1) (i 2)) hy).symm
    refine Rows.ffn_congr (read4 m c t) (read5 m c t) (read6 m c t) (read7 m c t) (tokens_read m c t bt ti hb hi y1)
      (Rows.tokenRow_congr (by rw [hc]; rfl) (read3 m c t 0) (read2 m c t bt hb 0))
      (Rows.tokenRow_congr (by rw [hc]; rfl) (read3 m c t 1) (read2 m c t bt hb 1))
      (Rows.tokenRow_congr (by rw [hc]; rfl) (fun k => Eq.trans ?_ (read3 m c t 2 k)) (fun k => Eq.trans ?_ (read2 m c t bt hb 2 k))) y2 <;> pointwise

end Cert.KernelFirstIdeal.Hand

end
-- ==== Proof.First.RefValue.lean ====
/-
  The first feed-forward sublayer: what the reference computes, read at an index, as the row functions of
  Spec.lean.
-/
module

public import proofs.«01_k».proof.Proof.Gen.ReferenceFirstIdeal.Read
public import proofs.«01_k».proof.Proof.Spec

@[expose] public section

set_option maxRecDepth 16384

noncomputable section

namespace Cert.ReferenceFirstIdeal.Hand

open Cert.ReferenceFirstIdeal Cert.ReferenceFirstIdeal.Gen Cert.ReferenceFirstIdeal.Read Idealize.ShloMosaic Idealize.ShloMosaic.TcCoe

variable (x : FVec Ideal S4x8192x1024 .f32) (cx : FVec Ideal S4x256x1024 .f32) (md : FVec Ideal S5x9216 .f32) (w1 : FVec Ideal S1024x5632 .f32)
  (w2 : FVec Ideal S2816x1024 .f32) (g b : FVec Ideal S1024 .f32)

/-- The modulation vector of token `r` of batch `bt` that starts at column `o`. -/
abbrev modRow (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The row of token `r` of batch `bt`: the context's 256 tokens come first, the latent tokens after them. -/
abbrev inRow (bt : Fin 4) (r : Fin 8448) (k : Fin 1024) : EReal :=
  if h : r.val < 256 then cx (ix3 bt ⟨r.val, h⟩ k) else x (ix3 bt ⟨r.val - 256, by omega⟩ k)

/-- The joined token rows. -/
theorem tokens_apply (bt : Fin 4) (r : Fin 8448) (k : Fin 1024) :
    val_main_v0 (F := Ideal) x cx (ix3 bt r k) = inRow x cx bt r k := by
  pointwise [val_main_v0]

/-- The shift of every token. -/
theorem shift_apply (bt : Fin 4) (r : Fin 8448) (k : Fin 1024) :
    val_main_v7 (F := Ideal) md (ix3 bt r k) = modRow md 0 (by decide) bt r k := by
  pointwise [val_main_v1, val_main_v2, val_main_v3, val_main_v4, val_main_v5, val_main_v6, val_main_v7]
  simp only [modRow, Rows.tokenRow, Nat.zero_add]
  rfl

/-- The scale of every token. -/
theorem scale_apply (bt : Fin 4) (r : Fin 8448) (k : Fin 1024) :
    val_main_v14 (F := Ideal) md (ix3 bt r k) = modRow md 1024 (by decide) bt r k := by
  pointwise [val_main_v8, val_main_v9, val_main_v10, val_main_v11, val_main_v12, val_main_v13, val_main_v14]
  rfl

/-- The gate of every token. -/
theorem gate_apply (bt : Fin 4) (r : Fin 8448) (k : Fin 1024) :
    val_main_v21 (F := Ideal) md (ix3 bt r k) = modRow md 2048 (by decide) bt r k := by
  pointwise [val_main_v15, val_main_v16, val_main_v17, val_main_v18, val_main_v19, val_main_v20, val_main_v21]
  rfl

/-- The modulated rows. -/
theorem modulated_apply (bt : Fin 4) (r : Fin 8448) (k : Fin 1024) :
    val_main_v43 (F := Ideal) x cx md (ix3 bt r k)
      = Rows.modulated (inRow x cx bt r) (modRow md 0 (by decide) bt r) (modRow md 1024 (by decide) bt r) k := by
  pointwise [val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_1, val_main_cst_2, val_main_cst_3, val_main_cst_4]
  simp only [tokens_apply, shift_apply, scale_apply]
  rfl

/-- The gated residual. -/
theorem residual_apply (bt : Fin 4) (r : Fin 8448) (k : Fin 1024) :
    val_main_v55 (F := Ideal) x cx md w1 w2 (ix3 bt r k)
      = Rows.residual (fun k q => w1 (ix2 k q)) (fun q k => w2 (ix2 q k)) (inRow x cx bt r) (modRow md 0 (by decide) bt r)
          (modRow md 1024 (by decide) bt r) (modRow md 2048 (by decide) bt r) k := by
  pointwise [val_main_v44, val_main_v45, val_main_v46, val_main_v47, val_main_v48, val_main_v49, val_main_v50, val_main_v51, val_main_v52, val_main_v53, val_main_v54, val_main_v55, val_main_cst_5, val_main_cst_6, val_main_call0_v0, val_main_call0_v1, val_main_call0_v2, val_main_call0_v3, val_main_call0_v4, val_main_call0_v5, val_main_call0_cst, val_main_call0_cst_0]
  simp only [tokens_apply, modulated_apply, gate_apply]
  rfl

/-- The sublayer's result. -/
theorem ffn_apply (bt : Fin 4) (r : Fin 8448) (k : Fin 1024) :
    val_main_v79 (F := Ideal) x cx md w1 w2 g b (ix3 bt r k)
      = Rows.ffn (fun k q => w1 (ix2 k q)) (fun q k => w2 (ix2 q k)) (fun k => g (ix1 k)) (fun k => b (ix1 k)) (inRow x cx bt r)
          (modRow md 0 (by decide) bt r) (modRow md 1024 (by decide) bt r) (modRow md 2048 (by decide) bt r) k := by
  pointwise [val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_7, val_main_cst_8, val_main_cst_9, val_main_cst_10, val_main_cst_11]
  simp only [residual_apply]
  rfl

end Cert.ReferenceFirstIdeal.Hand

end
-- ==== Proof.First.Equation.lean ====
/-
  The first feed-forward sublayer: the kernel's array is the reference's result, and the two programs' claims.
-/
module

public import proofs.«01_k».proof.Defs
public import proofs.«01_k».proof.Proof.Gen.KernelFirstIdeal.Value
public import proofs.«01_k».proof.Proof.Gen.ReferenceFirstIdeal.Run
public import proofs.«01_k».proof.Proof.Gen.ReferenceFirstIdeal.Read
public import proofs.«01_k».proof.Proof.First.KernelValue
public import proofs.«01_k».proof.Proof.First.RefValue
public import Idealize.ShloMosaic.Lib.Claim

@[expose] public section

noncomputable section

namespace Cert.Proof.First

open Idealize.ShloMosaic Idealize.ShloMosaic.TcCoe Idealize.SL.Sem

/-- The array the kernel leaves is the reference's result. -/
theorem result_eq (m : (ℓ : Loc KernelFirstIdeal.nD KernelFirstIdeal.τ KernelFirstIdeal.sig) → Buf (Elt Ideal) ℓ) (c : Dev KernelFirstIdeal.nD) :
    (KernelFirstIdeal.Gen.dats m 0 c).arrAt 8 KernelFirstIdeal.cfg0.N
      = ReferenceFirstIdeal.Read.val_main_v79 (F := Ideal) (m ((c.tc : Thread KernelFirstIdeal.nD KernelFirstIdeal.τ).loc KernelFirstIdeal.main_arg0))
          (m ((c.tc : Thread KernelFirstIdeal.nD KernelFirstIdeal.τ).loc KernelFirstIdeal.main_arg1))
          (m ((c.tc : Thread KernelFirstIdeal.nD KernelFirstIdeal.τ).loc KernelFirstIdeal.main_arg2))
          (m ((c.tc : Thread KernelFirstIdeal.nD KernelFirstIdeal.τ).loc KernelFirstIdeal.main_arg3))
          (m ((c.tc : Thread KernelFirstIdeal.nD KernelFirstIdeal.τ).loc KernelFirstIdeal.main_arg4))
          (m ((c.tc : Thread KernelFirstIdeal.nD KernelFirstIdeal.τ).loc KernelFirstIdeal.main_arg5))
          (m ((c.tc : Thread KernelFirstIdeal.nD KernelFirstIdeal.τ).loc KernelFirstIdeal.main_arg6)) := by
  refine (KernelFirstIdeal.Hand.final m c).trans (funext fun i => ?_)
  idx_vars i
  exact (ReferenceFirstIdeal.Hand.ffn_apply _ _ _ _ _ _ _ _ _ _).symm

/-- The idealized kernel computes what the idealized reference computes. -/
theorem algebraic : algebraic_KernelFirstIdeal_ReferenceFirstIdeal (hKernelFirstIdeal := KernelFirstIdeal.Gen.facts)
    (hReferenceFirstIdeal := ReferenceFirstIdeal.Gen.facts) := by
  pair_intro
  · run_from KernelFirstIdeal.Value.run_blocks m g
  · run_from ReferenceFirstIdeal.Value.run m' g'
    obtain ⟨a0, a1, a2, a3, a4, a5, a6⟩ := hagree c
    rw [result_eq, ReferenceFirstIdeal.Read.val_main_v79_eq]
    exact congr (congr (congr (congr (congr (congrArg₂ _ a0 a1) a2) a3) a4) a5) a6

/-- The reference terminates, its arguments unchanged. -/
theorem quiescent_reference : quiescent_ReferenceFirstIdeal (hReferenceFirstIdeal := ReferenceFirstIdeal.Gen.facts) := by
  intro m g _
  exact (θ_run ReferenceFirstIdeal.defs _ _).mono (fun r h => ⟨fun c => (h c).2, sem_eq_zero_of_no_sems (by decide) r.2⟩)
    (ReferenceFirstIdeal.Value.run (F := Ideal) m g)

end Cert.Proof.First

end
-- ==== Proof.Mid.Block.lean ====
/-
  The feed-forward sublayer between two layers: what one grid point computes, read at an index of its block, as the row
  functions of Spec.lean. A block holds 768 tokens, context and latent ones; each takes its own modulation vectors.
-/
module

public import proofs.«01_k».proof.Proof.Gen.KernelMidIdeal.Skeleton
public import proofs.«01_k».proof.Proof.Spec
public import Idealize.ShloMosaic.Lib.Pipeline.ValueKit
public import Idealize.ShloMosaic.Lib.Tactic.WordOmega

@[expose] public section

set_option maxRecDepth 16384

noncomputable section

namespace Cert.KernelMidIdeal.Hand

open Cert.KernelMidIdeal Cert.KernelMidIdeal.Gen Idealize.ShloMosaic Idealize.ShloMosaic.TcCoe Idealize.SL.Sem

/-- The row test of the modulation: whether the token stands among the first 256. -/
theorem pay3_apply (i : grid0.Coords) (r : Fin 768) :
    k0_pay3 i (ix2 r 0) = if 768 * (i 1).val + r.val < 256 then 1#1 else 0#1 := by
  have h1 : (i 1).val < 11 := (i 1).isLt
  have hr := r.isLt
  pointwise [k0_pay3]
  generalize (i 1).val = a at h1 ⊢
  have ha : Scalar.muli (BitVec.ofNat 32 a) 768#32 = BitVec.ofNat 32 (768 * a) := by
    interval_cases a <;> rfl
  rw [ha]
  split <;> word_omega

/-- A choice by the row test is the token's own vector. -/
theorem select_row (i : grid0.Coords) (r : Fin 768) (c l : Fin 1024 → EReal) (k : Fin 1024) :
    Scalar.select (k0_pay3 i (ix2 r 0)) (c k) (l k) = Rows.tokenRow (768 * (i 1).val + r.val) c l k := by
  rw [pay3_apply]
  unfold Rows.tokenRow
  split
  · rfl
  · rfl

/-- The modulated rows of a block, entry by entry. -/
theorem modulated_apply (i : grid0.Coords) (x0 : Vec Ideal S1x768x1024 .f32) (c6 l6 c7 l7 : Vec Ideal S1x1x1024 .f32) (r : Fin 768) (k : Fin 1024) :
    k0_pay10 (k0_pay2 x0) (k0_pay4 i c6 l6) (k0_pay5 i c7 l7) (ix2 r k)
      = Rows.modulated (fun k => x0 (ix3 0 r k))
          (Rows.tokenRow (768 * (i 1).val + r.val) (fun k => c6 (ix3 0 0 k)) (fun k => l6 (ix3 0 0 k)))
          (Rows.tokenRow (768 * (i 1).val + r.val) (fun k => c7 (ix3 0 0 k)) (fun k => l7 (ix3 0 0 k))) k := by
  have h6 := select_row i r (fun k => c6 (ix3 0 0 k)) (fun k => l6 (ix3 0 0 k)) k
  have h7 := select_row i r (fun k => c7 (ix3 0 0 k)) (fun k => l7 (ix3 0 0 k)) k
  pointwise [k0_pay10, k0_pay2, k0_pay4, k0_pay5]
  unfold Rows.modulated
  rw [← h6, ← h7]
  rfl

/-- One chunk of the hidden rows: `silu(gate) · up` of the row's products with 256 columns. -/
theorem pay13_apply (u : FVec Ideal S768x1024 .bf16) (wg wu : Vec Ideal S1024x256 .bf16) (r : Fin 768) (q : Fin 256) :
    k0_pay13 u wg wu (ix2 r q)
      = (∑ k : Fin 1024, u (ix2 r k) * wg (ix2 k q)) * Ideal.logistic (∑ k : Fin 1024, u (ix2 r k) * wg (ix2 k q))
        * ∑ k : Fin 1024, u (ix2 r k) * wu (ix2 k q) := by
  pointwise [k0_pay13]
  rw [Rows.silu_half_tanh]

section Chunks

variable (u : FVec Ideal S768x1024 .bf16) (wg wu : Vec Ideal S1024x256 .bf16)

/-! The eleven chunks are one function of their two weight blocks, whatever names the cut of the body gave its parts. -/

/-- Chunk 0 as that function. -/
theorem chunk0 (v1 : Vec Ideal S768x1024 .f32) (sc sh : FVec Ideal S768x1024 .f32) :
    k0_pay12 (k0_pay11 v1 sc sh wg wu) = k0_pay13 (k0_pay10 v1 sc sh) wg wu := rfl
/-- Chunk 2 as that function. -/
theorem chunk2 : k0_pay15 (k0_pay14 u wg wu) = k0_pay13 u wg wu := rfl
/-- Chunk 3 as that function. -/
theorem chunk3 : k0_pay16 u wg wu = k0_pay13 u wg wu := rfl
/-- Chunk 4 as that function. -/
theorem chunk4 : k0_pay19 (k0_pay17 u wu) (k0_pay18 u wg) = k0_pay13 u wg wu := rfl
/-- Chunk 5 as that function. -/
theorem chunk5 : k0_pay20 u wg wu = k0_pay13 u wg wu := rfl
/-- Chunk 6 as that function. -/
theorem chunk6 : k0_pay25 (k0_pay21 u wg) (k0_pay22 u wu) (k0_pay23 u wg) k0_pay24 = k0_pay13 u wg wu := rfl
/-- Chunk 7 as that function. -/
theorem chunk7 : k0_pay26 u wg wu = k0_pay13 u wg wu := rfl
/-- Chunk 8 as that function. -/
theorem chunk8 : k0_pay30 (k0_pay27 u wg) (k0_pay28 u wu) (k0_pay29 u wg) = k0_pay13 u wg wu := rfl
/-- Chunk 9 as that function. -/
theorem chunk9 : k0_pay31 u wg wu = k0_pay13 u wg wu := rfl
/-- Chunk 10 as that function. -/
theorem chunk10 : k0_pay35 (k0_pay32 u wg) (k0_pay33 u wu) (k0_pay34 u wg) (Scalar.ofBits .f32 0x3F000000#32) = k0_pay13 u wg wu := rfl

end Chunks

/-- The same chunk as hidden columns, given that the columns of its two weight blocks are the gate's and the up part's at `q`. -/
theorem chunk (w1 : Fin 1024 → Fin 5632 → EReal) (U : Fin 1024 → EReal) (u : FVec Ideal S768x1024 .bf16)
    (wg wu : Vec Ideal S1024x256 .bf16) (r : Fin 768) (x : Fin 256) (q : Fin 2816) (hu : ∀ k : Fin 1024, u (ix2 r k) = U k)
    (hg : ∀ k : Fin 1024, wg (ix2 k x) = w1 k ⟨q.val, by omega⟩) (hp : ∀ k : Fin 1024, wu (ix2 k x) = w1 k ⟨2816 + q.val, by omega⟩) :
    k0_pay13 u wg wu (ix2 r x) = Rows.hidden w1 U q := by
  rw [pay13_apply]
  simp only [hu, hg, hp]
  rfl

/-- The gate rows of a block. -/
theorem gate_apply (i : grid0.Coords) (c8 l8 : Vec Ideal S1x1x1024 .f32) (r : Fin 768) (k : Fin 1024) :
    k0_pay9 (k0_pay6 c8) (k0_pay7 l8) (k0_pay8 i) (ix2 r k)
      = Rows.tokenRow (768 * (i 1).val + r.val) (fun k => c8 (ix3 0 0 k)) (fun k => l8 (ix3 0 0 k)) k := by
  have h8 := select_row i r (fun k => c8 (ix3 0 0 k)) (fun k => l8 (ix3 0 0 k)) k
  pointwise [k0_pay9, k0_pay8, k0_pay7, k0_pay6]
  exact h8

/-- The block a grid point stores, given that the scratch holds the hidden rows: the sublayer's rows. -/
theorem out_apply (i : grid0.Coords) (w1 : Fin 1024 → Fin 5632 → EReal) (x0 : Vec Ideal S1x768x1024 .f32)
    (c8 l8 : Vec Ideal S1x1x1024 .f32) (w2 : Vec Ideal S2816x1024 .bf16) (g b : Vec Ideal S1x1024 .f32)
    (h : FVec Ideal S768x2816 .bf16) (r : Fin 768) (k : Fin 1024) (shift scale : Fin 1024 → EReal)
    (hh : ∀ q : Fin 2816, h (ix2 r q) = Rows.hidden w1 (Rows.modulated (fun k => x0 (ix3 0 r k)) shift scale) q) :
    k0_pay1 (k0_pay36 (k0_pay2 x0) (k0_pay9 (k0_pay6 c8) (k0_pay7 l8) (k0_pay8 i)) h w2 g) b (ix3 0 r k)
      = Rows.ffn w1 (fun q k => w2 (ix2 q k)) (fun k => g (ix2 0 k)) (fun k => b (ix2 0 k))
        (fun k => x0 (ix3 0 r k)) shift scale
        (Rows.tokenRow (768 * (i 1).val + r.val) (fun k => c8 (ix3 0 0 k)) (fun k => l8 (ix3 0 0 k))) k := by
  have h7 := gate_apply i c8 l8 r
  generalize k0_pay9 (k0_pay6 c8) (k0_pay7 l8) (k0_pay8 i) = gate at h7 ⊢
  pointwise [k0_pay1, k0_pay36, k0_pay2]
  simp only [hh, h7]
  rfl

end Cert.KernelMidIdeal.Hand

end
-- ==== Proof.Mid.KernelValue.lean ====
/-
  The feed-forward sublayer between two layers: what the kernel's result array holds after the run, at every batch, token
  and column the sublayer's row function of the arguments.
-/
module

public import proofs.«01_k».proof.Proof.Gen.KernelMidIdeal.Value
public import proofs.«01_k».proof.Proof.Mid.Block

@[expose] public section

set_option maxRecDepth 16384

noncomputable section

namespace Cert.KernelMidIdeal.Hand

open Cert.KernelMidIdeal Cert.KernelMidIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 768 tokens. -/
theorem idx : ∀ t : Fin cfg0.N,
    win0_0.index t = ![t.val / 11, t.val % 11, 0] ∧ win0_1.index t = ![t.val / 11, 0, 0] ∧ win0_2.index t = ![4, 0, 0]
      ∧ win0_3.index t = ![0, 0] ∧ win0_4.index t = ![0, 0] ∧ win0_5.index t = ![0, 0] ∧ win0_6.index t = ![0, 0]
      ∧ win0_7.index t = ![t.val / 11, t.val % 11, 0] ∧ t.val / 11 < 4 ∧ (grid0.coords t 1).val = t.val % 11 :=
  (by decide +kernel : ∀ t : Fin grid0.N, _)

/-- The modulation vector of token `r` of batch `bt` that starts at column `o`. -/
abbrev modRow (md : FVec Ideal S5x9216 .f32) (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The result array as a function of the arguments. -/
def result (x : FVec Ideal S4x8448x1024 .f32) (md : FVec Ideal S5x9216 .f32) (w1 : FVec Ideal S1024x5632 .f32)
    (w2 : FVec Ideal S2816x1024 .f32) (g b : FVec Ideal S1024 .f32) (bt : Fin 4) (r : Fin 8448) (k : Fin 1024) : EReal :=
  Rows.ffn (fun k q => w1 (ix2 k q)) (fun q k => w2 (ix2 q k)) (fun k => g (ix1 k)) (fun k => b (ix1 k)) (fun k => x (ix3 bt r k))
    (modRow md 6144 (by decide) bt r) (modRow md 7168 (by decide) bt r) (modRow md 8192 (by decide) bt r) k

section Reads

variable (c : Dev nD) (t : Fin cfg0.N)

/-- The block of the token stream. -/
theorem read0 (bt : Fin 4) (ti : Fin 11) (hb : bt.val = t.val / 11) (hi : ti.val = t.val % 11) (r : Fin 768) (k : Fin 1024) :
    (iblk m c 0 t : Vec Ideal S1x768x1024 .f32) (ix3 0 r k)
      = m ((c : Thread nD τ).loc main_arg0) (ix3 bt ⟨768 * ti.val + r.val, by omega⟩ k) := by
  blk_point [iblk, V, idx t]

/-- The block of the batch element's modulation vectors. -/
theorem read1 (bt : Fin 4) (hb : bt.val = t.val / 11) (s : Fin 9) (k : Fin 1024) :
    (iblk m c 1 t : Vec Ideal S1x9x1024 .f32) (ix3 0 s k)
      = m ((c : Thread nD τ).loc main_arg1) (ix2 ⟨bt.val, by omega⟩ ⟨1024 * s.val + k.val, by omega⟩) := by
  blk_point [iblk, V, idx t]

/-- The block of the context's modulation vectors. -/
theorem read2 (s : Fin 9) (k : Fin 1024) :
    (iblk m c 2 t : Vec Ideal S1x9x1024 .f32) (ix3 0 s k)
      = m ((c : Thread nD τ).loc main_arg1) (ix2 4 ⟨1024 * s.val + k.val, by omega⟩) := by
  blk_point [iblk, V, idx t]

/-- The first weight matrix. -/
theorem read3 (k : Fin 1024) (q : Fin 5632) : (iblk m c 3 t : Vec Ideal S1024x5632 .bf16) (ix2 k q)
    = m ((c : Thread nD τ).loc main_arg2) (ix2 k q) := by
  blk_point [iblk, V, idx t]

/-- The second weight matrix. -/
theorem read4 (q : Fin 2816) (k : Fin 1024) : (iblk m c 4 t : Vec Ideal S2816x1024 .bf16) (ix2 q k)
    = m ((c : Thread nD τ).loc main_arg3) (ix2 q k) := by
  blk_point [iblk, V, idx t]

/-- The gain. -/
theorem read5 (k : Fin 1024) : (iblk m c 5 t : Vec Ideal S1x1024 .f32) (ix2 0 k) = m ((c : Thread nD τ).loc main_arg4) (ix1 k) := by
  blk_point [iblk, V, idx t]

/-- The bias. -/
theorem read6 (k : Fin 1024) : (iblk m c 6 t : Vec Ideal S1x1024 .f32) (ix2 0 k) = m ((c : Thread nD τ).loc main_arg5) (ix1 k) := by
  blk_point [iblk, V, idx t]

end Reads

/-- After the run the result array holds the sublayer's rows. -/
theorem final (c : Dev nD) : (dats m 0 c).arrAt 7 (cfgs 0).N
    = fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2) := by
  refine (dats m 0 c).arrAt_eq_of_covers 7 _ (by decide +kernel) fun t _ y => ?_
  blk_simp
  rw [after0_7]
  unfold outsAt0
  frame_out
  idx_vars y
  obtain rfl : y0 = 0 := Subsingleton.elim _ _
  refine (out_apply (grid0.coords t) (fun k q => (iblk m c 3 t : Vec Ideal S1024x5632 .bf16) (ix2 k q)) _ _ _ _ _ _ _ y1 y2
    (Rows.tokenRow (768 * (grid0.coords t 1).val + y1.val) (fun k => (iblk m c 2 t : Vec Ideal S1x9x1024 .f32) (ix3 0 6 k))
      (fun k => (iblk m c 1 t : Vec Ideal S1x9x1024 .f32) (ix3 0 6 k)))
    (Rows.tokenRow (768 * (grid0.coords t 1).val + y1.val) (fun k => (iblk m c 2 t : Vec Ideal S1x9x1024 .f32) (ix3 0 7 k))
      (fun k => (iblk m c 1 t : Vec Ideal S1x9x1024 .f32) (ix3 0 7 k))) (fun q => ?_)).trans ?_
  · rw [View.readCov_eq_canon']
    have hy : (Rect.unit (s := S768x2816) ![0, 0] S768x2816.size inb_S768x2816_S768x2816_0_0).idx (ix2 y1 q) = ix2 y1 q := by
      funext a
      apply Fin.ext
      rw [Rect.idx_unit_val]
      fin_cases a <;> simp
    refine (congrArg (View.canon _) hy).trans ?_
    canon_tiles x h
    all_goals
      idx_vars x
      obtain rfl : y1 = x0 := Fin.ext h0
      replace h1 : q.val = _ := h1
      try simp only [chunk0, chunk2, chunk3, chunk4, chunk5, chunk6, chunk7, chunk8, chunk9, chunk10]
      refine chunk _ _ _ _ _ y1 x1 q (fun k => (modulated_apply (grid0.coords t) (iblk m c 0 t) _ _ _ _ y1 k).trans ?_) (fun k => ?_) (fun k => ?_)
      · refine congrArg₂ (fun a b => Rows.modulated _ a b k) (congrArg₂ (fun a b => Rows.tokenRow _ a b) ?_ ?_)
          (congrArg₂ (fun a b => Rows.tokenRow _ a b) ?_ ?_) <;> (funext k; pointwise)
      · pointwise
        refine congrArg (fun i => (iblk m c 3 t : Vec Ideal S1024x5632 .bf16) (ix2 k i)) (Fin.ext ?_)
        simp only [h1]
        try omega
      · pointwise
        refine congrArg (fun i => (iblk m c 3 t : Vec Ideal S1024x5632 .bf16) (ix2 k i)) (Fin.ext ?_)
        simp only [h1]
        try omega
  · obtain ⟨bt, hb⟩ : ∃ bt : Fin 4, bt.val = t.val / 11 := ⟨⟨t.val / 11, (idx t).2.2.2.2.2.2.2.2.1⟩, rfl⟩
    obtain ⟨ti, hi⟩ : ∃ ti : Fin 11, ti.val = t.val % 11 := ⟨⟨t.val % 11, Nat.mod_lt _ (by decide)⟩, rfl⟩
    have hc : (grid0.coords t 1).val = ti.val := (idx t).2.2.2.2.2.2.2.2.2.trans hi.symm
    have hy : ((cfg0.win 7).blk t).view.emb (ix3 0 y1 y2) = ix3 bt ⟨768 * ti.val + y1.val, by omega⟩ y2 := by
      blk_ext [idx t]
    refine Eq.trans ?_ (congrArg (fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (i 0) (i 1) (i 2)) hy).symm
    refine Rows.ffn_congr (read3 m c t) (read4 m c t) (read5 m c t) (read6 m c t) (read0 m c t bt ti hb hi y1)
      (Rows.tokenRow_congr (by rw [hc]; rfl) (read2 m c t 6) (read1 m c t bt hb 6))
      (Rows.tokenRow_congr (by rw [hc]; rfl) (read2 m c t 7) (read1 m c t bt hb 7))
      (Rows.tokenRow_congr (by rw [hc]; rfl) (fun k => Eq.trans ?_ (read2 m c t 8 k)) (fun k => Eq.trans ?_ (read1 m c t bt hb 8 k))) y2 <;> pointwise

end Cert.KernelMidIdeal.Hand

end
-- ==== Proof.Mid.RefValue.lean ====
/-
  The feed-forward sublayer between two layers: what the reference computes, read at an index, as the row functions of
  Spec.lean.
-/
module

public import proofs.«01_k».proof.Proof.Gen.ReferenceMidIdeal.Read
public import proofs.«01_k».proof.Proof.Spec

@[expose] public section

set_option maxRecDepth 16384

noncomputable section

namespace Cert.ReferenceMidIdeal.Hand

open Cert.ReferenceMidIdeal Cert.ReferenceMidIdeal.Gen Cert.ReferenceMidIdeal.Read Idealize.ShloMosaic Idealize.ShloMosaic.TcCoe

variable (x : FVec Ideal S4x8448x1024 .f32) (md : FVec Ideal S5x9216 .f32) (w1 : FVec Ideal S1024x5632 .f32)
  (w2 : FVec Ideal S2816x1024 .f32) (g b : FVec Ideal S1024 .f32)

/-- The modulation vector of token `r` of batch `bt` that starts at column `o`. -/
abbrev modRow (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The shift of every token. -/
theorem shift_apply (bt : Fin 4) (r : Fin 8448) (k : Fin 1024) :
    val_main_v6 (F := Ideal) md (ix3 bt r k) = modRow md 6144 (by decide) bt r k := by
  pointwise [val_main_v0, val_main_v1, val_main_v2, val_main_v3, val_main_v4, val_main_v5, val_main_v6]
  rfl

/-- The scale of every token. -/
theorem scale_apply (bt : Fin 4) (r : Fin 8448) (k : Fin 1024) :
    val_main_v13 (F := Ideal) md (ix3 bt r k) = modRow md 7168 (by decide) bt r k := by
  pointwise [val_main_v7, val_main_v8, val_main_v9, val_main_v10, val_main_v11, val_main_v12, val_main_v13]
  rfl

/-- The gate of every token. -/
theorem gate_apply (bt : Fin 4) (r : Fin 8448) (k : Fin 1024) :
    val_main_v20 (F := Ideal) md (ix3 bt r k) = modRow md 8192 (by decide) bt r k := by
  pointwise [val_main_v14, val_main_v15, val_main_v16, val_main_v17, val_main_v18, val_main_v19, val_main_v20]
  rfl

/-- The modulated rows. -/
theorem modulated_apply (bt : Fin 4) (r : Fin 8448) (k : Fin 1024) :
    val_main_v42 (F := Ideal) x md (ix3 bt r k)
      = Rows.modulated (fun k => x (ix3 bt r k)) (modRow md 6144 (by decide) bt r) (modRow md 7168 (by decide) bt r) k := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst, val_main_cst_1, val_main_cst_2, val_main_cst_3, val_main_cst_4]
  simp only [shift_apply, scale_apply]
  rfl

/-- The gated residual. -/
theorem residual_apply (bt : Fin 4) (r : Fin 8448) (k : Fin 1024) :
    val_main_v54 (F := Ideal) x md w1 w2 (ix3 bt r k)
      = Rows.residual (fun k q => w1 (ix2 k q)) (fun q k => w2 (ix2 q k)) (fun k => x (ix3 bt r k)) (modRow md 6144 (by decide) bt r)
          (modRow md 7168 (by decide) bt r) (modRow md 8192 (by decide) bt r) k := by
  pointwise [val_main_v43, val_main_v44, val_main_v45, val_main_v46, val_main_v47, val_main_v48, val_main_v49, val_main_v50, val_main_v51, val_main_v52, val_main_v53, val_main_v54, val_main_cst_5, val_main_cst_6, val_main_call0_v0, val_main_call0_v1, val_main_call0_v2, val_main_call0_v3, val_main_call0_v4, val_main_call0_v5, val_main_call0_cst, val_main_call0_cst_0]
  simp only [modulated_apply, gate_apply]
  rfl

/-- The sublayer's result. -/
theorem ffn_apply (bt : Fin 4) (r : Fin 8448) (k : Fin 1024) :
    val_main_v78 (F := Ideal) x md w1 w2 g b (ix3 bt r k)
      = Rows.ffn (fun k q => w1 (ix2 k q)) (fun q k => w2 (ix2 q k)) (fun k => g (ix1 k)) (fun k => b (ix1 k)) (fun k => x (ix3 bt r k))
          (modRow md 6144 (by decide) bt r) (modRow md 7168 (by decide) bt r) (modRow md 8192 (by decide) bt r) k := by
  pointwise [val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_cst_7, val_main_cst_8, val_main_cst_9, val_main_cst_10, val_main_cst_11]
  simp only [residual_apply]
  rfl

end Cert.ReferenceMidIdeal.Hand

end
-- ==== Proof.Mid.Equation.lean ====
/-
  The feed-forward sublayer between two layers: the kernel's array is the reference's result, and the two programs' claims.
-/
module

public import proofs.«01_k».proof.Defs
public import proofs.«01_k».proof.Proof.Gen.KernelMidIdeal.Value
public import proofs.«01_k».proof.Proof.Gen.ReferenceMidIdeal.Run
public import proofs.«01_k».proof.Proof.Gen.ReferenceMidIdeal.Read
public import proofs.«01_k».proof.Proof.Mid.KernelValue
public import proofs.«01_k».proof.Proof.Mid.RefValue
public import Idealize.ShloMosaic.Lib.Claim

@[expose] public section

noncomputable section

namespace Cert.Proof.Mid

open Idealize.ShloMosaic Idealize.ShloMosaic.TcCoe Idealize.SL.Sem

/-- The array the kernel leaves is the reference's result. -/
theorem result_eq (m : (ℓ : Loc KernelMidIdeal.nD KernelMidIdeal.τ KernelMidIdeal.sig) → Buf (Elt Ideal) ℓ) (c : Dev KernelMidIdeal.nD) :
    (KernelMidIdeal.Gen.dats m 0 c).arrAt 7 KernelMidIdeal.cfg0.N
      = ReferenceMidIdeal.Read.val_main_v78 (F := Ideal) (m ((c.tc : Thread KernelMidIdeal.nD KernelMidIdeal.τ).loc KernelMidIdeal.main_arg0))
          (m ((c.tc : Thread KernelMidIdeal.nD KernelMidIdeal.τ).loc KernelMidIdeal.main_arg1))
          (m ((c.tc : Thread KernelMidIdeal.nD KernelMidIdeal.τ).loc KernelMidIdeal.main_arg2))
          (m ((c.tc : Thread KernelMidIdeal.nD KernelMidIdeal.τ).loc KernelMidIdeal.main_arg3))
          (m ((c.tc : Thread KernelMidIdeal.nD KernelMidIdeal.τ).loc KernelMidIdeal.main_arg4))
          (m ((c.tc : Thread KernelMidIdeal.nD KernelMidIdeal.τ).loc KernelMidIdeal.main_arg5)) := by
  refine (KernelMidIdeal.Hand.final m c).trans (funext fun i => ?_)
  idx_vars i
  exact (ReferenceMidIdeal.Hand.ffn_apply _ _ _ _ _ _ _ _ _).symm

/-- The idealized kernel computes what the idealized reference computes. -/
theorem algebraic : algebraic_KernelMidIdeal_ReferenceMidIdeal (hKernelMidIdeal := KernelMidIdeal.Gen.facts)
    (hReferenceMidIdeal := ReferenceMidIdeal.Gen.facts) := by
  pair_intro
  · run_from KernelMidIdeal.Value.run_blocks m g
  · run_from ReferenceMidIdeal.Value.run m' g'
    obtain ⟨a0, a1, a2, a3, a4, a5⟩ := hagree c
    rw [result_eq, ReferenceMidIdeal.Read.val_main_v78_eq]
    exact congr (congr (congr (congr (congrArg₂ _ a0 a1) a2) a3) a4) a5

/-- The reference terminates, its arguments unchanged. -/
theorem quiescent_reference : quiescent_ReferenceMidIdeal (hReferenceMidIdeal := ReferenceMidIdeal.Gen.facts) := by
  intro m g _
  exact (θ_run ReferenceMidIdeal.defs _ _).mono (fun r h => ⟨fun c => (h c).2, sem_eq_zero_of_no_sems (by decide) r.2⟩)
    (ReferenceMidIdeal.Value.run (F := Ideal) m g)

end Cert.Proof.Mid

end
-- ==== Proof.Proj.Spec.lean ====
/-
  The mathematics of the mixers' input projection, one row at a time, over the extended reals: a modulated row times the
  columns of one weight matrix, and the axial rotary positions of the attention's queries and keys.
-/
module

public import proofs.«01_k».proof.Proof.Spec

@[expose] public section

noncomputable section

namespace Cert.Rows

open Idealize.ShloMosaic

/-- The attention's query scale, one eighth, as its float word. -/
abbrev eighth : EReal := Ideal.ofBits .f32 0x3E000000#32

/-- Column `q` of the projection of a row. -/
def proj (w : Fin 1024 → Fin 6208 → EReal) (u : Fin 1024 → EReal) (q : Fin 6208) : EReal := ∑ k, u k * w k q

/-- The lane a rotary position pairs lane `c` with: the halves of every 32 lanes are exchanged. -/
def partner (c : Nat) : Nat := if c % 32 < 16 then c + 16 else c - 16

/-- A partner stays inside every whole number of 32 lanes. -/
theorem partner_lt {c n : Nat} (h : c < 32 * n) : partner c < 32 * n := by
  unfold partner
  split <;> omega

/-- The rotary position of token `n` at lane `c`, of the lane's entry `a` and its partner's entry `b`. The first 256 tokens are
    the context's and are not rotated. Of every 64 lanes the first 32 are rotated by the token's row, the others by its column. -/
def rope (rc rs cc cs : Fin 8192 → Fin 16 → EReal) (n : Fin 8448) (c : Nat) (a b : EReal) : EReal :=
  if h : n.val < 256 then a
  else if c % 64 < 32 then
    if c % 32 < 16 then a * rc ⟨n.val - 256, by omega⟩ ⟨c % 16, by omega⟩ - b * rs ⟨n.val - 256, by omega⟩ ⟨c % 16, by omega⟩
    else a * rc ⟨n.val - 256, by omega⟩ ⟨c % 16, by omega⟩ + b * rs ⟨n.val - 256, by omega⟩ ⟨c % 16, by omega⟩
  else
    if c % 32 < 16 then a * cc ⟨n.val - 256, by omega⟩ ⟨c % 16, by omega⟩ - b * cs ⟨n.val - 256, by omega⟩ ⟨c % 16, by omega⟩
    else a * cc ⟨n.val - 256, by omega⟩ ⟨c % 16, by omega⟩ + b * cs ⟨n.val - 256, by omega⟩ ⟨c % 16, by omega⟩

/-- The factor of a lane's own entry: one for the context's tokens, else the cosine of the lane's angle. -/
def cosAt (rc cc : Fin 8192 → Fin 16 → EReal) (n : Fin 8448) (c : Nat) : EReal :=
  if h : n.val < 256 then 1
  else if c % 64 < 32 then rc ⟨n.val - 256, by omega⟩ ⟨c % 16, by omega⟩ else cc ⟨n.val - 256, by omega⟩ ⟨c % 16, by omega⟩

/-- The factor of the partner's entry: zero for the context's tokens, else the sine of the lane's angle, negated on the first
    half of every 32 lanes. -/
def sinAt (rs cs : Fin 8192 → Fin 16 → EReal) (n : Fin 8448) (c : Nat) : EReal :=
  if h : n.val < 256 then 0
  else if c % 64 < 32 then
    if c % 32 < 16 then -rs ⟨n.val - 256, by omega⟩ ⟨c % 16, by omega⟩ else rs ⟨n.val - 256, by omega⟩ ⟨c % 16, by omega⟩
  else
    if c % 32 < 16 then -cs ⟨n.val - 256, by omega⟩ ⟨c % 16, by omega⟩ else cs ⟨n.val - 256, by omega⟩ ⟨c % 16, by omega⟩

/-- The rotary position as a sum of two products, at every extended real. -/
theorem rope_eq (rc rs cc cs : Fin 8192 → Fin 16 → EReal) (n : Fin 8448) (c : Nat) (a b : EReal) :
    a * cosAt rc cc n c + b * sinAt rs cs n c = rope rc rs cc cs n c a b := by
  unfold cosAt sinAt rope
  split
  · rw [mul_one, mul_zero, add_zero]
  · split
    · split
      · rw [mul_neg, ← sub_eq_add_neg]
      · rfl
    · split
      · rw [mul_neg, ← sub_eq_add_neg]
      · rfl

/-- The factors depend on the lane's number within its 64 lanes. -/
theorem cosAt_mod (rc cc : Fin 8192 → Fin 16 → EReal) (n : Fin 8448) (c d : Nat) (h : c % 64 = d % 64) :
    cosAt rc cc n c = cosAt rc cc n d := by
  have e : (⟨c % 16, by omega⟩ : Fin 16) = ⟨d % 16, by omega⟩ := Fin.ext (by show c % 16 = d % 16; omega)
  unfold cosAt
  rw [h, e]

/-- The factors depend on the lane's number within its 64 lanes. -/
theorem sinAt_mod (rs cs : Fin 8192 → Fin 16 → EReal) (n : Fin 8448) (c d : Nat) (h : c % 64 = d % 64) :
    sinAt rs cs n c = sinAt rs cs n d := by
  have e : (⟨c % 16, by omega⟩ : Fin 16) = ⟨d % 16, by omega⟩ := Fin.ext (by show c % 16 = d % 16; omega)
  have e' : c % 32 = d % 32 := by omega
  unfold sinAt
  rw [h, e, e']

/-- Equal arguments give equal columns of the projection. -/
theorem proj_congr {w w' : Fin 1024 → Fin 6208 → EReal} {u u' : Fin 1024 → EReal} (hw : ∀ k q, w k q = w' k q) (hu : ∀ k, u k = u' k)
    (q : Fin 6208) : proj w u q = proj w' u' q := by
  obtain rfl : w = w' := funext fun k => funext (hw k)
  obtain rfl := funext hu
  rfl

/-- Equal arguments give equal modulated rows. -/
theorem modulated_congr {x x' shift shift' scale scale' : Fin 1024 → EReal} (hx : ∀ k, x k = x' k) (hs : ∀ k, shift k = shift' k)
    (hc : ∀ k, scale k = scale' k) (j : Fin 1024) : modulated x shift scale j = modulated x' shift' scale' j := by
  obtain rfl := funext hx
  obtain rfl := funext hs
  obtain rfl := funext hc
  rfl

/-- The query entry at lane `c`. -/
def queryAt (rc rs cc cs : Fin 8192 → Fin 16 → EReal) (w : Fin 1024 → Fin 6208 → EReal) (u : Fin 1024 → EReal) (n : Fin 8448)
    (c : Fin 512) : EReal :=
  rope rc rs cc cs n c.val (proj w u ⟨c.val, by omega⟩) (proj w u ⟨partner c.val, by have := partner_lt (n := 16) c.isLt; omega⟩)
    * eighth

/-- The key entry at lane `c`. -/
def keyAt (rc rs cc cs : Fin 8192 → Fin 16 → EReal) (w : Fin 1024 → Fin 6208 → EReal) (u : Fin 1024 → EReal) (n : Fin 8448)
    (c : Fin 128) : EReal :=
  rope rc rs cc cs n c.val (proj w u ⟨512 + c.val, by omega⟩)
    (proj w u ⟨512 + partner c.val, by have := partner_lt (n := 4) c.isLt; omega⟩)

/-- The entry at column `c` of the recurrence's input: 64 columns of zeros stand after the first 1728. -/
def recurAt (w : Fin 1024 → Fin 6208 → EReal) (u : Fin 1024 → EReal) (c : Fin 1920) : EReal :=
  if c.val < 1728 then proj w u ⟨768 + c.val, by omega⟩
  else if h : c.val < 1792 then 0 else proj w u ⟨704 + c.val, by omega⟩

end Cert.Rows

end
-- ==== Proof.Proj.Lists.lean ====
/-
  The two lists of column numbers the kernel is launched with: each names, lane by lane, the lane's rotary partner.
-/
module

public import proofs.«01_k».proof.Proof.Gen.KernelProjIdeal
public import proofs.«01_k».proof.Proof.Proj.Spec

@[expose] public section

set_option maxRecDepth 16384

noncomputable section

namespace Cert.KernelProjIdeal.Hand

open Cert.KernelProjIdeal Idealize.ShloMosaic

/-- The list for the queries' 512 columns. -/
theorem lit0_apply : ∀ c : Fin 512, lit0 c = BitVec.ofNat 32 (Rows.partner c.val) := by
  decide +kernel

/-- The list for the keys' 128 columns. -/
theorem lit1_apply : ∀ c : Fin 128, lit1 c = BitVec.ofNat 32 (Rows.partner c.val) := by
  decide +kernel

end Cert.KernelProjIdeal.Hand

end
-- ==== Proof.Proj.Gather.lean ====
/-
  Columns picked out of a matrix by a list of column numbers, read at an index.
-/
module

public import Idealize.ShloMosaic.Lib.Pointwise
public import Idealize.ShloMosaic.Lib.ValueIdxCore

@[expose] public section

noncomputable section

namespace Cert.Columns

open Idealize.ShloMosaic

/-- The dimension numbers of picking `B` columns out of a matrix of `N` rows and `C` columns. -/
abbrev dims (N C B : Nat)
    (wf : GatherDims.WF ⟨2, ![N, C]⟩ ⟨2, ![B, 1]⟩ ⟨2, ![N, B]⟩ [0] [1] [] [1] [] 1 ![N, 1]) :
    GatherDims ⟨2, ![N, C]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

/-- Column `c` of the result is the column the list names at `c`. -/
theorem gather_apply {α : Type} {N C B : Nat} (wf : GatherDims.WF ⟨2, ![N, C]⟩ ⟨2, ![B, 1]⟩ ⟨2, ![N, B]⟩ [0] [1] [] [1] [] 1 ![N, 1])
    (x : (⟨2, ![N, C]⟩ : Shape).Idx → α) (idx : IVec ⟨2, ![B, 1]⟩ 32) (k : Fin N) (c : Fin B) (b : Fin C)
    (hb : idx (ix2 c 0) = BitVec.ofNat 32 b.val) (hC : C < 2 ^ 31) :
    Host.gather (dims N C B wf) x idx (ix2 k c) = x (ix2 k b) := by
  refine congrArg x (funext fun a => Fin.ext ?_)
  match a with
  | ⟨0, _⟩ => exact Nat.zero_add _
  | ⟨1, _⟩ =>
    have hs : (dims N C B wf).siIdx (ix2 k c) ⟨0, Nat.one_pos⟩ = ix2 c 0 := by
      funext e
      match e with
      | ⟨0, _⟩ => rfl
      | ⟨1, _⟩ => rfl
    have hbl := b.isLt
    have ht : (BitVec.ofNat 32 b.val).toInt.toNat = b.val := by
      rw [BitVec.toInt_eq_toNat_of_lt (by rw [BitVec.toNat_ofNat, Nat.mod_eq_of_lt (by omega)]; omega), BitVec.toNat_ofNat,
        Nat.mod_eq_of_lt (by omega)]
      rfl
    show min (idx ((dims N C B wf).siIdx (ix2 k c) ⟨0, _⟩)).toInt.toNat (C - 1) = b.val
    rw [hs, hb, ht]
    omega

end Cert.Columns

end
-- ==== Proof.Proj.Arrays.lean ====
/-
  The arrays the kernel is launched on, as functions of the arguments: the cosines and sines laid out over the tokens and the
  lanes, and the weight columns in the kernel's order.
-/
module

public import proofs.«01_k».proof.Proof.Gen.KernelProjIdeal.Value
public import proofs.«01_k».proof.Proof.Proj.Lists
public import proofs.«01_k».proof.Proof.Proj.Gather
public import Idealize.ShloMosaic.Lib.Pipeline.ValueKit
public import Idealize.ShloMosaic.Lib.Tactic.WordOmega

@[expose] public section

set_option maxRecDepth 16384

noncomputable section

namespace Cert.KernelProjIdeal.Hand

open Cert.KernelProjIdeal Cert.KernelProjIdeal.Gen Idealize.ShloMosaic Idealize.ShloMosaic.TcCoe Idealize.SL.Sem

variable (m : (ℓ : Loc nD τ sig) → Buf (Elt Ideal) ℓ)

/-- Four tables of 16 lanes side by side over the latent tokens, below a constant for the context's tokens. -/
def lanes64 (z : BitVec 32) (a b c d : FVec Ideal S8192x16 .f32) : FVec Ideal S8448x64 .f32 :=
  concatenate S8448x64 0 [⟨S256x64, broadcastInDim S256x64 ![] bcast_S_S256x64 (constant (F := Ideal) S_ .f32 z)⟩,
    ⟨S8192x64, concatenate S8192x64 1 [⟨S8192x16, a⟩, ⟨S8192x16, b⟩, ⟨S8192x16, c⟩, ⟨S8192x16, d⟩]
      concatenates_S8192x16_S8192x16_S8192x16_S8192x16_S8192x64_d1⟩] concatenates_S256x64_S8192x64_S8448x64_d0

/-- The same lanes twice. -/
def lanes128 (x : FVec Ideal S8448x64 .f32) : FVec Ideal S8448x128 .f32 :=
  concatenate S8448x128 1 [⟨S8448x64, x⟩, ⟨S8448x64, x⟩] concatenates_S8448x64_S8448x64_S8448x128_d1

/-- Lane `l` of the doubled lanes. -/
theorem lanes128_apply (x : FVec Ideal S8448x64 .f32) (n : Fin 8448) (l : Fin 128) :
    lanes128 x (ix2 n l) = x (ix2 n ⟨l.val % 64, by omega⟩) := by
  have hl := l.isLt
  pointwise [lanes128]
  split
  · refine congrArg x (congrArg _ (Fin.ext ?_))
    show l.val = l.val % 64
    omega
  · refine congrArg x (congrArg _ (Fin.ext ?_))
    show l.val - 64 = l.val % 64
    omega

/-- Lane `l` of the four tables side by side. -/
theorem lanes64_apply (z : BitVec 32) (a b c d : FVec Ideal S8192x16 .f32) (n : Fin 8448) (l : Fin 64) :
    lanes64 z a b c d (ix2 n l) = if h : n.val < 256 then Ideal.ofBits .f32 z
      else if l.val < 32 then if l.val % 32 < 16 then a (ix2 ⟨n.val - 256, by omega⟩ ⟨l.val % 16, by omega⟩)
          else b (ix2 ⟨n.val - 256, by omega⟩ ⟨l.val % 16, by omega⟩)
        else if l.val % 32 < 16 then c (ix2 ⟨n.val - 256, by omega⟩ ⟨l.val % 16, by omega⟩)
          else d (ix2 ⟨n.val - 256, by omega⟩ ⟨l.val % 16, by omega⟩) := by
  have hl := l.isLt
  pointwise [lanes64]
  by_cases hn : n.val < 256
  · rw [dif_pos hn, dif_pos hn]
  · rw [dif_neg hn, dif_neg hn]
    (repeat' split) <;> first
      | omega
      | (refine congrArg _ (congrArg (ix2 _) (Fin.ext ?_)); simp only; omega)

/-- The cosines' array. -/
theorem cos_eq (c : Dev nD) : V m c main_v9 = lanes128 (lanes64 0x3F800000#32 (m ((c : Thread nD τ).loc main_arg3))
      (m ((c : Thread nD τ).loc main_arg3)) (m ((c : Thread nD τ).loc main_arg5)) (m ((c : Thread nD τ).loc main_arg5))) := by
  unfold_abbrev_sides
  after_results
  rfl

/-- The factor of a lane's own entry. -/
theorem cos_apply (c : Dev nD) (n : Fin 8448) (l : Fin 128) : V m c main_v9 (ix2 n l)
    = Rows.cosAt (fun n j => m ((c : Thread nD τ).loc main_arg3) (ix2 n j)) (fun n j => m ((c : Thread nD τ).loc main_arg5) (ix2 n j)) n l.val := by
  rw [cos_eq, lanes128_apply, lanes64_apply, Rows.cosAt_mod _ _ _ l.val (l.val % 64) (by omega)]
  have one : Ideal.ofBits .f32 0x3F800000#32 = 1 := by
    simp [Ideal.ofBits, Ideal.ieee, -EReal.coe_mul]; norm_num
  unfold Rows.cosAt
  simp only [one, ite_self, Nat.mod_mod]

/-- The sines' array. -/
theorem sin_eq (c : Dev nD) : V m c main_v10 = lanes128 (lanes64 0x00000000#32 (Host.negf (F := Ideal) (m ((c : Thread nD τ).loc main_arg4)))
      (m ((c : Thread nD τ).loc main_arg4)) (Host.negf (F := Ideal) (m ((c : Thread nD τ).loc main_arg6))) (m ((c : Thread nD τ).loc main_arg6))) := by
  unfold_abbrev_sides
  after_results
  rfl

/-- The factor of the partner's entry. -/
theorem sin_apply (c : Dev nD) (n : Fin 8448) (l : Fin 128) : V m c main_v10 (ix2 n l)
    = Rows.sinAt (fun n j => m ((c : Thread nD τ).loc main_arg4) (ix2 n j)) (fun n j => m ((c : Thread nD τ).loc main_arg6) (ix2 n j)) n l.val := by
  rw [sin_eq, lanes128_apply, lanes64_apply, Rows.sinAt_mod _ _ _ l.val (l.val % 64) (by omega)]
  have zero : Ideal.ofBits .f32 0x00000000#32 = 0 := by
    simp [Ideal.ofBits, Ideal.ieee]
  unfold Rows.sinAt
  simp only [zero, Nat.mod_mod]
  rfl

end Cert.KernelProjIdeal.Hand

end
-- ==== Proof.Proj.Weights.lean ====
/-
  The weight columns in the kernel's order, as a function of the layer's projection matrix: the columns of the queries and
  the keys stand twice, the second time every column in its rotary partner's place; 64 columns of zeros are put in.
-/
module

public import proofs.«01_k».proof.Proof.Gen.KernelProjIdeal.Value
public import proofs.«01_k».proof.Proof.Proj.Lists
public import proofs.«01_k».proof.Proof.Proj.Gather
public import Idealize.ShloMosaic.Lib.Pipeline.ValueKit
public import Idealize.ShloMosaic.Lib.Tactic.WordOmega

@[expose] public section

set_option maxRecDepth 16384

noncomputable section

namespace Cert.KernelProjIdeal.Hand

open Cert.KernelProjIdeal Cert.KernelProjIdeal.Gen Idealize.ShloMosaic Idealize.ShloMosaic.TcCoe Idealize.SL.Sem

variable (w : FVec Ideal S1024x6208 .f32)

/-- The queries' columns. -/
def queryCols : FVec Ideal S1024x512 .f32 := extractStridedSlice S1024x512 ![0, 0] w slices_S1024x6208_S1024x512_0_0

/-- The keys' columns. -/
def keyCols : FVec Ideal S1024x128 .f32 := extractStridedSlice S1024x128 ![0, 512] w slices_S1024x6208_S1024x128_0_512

/-- The list of the queries' partners, as the kernel builds it. -/
def queryList : IVec S512x1 32 := broadcastInDim S512x1 ![0] bcast_S512_S512x1_0
  (select (constantI S512 1 0#1)
    (addi (fun i => lit0 (S512.rowMajor i)) (broadcastInDim S512 ![] bcast_S_S512 (constantI S_ 32 512#32)))
    (fun i => lit0 (S512.rowMajor i)))

/-- The list of the keys' partners, as the kernel builds it. -/
def keyList : IVec S128x1 32 := broadcastInDim S128x1 ![0] bcast_S128_S128x1_0
  (select (constantI S128 1 0#1)
    (addi (fun i => lit1 (S128.rowMajor i)) (broadcastInDim S128 ![] bcast_S_S128 (constantI S_ 32 128#32)))
    (fun i => lit1 (S128.rowMajor i)))

/-- The queries' columns in their partners' places. -/
def queryPartners : FVec Ideal S1024x512 .f32 :=
  Host.gather gather_S1024x512_S512x1_S1024x512_0_1_n_n_1_1_10241 (queryCols w) queryList

/-- The keys' columns in their partners' places. -/
def keyPartners : FVec Ideal S1024x128 .f32 :=
  Host.gather gather_S1024x128_S128x1_S1024x128_0_1_n_n_1_1_10241 (keyCols w) keyList

/-- The recurrence's columns before the zeros are put in. -/
def recurRaw : FVec Ideal S1024x1856 .f32 := extractStridedSlice S1024x1856 ![0, 768] w slices_S1024x6208_S1024x1856_0_768

/-- The recurrence's columns with 64 columns of zeros put in. -/
def recurCols : FVec Ideal S1024x1920 .f32 :=
  concatenate S1024x1920 1 [⟨S1024x1728, extractStridedSlice S1024x1728 ![0, 0] (recurRaw w) slices_S1024x1856_S1024x1728_0_0⟩,
    ⟨S1024x64, broadcastInDim S1024x64 ![] bcast_S_S1024x64 (constant (F := Ideal) S_ .f32 0x00000000#32)⟩,
    ⟨S1024x128, extractStridedSlice S1024x128 ![0, 1728] (recurRaw w) slices_S1024x1856_S1024x128_0_1728⟩]
    concatenates_S1024x1728_S1024x64_S1024x128_S1024x1920_d1

/-- All the columns, in the kernel's order. -/
def allCols : FVec Ideal S1024x6912 .bf16 :=
  truncf .bf16 (concatenate S1024x6912 1 [⟨S1024x512, queryCols w⟩, ⟨S1024x512, queryPartners w⟩, ⟨S1024x128, keyCols w⟩,
    ⟨S1024x128, keyPartners w⟩, ⟨S1024x128, extractStridedSlice S1024x128 ![0, 640] w slices_S1024x6208_S1024x128_0_640⟩,
    ⟨S1024x1920, recurCols w⟩, ⟨S1024x512, extractStridedSlice S1024x512 ![0, 2624] w slices_S1024x6208_S1024x512_0_2624⟩,
    ⟨S1024x3072, extractStridedSlice S1024x3072 ![0, 3136] w slices_S1024x6208_S1024x3072_0_3136⟩]
    concatenates_S1024x512_S1024x512_S1024x128_S1024x128_S1024x128_S1024x1920_S1024x512_S1024x3072_S1024x6912_d1) bitsLt_bf16_f32

/-- The array of weights the kernel is launched on. -/
theorem weights_eq (m : (ℓ : Loc nD τ sig) → Buf (Elt Ideal) ℓ) (c : Dev nD) :
    V m c main_v32 = allCols (m ((c : Thread nD τ).loc main_arg2)) := by
  unfold_abbrev_sides
  after_results
  rfl

/-- The list of the queries' partners, read at a lane. -/
theorem queryList_apply (c : Fin 512) : queryList (ix2 c 0) = BitVec.ofNat 32 (Rows.partner c.val) := by
  refine Eq.trans ?_ (lit0_apply c)
  pointwise [queryList]
  exact congrArg lit0 (Fin.ext (rowMajor_val1 (ix1 c)))

/-- The list of the keys' partners, read at a lane. -/
theorem keyList_apply (c : Fin 128) : keyList (ix2 c 0) = BitVec.ofNat 32 (Rows.partner c.val) := by
  refine Eq.trans ?_ (lit1_apply c)
  pointwise [keyList]
  exact congrArg lit1 (Fin.ext (rowMajor_val1 (ix1 c)))

/-- Column `c` of the queries. -/
theorem queryCols_apply (k : Fin 1024) (c : Fin 512) : queryCols w (ix2 k c) = w (ix2 k ⟨c.val, by omega⟩) := by
  pointwise [queryCols]

/-- Column `c` of the keys. -/
theorem keyCols_apply (k : Fin 1024) (c : Fin 128) : keyCols w (ix2 k c) = w (ix2 k ⟨512 + c.val, by omega⟩) := by
  pointwise [keyCols]

/-- Column `c` of the queries' partners. -/
theorem queryPartners_apply (k : Fin 1024) (c : Fin 512) : queryPartners w (ix2 k c)
    = w (ix2 k ⟨Rows.partner c.val, by have := Rows.partner_lt (n := 16) c.isLt; omega⟩) :=
  (Columns.gather_apply _ (queryCols w) queryList k c ⟨Rows.partner c.val, Rows.partner_lt (n := 16) c.isLt⟩ (queryList_apply c)
    (by decide)).trans (queryCols_apply w k _)

/-- Column `c` of the keys' partners. -/
theorem keyPartners_apply (k : Fin 1024) (c : Fin 128) : keyPartners w (ix2 k c)
    = w (ix2 k ⟨512 + Rows.partner c.val, by have := Rows.partner_lt (n := 4) c.isLt; omega⟩) :=
  (Columns.gather_apply _ (keyCols w) keyList k c ⟨Rows.partner c.val, Rows.partner_lt (n := 4) c.isLt⟩ (keyList_apply c)
    (by decide)).trans (keyCols_apply w k _)

/-- Column `c` of the recurrence. -/
theorem recurCols_apply (k : Fin 1024) (c : Fin 1920) : recurCols w (ix2 k c)
    = if c.val < 1728 then w (ix2 k ⟨768 + c.val, by omega⟩) else if h : c.val < 1792 then 0 else w (ix2 k ⟨704 + c.val, by omega⟩) := by
  pointwise [recurCols, recurRaw]
  have hc := c.isLt
  (repeat' split) <;> first
    | rfl
    | omega
    | (refine congrArg w (congrArg (ix2 _) (Fin.ext ?_)); simp only; omega)

/-- The queries' columns stand first. -/
theorem all_query (k : Fin 1024) (c : Fin 512) : allCols w (ix2 k ⟨c.val, by omega⟩)
    = w (ix2 k ⟨c.val, by omega⟩) := by
  refine Eq.trans ?_ (queryCols_apply w k c)
  unfold allCols
  generalize queryCols w = a, queryPartners w = b, keyCols w = d, keyPartners w = e, recurCols w = f
  pointwise

/-- Then the queries' partners. -/
theorem all_queryPartner (k : Fin 1024) (c : Fin 512) : allCols w (ix2 k ⟨512 + c.val, by omega⟩)
    = w (ix2 k ⟨Rows.partner c.val, by have := Rows.partner_lt (n := 16) c.isLt; omega⟩) := by
  refine Eq.trans ?_ (queryPartners_apply w k c)
  unfold allCols
  generalize queryCols w = a, queryPartners w = b, keyCols w = d, keyPartners w = e, recurCols w = f
  pointwise

/-- Then the keys' columns. -/
theorem all_key (k : Fin 1024) (c : Fin 128) : allCols w (ix2 k ⟨1024 + c.val, by omega⟩)
    = w (ix2 k ⟨512 + c.val, by omega⟩) := by
  refine Eq.trans ?_ (keyCols_apply w k c)
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

/-- Then the keys' partners. -/
theorem all_keyPartner (k : Fin 1024) (c : Fin 128) : allCols w (ix2 k ⟨1152 + c.val, by omega⟩)
    = w (ix2 k ⟨512 + Rows.partner c.val, by have := Rows.partner_lt (n := 4) c.isLt; omega⟩) := by
  refine Eq.trans ?_ (keyPartners_apply w k c)
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

/-- Then the values' columns. -/
theorem all_value (k : Fin 1024) (c : Fin 128) : allCols w (ix2 k ⟨1280 + c.val, by omega⟩)
    = w (ix2 k ⟨640 + c.val, by omega⟩) := by
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

/-- Then the recurrence's columns. -/
theorem all_recur (k : Fin 1024) (c : Fin 1920) : allCols w (ix2 k ⟨1408 + c.val, by omega⟩)
    = if c.val < 1728 then w (ix2 k ⟨768 + c.val, by omega⟩) else if h : c.val < 1792 then 0 else w (ix2 k ⟨704 + c.val, by omega⟩) := by
  refine Eq.trans ?_ (recurCols_apply w k c)
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

/-- Then the state-space mixer's columns. -/
theorem all_state (k : Fin 1024) (c : Fin 512) : allCols w (ix2 k ⟨3328 + c.val, by omega⟩)
    = w (ix2 k ⟨2624 + c.val, by omega⟩) := by
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

/-- Then the gates' columns. -/
theorem all_gate (k : Fin 1024) (c : Fin 3072) : allCols w (ix2 k ⟨3840 + c.val, by omega⟩)
    = w (ix2 k ⟨3136 + c.val, by omega⟩) := by
  unfold allCols
  generalize queryCols w = a, queryPartners w = b, keyCols w = d, keyPartners w = e, recurCols w = f
  pointwise
  have hc := c.isLt
  (repeat' split) <;> first
    | omega
    | (refine congrArg _ (congrArg (ix2 k) (Fin.ext ?_)); simp only; omega)

end Cert.KernelProjIdeal.Hand

end
-- ==== Proof.Proj.Block.lean ====
/-
  The mixers' input projection: what one grid point computes, read at an index of its blocks. A block holds 384 tokens,
  context and latent ones; each takes its own modulation vectors.
-/
module

public import proofs.«01_k».proof.Proof.Gen.KernelProjIdeal.Skeleton
public import proofs.«01_k».proof.Proof.Proj.Spec
public import Idealize.ShloMosaic.Lib.Pipeline.ValueKit
public import Idealize.ShloMosaic.Lib.Tactic.WordOmega

@[expose] public section

set_option maxRecDepth 16384

noncomputable section

namespace Cert.KernelProjIdeal.Hand

open Cert.KernelProjIdeal Cert.KernelProjIdeal.Gen Idealize.ShloMosaic Idealize.ShloMosaic.TcCoe Idealize.SL.Sem

/-- A modulation vector, row by row: the context's for the first 256 tokens, the batch element's for the others. -/
theorem pay4_apply (i : grid0.Coords) (c l : Vec Ideal S1x1x1024 .f32) (r : Fin 384) (k : Fin 1024) :
    k0_pay4 i c l (ix2 r k) = Rows.tokenRow (384 * (i 1).val + r.val) (fun k => c (ix3 0 0 k)) (fun k => l (ix3 0 0 k)) k := by
  have h1 : (i 1).val < 22 := (i 1).isLt
  have hr := r.isLt
  pointwise [k0_pay4, k0_pay3]
  unfold Rows.tokenRow
  generalize (i 1).val = a at h1 ⊢
  have ha : Scalar.muli (BitVec.ofNat 32 a) 384#32 = BitVec.ofNat 32 (384 * a) := by
    interval_cases a <;> rfl
  rw [ha]
  split
  · refine Eq.trans (congrArg (fun s => Scalar.select s _ _) (show _ = 1#1 by word_omega)) (ValueIdx.select_one _ _)
  · refine Eq.trans (congrArg (fun s => Scalar.select s _ _) (show _ = 0#1 by word_omega)) (ValueIdx.select_zero _ _)

/-- The modulation's scale is chosen as its shift is. -/
theorem pay5_apply (i : grid0.Coords) (c l : Vec Ideal S1x1x1024 .f32) (r : Fin 384) (k : Fin 1024) :
    k0_pay5 i c l (ix2 r k) = Rows.tokenRow (384 * (i 1).val + r.val) (fun k => c (ix3 0 0 k)) (fun k => l (ix3 0 0 k)) k :=
  pay4_apply i c l r k

/-- A row less its mean. -/
theorem pay6_apply (x : Vec Ideal S1x384x1024 .f32) (r : Fin 384) (k : Fin 1024) :
    k0_pay6 x (ix2 r k) = x (ix3 0 r k) - Rows.mean fun k => x (ix3 0 r k) := by
  pointwise [k0_pay6]
  rfl

/-- The sum of the squares of a row less its mean. -/
theorem pay7_apply (x : Vec Ideal S1x384x1024 .f32) (r : Fin 384) :
    k0_pay7 x (ix1 r) = ∑ k : Fin 1024, (x (ix3 0 r k) - Rows.mean fun k => x (ix3 0 r k)) * (x (ix3 0 r k) - Rows.mean fun k => x (ix3 0 r k)) := by
  pointwise [k0_pay7]
  simp only [pay6_apply]

/-- The modulated rows. -/
theorem row_apply (i : grid0.Coords) (x : Vec Ideal S1x384x1024 .f32) (c l c' l' : Vec Ideal S1x1x1024 .f32) (r : Fin 384) (k : Fin 1024) :
    k0_pay8 (k0_pay4 i c l) (k0_pay5 i c' l') (k0_pay6 x) (k0_pay7 x) (ix2 r k)
      = Rows.modulated (fun k => x (ix3 0 r k))
          (Rows.tokenRow (384 * (i 1).val + r.val) (fun k => c (ix3 0 0 k)) (fun k => l (ix3 0 0 k)))
          (Rows.tokenRow (384 * (i 1).val + r.val) (fun k => c' (ix3 0 0 k)) (fun k => l' (ix3 0 0 k))) k := by
  have h4 := pay4_apply i c l r
  have h5 := pay5_apply i c' l' r
  have h6 := pay6_apply x r
  have h7 := pay7_apply x r
  generalize k0_pay4 i c l = a at h4 ⊢
  generalize k0_pay5 i c' l' = b at h5 ⊢
  generalize k0_pay6 x = d at h6 ⊢
  generalize k0_pay7 x = e at h7 ⊢
  pointwise [k0_pay8]
  simp only [h4, h5, h6, h7]
  rfl

variable (u : FVec Ideal S384x1024 .bf16) (cos sin : FVec Ideal S384x128 .f32)

/-- A rotated block of 128 query columns. -/
theorem pay16_apply (w w' : Vec Ideal S1024x128 .bf16) (r : Fin 384) (q : Fin 128) :
    k0_pay17 (k0_pay16 u cos sin w w') (ix3 0 r q)
      = ((∑ k : Fin 1024, u (ix2 r k) * w (ix2 k q)) * cos (ix2 r q) + (∑ k : Fin 1024, u (ix2 r k) * w' (ix2 k q)) * sin (ix2 r q))
        * Rows.eighth := by
  pointwise [k0_pay17, k0_pay16]

/-- The third block of query columns is computed as the last is. -/
theorem pay15_apply (w w' : Vec Ideal S1024x128 .bf16) (r : Fin 384) (q : Fin 128) :
    k0_pay15 u cos sin w w' (ix3 0 r q)
      = ((∑ k : Fin 1024, u (ix2 r k) * w (ix2 k q)) * cos (ix2 r q) + (∑ k : Fin 1024, u (ix2 r k) * w' (ix2 k q)) * sin (ix2 r q))
        * Rows.eighth := by
  pointwise [k0_pay15]

/-- The rotated key columns. -/
theorem pay18_apply (w w' : Vec Ideal S1024x128 .bf16) (r : Fin 384) (q : Fin 128) :
    k0_pay18 u cos sin w w' (ix3 0 r q)
      = (∑ k : Fin 1024, u (ix2 r k) * w (ix2 k q)) * cos (ix2 r q) + (∑ k : Fin 1024, u (ix2 r k) * w' (ix2 k q)) * sin (ix2 r q) := by
  pointwise [k0_pay18]

/-- The value columns. -/
theorem pay19_apply (w : Vec Ideal S1024x128 .bf16) (r : Fin 384) (q : Fin 128) :
    k0_pay19 u w (ix3 0 r q) = ∑ k : Fin 1024, u (ix2 r k) * w (ix2 k q) := by
  pointwise [k0_pay19]

/-- The recurrence's columns. -/
theorem pay20_apply (w : Vec Ideal S1024x1920 .bf16) (r : Fin 384) (q : Fin 1920) :
    k0_pay20 u w (ix3 0 r q) = ∑ k : Fin 1024, u (ix2 r k) * w (ix2 k q) := by
  pointwise [k0_pay20]

/-- The state-space mixer's columns. -/
theorem pay1_apply (w : Vec Ideal S1024x512 .bf16) (r : Fin 384) (q : Fin 512) :
    k0_pay1 u w (ix3 0 r q) = ∑ k : Fin 1024, u (ix2 r k) * w (ix2 k q) := by
  pointwise [k0_pay1]

/-- The gates' columns. -/
theorem pay2_apply (w : Vec Ideal S1024x3072 .bf16) (r : Fin 384) (q : Fin 3072) :
    k0_pay2 u w (ix3 0 r q) = ∑ k : Fin 1024, u (ix2 r k) * w (ix2 k q) := by
  pointwise [k0_pay2]

end Cert.KernelProjIdeal.Hand

end
-- ==== Proof.Proj.Out.lean ====
/-
  The mixers' input projection: the blocks one grid point leaves, in terms of the blocks it reads.
-/
module

public import proofs.«01_k».proof.Proof.Gen.KernelProjIdeal.Value
public import proofs.«01_k».proof.Proof.Proj.Block

@[expose] public section

set_option maxRecDepth 16384

noncomputable section

namespace Cert.KernelProjIdeal.Hand

open Cert.KernelProjIdeal Cert.KernelProjIdeal.Gen Idealize.ShloMosaic Idealize.ShloMosaic.TcCoe Idealize.SL.Sem

variable (i : grid0.Coords) (x0 : Vec Ideal S1x384x1024 .f32) (x1 x2 : Vec Ideal S1x9x1024 .f32) (x3 x4 : Vec Ideal S384x128 .f32)
  (x5 : Vec Ideal S1024x6912 .bf16)

/-- A modulated row of the block. -/
abbrev blockRow (r : Fin 384) : Fin 1024 → EReal :=
  Rows.modulated (fun k => x0 (ix3 0 r k))
    (Rows.tokenRow (384 * (i 1).val + r.val) (fun k => x2 (ix3 0 3 k)) (fun k => x1 (ix3 0 3 k)))
    (Rows.tokenRow (384 * (i 1).val + r.val) (fun k => x2 (ix3 0 4 k)) (fun k => x1 (ix3 0 4 k)))

/-- The rows every product of the block is taken of. -/
theorem row25_apply (r : Fin 384) (k : Fin 1024) : k0_pay25 i x0 x1 x2 x3 x4 x5 (ix2 r k) = blockRow i x0 x1 x2 r k := by
  refine (row_apply i _ _ _ _ _ r k).trans ?_
  refine Rows.modulated_congr (fun k => ?_) (fun k => Rows.tokenRow_congr rfl (fun k => ?_) (fun k => ?_) k)
    (fun k => Rows.tokenRow_congr rfl (fun k => ?_) (fun k => ?_) k) k <;> pointwise

/-- The cosines' block. -/
theorem cos26_apply (r : Fin 384) (l : Fin 128) : k0_pay26 i x0 x1 x2 x3 x4 x5 (ix2 r l) = x3 (ix2 r l) := by
  pointwise [k0_pay26, k0_pay9]

/-- The sines' block. -/
theorem sin27_apply (r : Fin 384) (l : Fin 128) : k0_pay27 i x0 x1 x2 x3 x4 x5 (ix2 r l) = x4 (ix2 r l) := by
  pointwise [k0_pay27, k0_pay10]

/-- The values' block. -/
theorem out8_apply (r : Fin 384) (q : Fin 128) : out0_8 i x0 x1 x2 x3 x4 x5 (ix3 0 r q)
    = ∑ k : Fin 1024, blockRow i x0 x1 x2 r k * x5 (ix2 k ⟨1280 + q.val, by omega⟩) := by
  unfold out0_8
  rw [View.canon_cons_unit_lit _ _ _ (by decide)]
  refine (pay19_apply _ _ r q).trans (Finset.sum_congr rfl fun k _ => ?_)
  rw [row25_apply]
  exact congrArg _ (by pointwise)

/-- The recurrence's block. -/
theorem out9_apply (r : Fin 384) (q : Fin 1920) : out0_9 i x0 x1 x2 x3 x4 x5 (ix3 0 r q)
    = ∑ k : Fin 1024, blockRow i x0 x1 x2 r k * x5 (ix2 k ⟨1408 + q.val, by omega⟩) := by
  unfold out0_9
  rw [View.canon_cons_unit_lit _ _ _ (by decide)]
  refine (pay20_apply _ _ r q).trans (Finset.sum_congr rfl fun k _ => ?_)
  rw [row25_apply]
  exact congrArg _ (by pointwise)

/-- The state-space mixer's block. -/
theorem out10_apply (r : Fin 384) (q : Fin 512) : out0_10 i x0 x1 x2 x3 x4 x5 (ix3 0 r q)
    = ∑ k : Fin 1024, blockRow i x0 x1 x2 r k * x5 (ix2 k ⟨3328 + q.val, by omega⟩) := by
  unfold out0_10
  rw [View.canon_cons_unit_lit _ _ _ (by decide)]
  refine (pay1_apply _ _ r q).trans (Finset.sum_congr rfl fun k _ => ?_)
  rw [row25_apply]
  exact congrArg _ (by pointwise)

/-- The gates' block. -/
theorem out11_apply (r : Fin 384) (q : Fin 3072) : out0_11 i x0 x1 x2 x3 x4 x5 (ix3 0 r q)
    = ∑ k : Fin 1024, blockRow i x0 x1 x2 r k * x5 (ix2 k ⟨3840 + q.val, by omega⟩) := by
  unfold out0_11
  rw [View.canon_cons_unit_lit _ _ _ (by decide)]
  refine (pay2_apply _ _ r q).trans (Finset.sum_congr rfl fun k _ => ?_)
  rw [row25_apply]
  exact congrArg _ (by pointwise)

/-- The keys' block. -/
theorem out7_apply (r : Fin 384) (q : Fin 128) : out0_7 i x0 x1 x2 x3 x4 x5 (ix3 0 r q)
    = (∑ k : Fin 1024, blockRow i x0 x1 x2 r k * x5 (ix2 k ⟨1024 + q.val, by omega⟩)) * x3 (ix2 r q)
      + (∑ k : Fin 1024, blockRow i x0 x1 x2 r k * x5 (ix2 k ⟨1152 + q.val, by omega⟩)) * x4 (ix2 r q) := by
  unfold out0_7
  rw [View.canon_cons_unit_lit _ _ _ (by decide)]
  refine (pay18_apply _ _ _ _ _ r q).trans ?_
  rw [cos26_apply, sin27_apply]
  refine congrArg₂ (· + ·) (congrArg (· * _) (Finset.sum_congr rfl fun k _ => ?_)) (congrArg (· * _) (Finset.sum_congr rfl fun k _ => ?_))
  · rw [row25_apply]
    exact congrArg _ (by pointwise)
  · rw [row25_apply]
    exact congrArg _ (by pointwise)

/-- The entry of the queries' block at column `c`. -/
def queryEntry (r : Fin 384) (c : Fin 512) : EReal :=
  ((∑ k : Fin 1024, blockRow i x0 x1 x2 r k * x5 (ix2 k ⟨c.val, by omega⟩)) * x3 (ix2 r ⟨c.val % 128, by omega⟩)
    + (∑ k : Fin 1024, blockRow i x0 x1 x2 r k * x5 (ix2 k ⟨512 + c.val, by omega⟩)) * x4 (ix2 r ⟨c.val % 128, by omega⟩)) * Rows.eighth

/-- A block of 128 query columns, rotated, holds the entries of its columns. -/
theorem query_block (o : Nat) (w w' : Vec Ideal S1024x128 .bf16) (r : Fin 384) (q : Fin 128) (c : Fin 512) (h : c.val = o + q.val)
    (ho : o % 128 = 0) (hw : ∀ k : Fin 1024, w (ix2 k q) = x5 (ix2 k ⟨c.val, by omega⟩))
    (hw' : ∀ k : Fin 1024, w' (ix2 k q) = x5 (ix2 k ⟨512 + c.val, by omega⟩)) :
    k0_pay15 (k0_pay25 i x0 x1 x2 x3 x4 x5) (k0_pay26 i x0 x1 x2 x3 x4 x5) (k0_pay27 i x0 x1 x2 x3 x4 x5) w w' (ix3 0 r q)
      = queryEntry i x0 x1 x2 x3 x4 x5 r c := by
  have e : q = ⟨c.val % 128, by omega⟩ := Fin.ext (by show q.val = c.val % 128; omega)
  refine (pay15_apply _ _ _ _ _ r q).trans ?_
  rw [cos26_apply, sin27_apply]
  unfold queryEntry
  rw [← e]
  simp only [row25_apply, hw, hw']

/-- The queries' block. -/
theorem out6_apply (r : Fin 384) (c : Fin 512) : out0_6 i x0 x1 x2 x3 x4 x5 (ix3 0 r c) = queryEntry i x0 x1 x2 x3 x4 x5 r c := by
  canon_tiles y h
  all_goals
    idx_vars y
    obtain rfl : y0 = 0 := Subsingleton.elim _ _
    obtain rfl : r = y1 := Fin.ext h1
  · have e : c = ⟨384 + y2.val, by have := y2.isLt; omega⟩ := Fin.ext h2
    rw [e]
    refine query_block i x0 x1 x2 x3 x4 x5 384 (View.ld x5 r0_13) (View.ld x5 r0_14) r y2 _ rfl rfl (fun k => ?_) (fun k => ?_)
    · pointwise
    · pointwise
      exact congrArg x5 (congrArg (ix2 k) (Fin.ext (by simp only; omega)))
  · have e : c = ⟨256 + y2.val, by have := y2.isLt; omega⟩ := Fin.ext h2
    rw [e]
    refine query_block i x0 x1 x2 x3 x4 x5 256 (View.ld x5 r0_10) (View.ld x5 r0_11) r y2 _ rfl rfl (fun k => ?_) (fun k => ?_)
    · pointwise
    · pointwise
      exact congrArg x5 (congrArg (ix2 k) (Fin.ext (by simp only; omega)))
  · have e : c = ⟨128 + y2.val, by have := y2.isLt; omega⟩ := Fin.ext h2
    rw [e]
    refine query_block i x0 x1 x2 x3 x4 x5 128 (View.ld x5 r0_7) (View.ld x5 r0_8) r y2 _ rfl rfl (fun k => ?_) (fun k => ?_)
    · pointwise
    · pointwise
      exact congrArg x5 (congrArg (ix2 k) (Fin.ext (by simp only; omega)))
  · have e : c = ⟨0 + y2.val, by have := y2.isLt; omega⟩ := Fin.ext (by show c.val = 0 + y2.val; omega)
    rw [e]
    refine query_block i x0 x1 x2 x3 x4 x5 0 (View.ld x5 r0_4) (View.ld x5 r0_5) r y2 _ rfl rfl (fun k => ?_) (fun k => ?_)
    · pointwise
    · pointwise

end Cert.KernelProjIdeal.Hand

end
-- ==== Proof.Proj.KernelReads.lean ====
/-
  The mixers' input projection: what a grid point's blocks hold, as functions of the arguments.
-/
module

public import proofs.«01_k».proof.Proof.Gen.KernelProjIdeal.Value
public import proofs.«01_k».proof.Proof.Proj.Arrays
public import proofs.«01_k».proof.Proof.Proj.Weights
public import proofs.«01_k».proof.Proof.Proj.Out

@[expose] public section

set_option maxRecDepth 16384

noncomputable section

namespace Cert.KernelProjIdeal.Hand

open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 384 tokens. -/
theorem idx : ∀ t : Fin cfg0.N,
    win0_0.index t = ![t.val / 22, t.val % 22, 0] ∧ win0_1.index t = ![t.val / 22, 0, 0] ∧ win0_2.index t = ![4, 0, 0]
      ∧ win0_3.index t = ![t.val % 22, 0] ∧ win0_4.index t = ![t.val % 22, 0] ∧ win0_5.index t = ![0, 0]
      ∧ win0_6.index t = ![t.val / 22, t.val % 22, 0] ∧ win0_7.index t = ![t.val / 22, t.val % 22, 0]
      ∧ win0_8.index t = ![t.val / 22, t.val % 22, 0] ∧ win0_9.index t = ![t.val / 22, t.val % 22, 0]
      ∧ win0_10.index t = ![t.val / 22, t.val % 22, 0] ∧ win0_11.index t = ![t.val / 22, t.val % 22, 0]
      ∧ t.val / 22 < 4 ∧ (grid0.coords t 1).val = t.val % 22 :=
  (by decide +kernel : ∀ t : Fin grid0.N, _)

/-- The modulation vector of token `r` of batch `bt` that starts at column `o`. -/
abbrev modRow (md : FVec Ideal S5x9216 .f32) (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- Token `r` of batch `bt` of the stream, modulated. -/
abbrev tokenAt (x : FVec Ideal S4x8448x1024 .f32) (md : FVec Ideal S5x9216 .f32) (bt : Fin 4) (r : Fin 8448) : Fin 1024 → EReal :=
  Rows.modulated (fun k => x (ix3 bt r k)) (modRow md 3072 (by decide) bt r) (modRow md 4096 (by decide) bt r)

/-- A table of 16 lanes, by token and lane. -/
abbrev table (a : FVec Ideal S8192x16 .f32) : Fin 8192 → Fin 16 → EReal := fun n j => a (ix2 n j)

/-- A matrix of projection weights, by row and column. -/
abbrev matrix (w : FVec Ideal S1024x6208 .f32) : Fin 1024 → Fin 6208 → EReal := fun k q => w (ix2 k q)

/-- What the run leaves: an entry of the projection. -/
abbrev projEntry (m : (ℓ : Loc nD τ sig) → Buf (Elt Ideal) ℓ) (c : Dev nD) (bt : Fin 4) (n : Fin 8448) (q : Fin 6208) : EReal :=
  Rows.proj (matrix (m ((c : Thread nD τ).loc main_arg2)))
    (tokenAt (m ((c : Thread nD τ).loc main_arg0)) (m ((c : Thread nD τ).loc main_arg1)) bt n) q

/-- What the run leaves: an entry of the queries. -/
abbrev queryAt (m : (ℓ : Loc nD τ sig) → Buf (Elt Ideal) ℓ) (c : Dev nD) (bt : Fin 4) (n : Fin 8448) (q : Fin 512) : EReal :=
  Rows.queryAt (table (m ((c : Thread nD τ).loc main_arg3))) (table (m ((c : Thread nD τ).loc main_arg4)))
    (table (m ((c : Thread nD τ).loc main_arg5))) (table (m ((c : Thread nD τ).loc main_arg6)))
    (matrix (m ((c : Thread nD τ).loc main_arg2)))
    (tokenAt (m ((c : Thread nD τ).loc main_arg0)) (m ((c : Thread nD τ).loc main_arg1)) bt n) n q

/-- What the run leaves: an entry of the keys. -/
abbrev keyAt (m : (ℓ : Loc nD τ sig) → Buf (Elt Ideal) ℓ) (c : Dev nD) (bt : Fin 4) (n : Fin 8448) (q : Fin 128) : EReal :=
  Rows.keyAt (table (m ((c : Thread nD τ).loc main_arg3))) (table (m ((c : Thread nD τ).loc main_arg4)))
    (table (m ((c : Thread nD τ).loc main_arg5))) (table (m ((c : Thread nD τ).loc main_arg6)))
    (matrix (m ((c : Thread nD τ).loc main_arg2)))
    (tokenAt (m ((c : Thread nD τ).loc main_arg0)) (m ((c : Thread nD τ).loc main_arg1)) bt n) n q

/-- What the run leaves: an entry of the recurrence's input. -/
abbrev recurAt (m : (ℓ : Loc nD τ sig) → Buf (Elt Ideal) ℓ) (c : Dev nD) (bt : Fin 4) (n : Fin 8448) (q : Fin 1920) : EReal :=
  Rows.recurAt (matrix (m ((c : Thread nD τ).loc main_arg2)))
    (tokenAt (m ((c : Thread nD τ).loc main_arg0)) (m ((c : Thread nD τ).loc main_arg1)) bt n) q

/-- What the run leaves: an entry of the values. -/
abbrev valueAt (m : (ℓ : Loc nD τ sig) → Buf (Elt Ideal) ℓ) (c : Dev nD) (bt : Fin 4) (n : Fin 8448) (q : Fin 128) : EReal :=
  projEntry m c bt n ⟨640 + q.val, by omega⟩

/-- What the run leaves: an entry of the state-space mixer's input. -/
abbrev stateAt (m : (ℓ : Loc nD τ sig) → Buf (Elt Ideal) ℓ) (c : Dev nD) (bt : Fin 4) (n : Fin 8448) (q : Fin 512) : EReal :=
  projEntry m c bt n ⟨2624 + q.val, by omega⟩

/-- What the run leaves: an entry of the gates' logits. -/
abbrev gateAt (m : (ℓ : Loc nD τ sig) → Buf (Elt Ideal) ℓ) (c : Dev nD) (bt : Fin 4) (n : Fin 8448) (q : Fin 3072) : EReal :=
  projEntry m c bt n ⟨3136 + q.val, by omega⟩

section Reads

variable (c : Dev nD) (t : Fin cfg0.N)

/-- The block of the token stream. -/
theorem read0 (bt : Fin 4) (ti : Fin 22) (hb : bt.val = t.val / 22) (hi : ti.val = t.val % 22) (r : Fin 384) (k : Fin 1024) :
    (iblk m c 0 t : Vec Ideal S1x384x1024 .f32) (ix3 0 r k)
      = m ((c : Thread nD τ).loc main_arg0) (ix3 bt ⟨384 * ti.val + r.val, by omega⟩ k) := by
  blk_point [iblk, V, idx t]

/-- The block of the batch element's modulation vectors. -/
theorem read1 (bt : Fin 4) (hb : bt.val = t.val / 22) (s : Fin 9) (k : Fin 1024) :
    (iblk m c 1 t : Vec Ideal S1x9x1024 .f32) (ix3 0 s k)
      = m ((c : Thread nD τ).loc main_arg1) (ix2 ⟨bt.val, by omega⟩ ⟨1024 * s.val + k.val, by omega⟩) := by
  blk_point [iblk, V, idx t]

/-- The block of the context's modulation vectors. -/
theorem read2 (s : Fin 9) (k : Fin 1024) :
    (iblk m c 2 t : Vec Ideal S1x9x1024 .f32) (ix3 0 s k)
      = m ((c : Thread nD τ).loc main_arg1) (ix2 4 ⟨1024 * s.val + k.val, by omega⟩) := by
  blk_point [iblk, V, idx t]

/-- The block of the cosines. -/
theorem read3 (ti : Fin 22) (hi : ti.val = t.val % 22) (r : Fin 384) (l : Fin 128) :
    (iblk m c 3 t : Vec Ideal S384x128 .f32) (ix2 r l)
      = Rows.cosAt (table (m ((c : Thread nD τ).loc main_arg3))) (table (m ((c : Thread nD τ).loc main_arg5)))
          ⟨384 * ti.val + r.val, by omega⟩ l.val := by
  blk_simp [iblk]
  have e : (win0_3.blk t).view.emb (ix2 r l) = ix2 ⟨384 * ti.val + r.val, by omega⟩ l := by
    blk_ext [idx t]
  exact (congrArg _ e).trans (cos_apply m c _ l)

/-- The block of the sines. -/
theorem read4 (ti : Fin 22) (hi : ti.val = t.val % 22) (r : Fin 384) (l : Fin 128) :
    (iblk m c 4 t : Vec Ideal S384x128 .f32) (ix2 r l)
      = Rows.sinAt (table (m ((c : Thread nD τ).loc main_arg4))) (table (m ((c : Thread nD τ).loc main_arg6)))
          ⟨384 * ti.val + r.val, by omega⟩ l.val := by
  blk_simp [iblk]
  have e : (win0_4.blk t).view.emb (ix2 r l) = ix2 ⟨384 * ti.val + r.val, by omega⟩ l := by
    blk_ext [idx t]
  exact (congrArg _ e).trans (sin_apply m c _ l)

/-- The block of the weights is all of them. -/
theorem read5 (k : Fin 1024) (q : Fin 6912) :
    (iblk m c 5 t : Vec Ideal S1024x6912 .bf16) (ix2 k q) = allCols (m ((c : Thread nD τ).loc main_arg2)) (ix2 k q) := by
  blk_simp [iblk]
  have e : (win0_5.blk t).view.emb (ix2 k q) = ix2 k q := by
    blk_ext [idx t]
  exact (congrArg _ e).trans (congrFun (weights_eq m c) _)

/-- A modulated row of a grid point's block. -/
theorem row_eq (bt : Fin 4) (ti : Fin 22) (hb : bt.val = t.val / 22) (hi : ti.val = t.val % 22) (r : Fin 384) (k : Fin 1024) :
    blockRow (grid0.coords t) (iblk m c 0 t) (iblk m c 1 t) (iblk m c 2 t) r k
      = tokenAt (m ((c : Thread nD τ).loc main_arg0)) (m ((c : Thread nD τ).loc main_arg1)) bt ⟨384 * ti.val + r.val, by omega⟩ k := by
  have h1 : (grid0.coords t 1).val = ti.val := (idx t).2.2.2.2.2.2.2.2.2.2.2.2.2.trans hi.symm
  refine Rows.modulated_congr (fun k => read0 m c t bt ti hb hi r k) (fun k => ?_) (fun k => ?_) k
  · exact Rows.tokenRow_congr (by rw [h1]) (fun k => read2 m c t 3 k) (fun k => read1 m c t bt hb 3 k) k
  · exact Rows.tokenRow_congr (by rw [h1]) (fun k => read2 m c t 4 k) (fun k => read1 m c t bt hb 4 k) k

/-- A sum over the values' columns. -/
theorem value_sum (bt : Fin 4) (ti : Fin 22) (hb : bt.val = t.val / 22) (hi : ti.val = t.val % 22) (r : Fin 384) (q : Fin 128) :
    ∑ k : Fin 1024, blockRow (grid0.coords t) (iblk m c 0 t) (iblk m c 1 t) (iblk m c 2 t) r k * (iblk m c 5 t : Vec Ideal S1024x6912 .bf16) (ix2 k ⟨1280 + q.val, by omega⟩)
      = valueAt m c bt ⟨384 * ti.val + r.val, by omega⟩ q := by
  refine Finset.sum_congr rfl fun k _ => ?_
  rw [row_eq m c t bt ti hb hi r k, read5, all_value]

/-- A sum over the state-space mixer's columns. -/
theorem state_sum (bt : Fin 4) (ti : Fin 22) (hb : bt.val = t.val / 22) (hi : ti.val = t.val % 22) (r : Fin 384) (q : Fin 512) :
    ∑ k : Fin 1024, blockRow (grid0.coords t) (iblk m c 0 t) (iblk m c 1 t) (iblk m c 2 t) r k * (iblk m c 5 t : Vec Ideal S1024x6912 .bf16) (ix2 k ⟨3328 + q.val, by omega⟩)
      = stateAt m c bt ⟨384 * ti.val + r.val, by omega⟩ q := by
  refine Finset.sum_congr rfl fun k _ => ?_
  rw [row_eq m c t bt ti hb hi r k, read5, all_state]

/-- A sum over the gates' columns. -/
theorem gate_sum (bt : Fin 4) (ti : Fin 22) (hb : bt.val = t.val / 22) (hi : ti.val = t.val % 22) (r : Fin 384) (q : Fin 3072) :
    ∑ k : Fin 1024, blockRow (grid0.coords t) (iblk m c 0 t) (iblk m c 1 t) (iblk m c 2 t) r k * (iblk m c 5 t : Vec Ideal S1024x6912 .bf16) (ix2 k ⟨3840 + q.val, by omega⟩)
      = gateAt m c bt ⟨384 * ti.val + r.val, by omega⟩ q := by
  refine Finset.sum_congr rfl fun k _ => ?_
  rw [row_eq m c t bt ti hb hi r k, read5, all_gate]

/-- A sum over the keys' columns. -/
theorem key_sum (bt : Fin 4) (ti : Fin 22) (hb : bt.val = t.val / 22) (hi : ti.val = t.val % 22) (r : Fin 384) (q : Fin 128) :
    ∑ k : Fin 1024, blockRow (grid0.coords t) (iblk m c 0 t) (iblk m c 1 t) (iblk m c 2 t) r k * (iblk m c 5 t : Vec Ideal S1024x6912 .bf16) (ix2 k ⟨1024 + q.val, by omega⟩)
      = projEntry m c bt ⟨384 * ti.val + r.val, by omega⟩ ⟨512 + q.val, by omega⟩ := by
  refine Finset.sum_congr rfl fun k _ => ?_
  rw [row_eq m c t bt ti hb hi r k, read5, all_key]

/-- A sum over the keys' partners' columns. -/
theorem keyPartner_sum (bt : Fin 4) (ti : Fin 22) (hb : bt.val = t.val / 22) (hi : ti.val = t.val % 22) (r : Fin 384) (q : Fin 128) :
    ∑ k : Fin 1024, blockRow (grid0.coords t) (iblk m c 0 t) (iblk m c 1 t) (iblk m c 2 t) r k * (iblk m c 5 t : Vec Ideal S1024x6912 .bf16) (ix2 k ⟨1152 + q.val, by omega⟩)
      = projEntry m c bt ⟨384 * ti.val + r.val, by omega⟩ ⟨512 + Rows.partner q.val, by have := Rows.partner_lt (n := 4) q.isLt; omega⟩ := by
  refine Finset.sum_congr rfl fun k _ => ?_
  rw [row_eq m c t bt ti hb hi r k, read5, all_keyPartner]

/-- A sum over the queries' columns. -/
theorem query_sum (bt : Fin 4) (ti : Fin 22) (hb : bt.val = t.val / 22) (hi : ti.val = t.val % 22) (r : Fin 384) (q : Fin 512) :
    ∑ k : Fin 1024, blockRow (grid0.coords t) (iblk m c 0 t) (iblk m c 1 t) (iblk m c 2 t) r k * (iblk m c 5 t : Vec Ideal S1024x6912 .bf16) (ix2 k ⟨q.val, by omega⟩)
      = projEntry m c bt ⟨384 * ti.val + r.val, by omega⟩ ⟨q.val, by omega⟩ := by
  refine Finset.sum_congr rfl fun k _ => ?_
  rw [row_eq m c t bt ti hb hi r k, read5, all_query]

/-- A sum over the queries' partners' columns. -/
theorem queryPartner_sum (bt : Fin 4) (ti : Fin 22) (hb : bt.val = t.val / 22) (hi : ti.val = t.val % 22) (r : Fin 384) (q : Fin 512) :
    ∑ k : Fin 1024, blockRow (grid0.coords t) (iblk m c 0 t) (iblk m c 1 t) (iblk m c 2 t) r k * (iblk m c 5 t : Vec Ideal S1024x6912 .bf16) (ix2 k ⟨512 + q.val, by omega⟩)
      = projEntry m c bt ⟨384 * ti.val + r.val, by omega⟩ ⟨Rows.partner q.val, by have := Rows.partner_lt (n := 16) q.isLt; omega⟩ := by
  refine Finset.sum_congr rfl fun k _ => ?_
  rw [row_eq m c t bt ti hb hi r k, read5, all_queryPartner]

/-- A sum over the recurrence's columns. -/
theorem recur_sum (bt : Fin 4) (ti : Fin 22) (hb : bt.val = t.val / 22) (hi : ti.val = t.val % 22) (r : Fin 384) (q : Fin 1920) :
    ∑ k : Fin 1024, blockRow (grid0.coords t) (iblk m c 0 t) (iblk m c 1 t) (iblk m c 2 t) r k * (iblk m c 5 t : Vec Ideal S1024x6912 .bf16) (ix2 k ⟨1408 + q.val, by omega⟩)
      = recurAt m c bt ⟨384 * ti.val + r.val, by omega⟩ q := by
  have e : ∀ k : Fin 1024, (iblk m c 5 t : Vec Ideal S1024x6912 .bf16) (ix2 k ⟨1408 + q.val, by omega⟩) = _ :=
    fun k => (read5 m c t k _).trans (all_recur _ k q)
  simp only [e, row_eq m c t bt ti hb hi r]
  unfold recurAt Rows.recurAt
  by_cases h1 : q.val < 1728
  · simp only [if_pos h1]
    rfl
  · by_cases h2 : q.val < 1792
    · simp only [if_neg h1, dif_pos h2, mul_zero, Finset.sum_const_zero]
    · simp only [if_neg h1, dif_neg h2]
      rfl

/-- The keys' block holds the rotated keys. -/
theorem key_entry (bt : Fin 4) (ti : Fin 22) (hb : bt.val = t.val / 22) (hi : ti.val = t.val % 22) (r : Fin 384) (q : Fin 128) :
    (∑ k : Fin 1024, blockRow (grid0.coords t) (iblk m c 0 t) (iblk m c 1 t) (iblk m c 2 t) r k * (iblk m c 5 t : Vec Ideal S1024x6912 .bf16) (ix2 k ⟨1024 + q.val, by omega⟩))
        * (iblk m c 3 t : Vec Ideal S384x128 .f32) (ix2 r q)
      + (∑ k : Fin 1024, blockRow (grid0.coords t) (iblk m c 0 t) (iblk m c 1 t) (iblk m c 2 t) r k * (iblk m c 5 t : Vec Ideal S1024x6912 .bf16) (ix2 k ⟨1152 + q.val, by omega⟩))
        * (iblk m c 4 t : Vec Ideal S384x128 .f32) (ix2 r q)
      = keyAt m c bt ⟨384 * ti.val + r.val, by omega⟩ q := by
  rw [key_sum m c t bt ti hb hi r q, keyPartner_sum m c t bt ti hb hi r q, read3 m c t ti hi r q, read4 m c t ti hi r q]
  exact Rows.rope_eq _ _ _ _ _ _ _ _

/-- The queries' block holds the rotated queries. -/
theorem query_entry (bt : Fin 4) (ti : Fin 22) (hb : bt.val = t.val / 22) (hi : ti.val = t.val % 22) (r : Fin 384) (q : Fin 512) :
    queryEntry (grid0.coords t) (iblk m c 0 t) (iblk m c 1 t) (iblk m c 2 t) (iblk m c 3 t) (iblk m c 4 t) (iblk m c 5 t) r q
      = queryAt m c bt ⟨384 * ti.val + r.val, by omega⟩ q := by
  unfold queryEntry
  rw [query_sum m c t bt ti hb hi r q, queryPartner_sum m c t bt ti hb hi r q, read3 m c t ti hi r, read4 m c t ti hi r,
    Rows.cosAt_mod _ _ _ (q.val % 128) q.val (by omega), Rows.sinAt_mod _ _ _ (q.val % 128) q.val (by omega)]
  exact congrArg (· * Rows.eighth) (Rows.rope_eq _ _ _ _ _ _ _ _)

end Reads

/-- The grid point's batch and tile. -/
theorem batch_tile (t : Fin cfg0.N) : ∃ (bt : Fin 4) (ti : Fin 22), bt.val = t.val / 22 ∧ ti.val = t.val % 22 :=
  ⟨⟨t.val / 22, (idx t).2.2.2.2.2.2.2.2.2.2.2.2.1⟩, ⟨t.val % 22, Nat.mod_lt _ (by decide)⟩, rfl, rfl⟩

end Cert.KernelProjIdeal.Hand

end
-- ==== Proof.Proj.KernelValue.lean ====
/-
  The mixers' input projection: what the kernel's six result arrays hold after the run, as functions of the arguments.
-/
module

public import proofs.«01_k».proof.Proof.Gen.KernelProjIdeal.Value
public import proofs.«01_k».proof.Proof.Proj.KernelReads

@[expose] public section

set_option maxRecDepth 16384

noncomputable section

namespace Cert.KernelProjIdeal.Hand

open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ)

/-- After the run the first result holds the queries. -/
theorem final6 (c : Dev nD) : (dats m 0 c).arrAt 6 (cfgs 0).N = fun i : S4x8448x512.Idx => queryAt m c (i 0) (i 1) (i 2) := by
  refine (dats m 0 c).arrAt_eq_of_covers 6 _ (by decide +kernel) fun t _ y => ?_
  blk_simp
  rw [after0_6]
  idx_vars y
  obtain rfl : y0 = 0 := Subsingleton.elim _ _
  obtain ⟨bt, ti, hb, hi⟩ := batch_tile t
  have hy : ((cfg0.win 6).blk t).view.emb (ix3 0 y1 y2) = ix3 bt ⟨384 * ti.val + y1.val, by omega⟩ y2 := by
    blk_ext [idx t]
  exact ((out6_apply _ _ _ _ _ _ _ y1 y2).trans (query_entry m c t bt ti hb hi y1 y2)).trans
    (congrArg (fun i : S4x8448x512.Idx => queryAt m c (i 0) (i 1) (i 2)) hy).symm

/-- After the run the second result holds the keys. -/
theorem final7 (c : Dev nD) : (dats m 0 c).arrAt 7 (cfgs 0).N = fun i : S4x8448x128.Idx => keyAt m c (i 0) (i 1) (i 2) := by
  refine (dats m 0 c).arrAt_eq_of_covers 7 _ (by decide +kernel) fun t _ y => ?_
  blk_simp
  rw [after0_7]
  idx_vars y
  obtain rfl : y0 = 0 := Subsingleton.elim _ _
  obtain ⟨bt, ti, hb, hi⟩ := batch_tile t
  have hy : ((cfg0.win 7).blk t).view.emb (ix3 0 y1 y2) = ix3 bt ⟨384 * ti.val + y1.val, by omega⟩ y2 := by
    blk_ext [idx t]
  exact ((out7_apply _ _ _ _ _ _ _ y1 y2).trans (key_entry m c t bt ti hb hi y1 y2)).trans
    (congrArg (fun i : S4x8448x128.Idx => keyAt m c (i 0) (i 1) (i 2)) hy).symm

/-- After the run the third result holds the values. -/
theorem final8 (c : Dev nD) : (dats m 0 c).arrAt 8 (cfgs 0).N = fun i : S4x8448x128.Idx => valueAt m c (i 0) (i 1) (i 2) := by
  refine (dats m 0 c).arrAt_eq_of_covers 8 _ (by decide +kernel) fun t _ y => ?_
  blk_simp
  rw [after0_8]
  idx_vars y
  obtain rfl : y0 = 0 := Subsingleton.elim _ _
  obtain ⟨bt, ti, hb, hi⟩ := batch_tile t
  have hy : ((cfg0.win 8).blk t).view.emb (ix3 0 y1 y2) = ix3 bt ⟨384 * ti.val + y1.val, by omega⟩ y2 := by
    blk_ext [idx t]
  exact ((out8_apply _ _ _ _ _ _ _ y1 y2).trans (value_sum m c t bt ti hb hi y1 y2)).trans
    (congrArg (fun i : S4x8448x128.Idx => valueAt m c (i 0) (i 1) (i 2)) hy).symm

/-- After the run the fourth result holds the recurrence's input. -/
theorem final9 (c : Dev nD) : (dats m 0 c).arrAt 9 (cfgs 0).N = fun i : S4x8448x1920.Idx => recurAt m c (i 0) (i 1) (i 2) := by
  refine (dats m 0 c).arrAt_eq_of_covers 9 _ (by decide +kernel) fun t _ y => ?_
  blk_simp
  rw [after0_9]
  idx_vars y
  obtain rfl : y0 = 0 := Subsingleton.elim _ _
  obtain ⟨bt, ti, hb, hi⟩ := batch_tile t
  have hy : ((cfg0.win 9).blk t).view.emb (ix3 0 y1 y2) = ix3 bt ⟨384 * ti.val + y1.val, by omega⟩ y2 := by
    blk_ext [idx t]
  exact ((out9_apply _ _ _ _ _ _ _ y1 y2).trans (recur_sum m c t bt ti hb hi y1 y2)).trans
    (congrArg (fun i : S4x8448x1920.Idx => recurAt m c (i 0) (i 1) (i 2)) hy).symm

/-- After the run the fifth result holds the state-space mixer's input. -/
theorem final10 (c : Dev nD) : (dats m 0 c).arrAt 10 (cfgs 0).N = fun i : S4x8448x512.Idx => stateAt m c (i 0) (i 1) (i 2) := by
  refine (dats m 0 c).arrAt_eq_of_covers 10 _ (by decide +kernel) fun t _ y => ?_
  blk_simp
  rw [after0_10]
  idx_vars y
  obtain rfl : y0 = 0 := Subsingleton.elim _ _
  obtain ⟨bt, ti, hb, hi⟩ := batch_tile t
  have hy : ((cfg0.win 10).blk t).view.emb (ix3 0 y1 y2) = ix3 bt ⟨384 * ti.val + y1.val, by omega⟩ y2 := by
    blk_ext [idx t]
  exact ((out10_apply _ _ _ _ _ _ _ y1 y2).trans (state_sum m c t bt ti hb hi y1 y2)).trans
    (congrArg (fun i : S4x8448x512.Idx => stateAt m c (i 0) (i 1) (i 2)) hy).symm

/-- After the run the sixth result holds the gates' logits. -/
theorem final11 (c : Dev nD) : (dats m 0 c).arrAt 11 (cfgs 0).N = fun i : S4x8448x3072.Idx => gateAt m c (i 0) (i 1) (i 2) := by
  refine (dats m 0 c).arrAt_eq_of_covers 11 _ (by decide +kernel) fun t _ y => ?_
  blk_simp
  rw [after0_11]
  idx_vars y
  obtain rfl : y0 = 0 := Subsingleton.elim _ _
  obtain ⟨bt, ti, hb, hi⟩ := batch_tile t
  have hy : ((cfg0.win 11).blk t).view.emb (ix3 0 y1 y2) = ix3 bt ⟨384 * ti.val + y1.val, by omega⟩ y2 := by
    blk_ext [idx t]
  exact ((out11_apply _ _ _ _ _ _ _ y1 y2).trans (gate_sum m c t bt ti hb hi y1 y2)).trans
    (congrArg (fun i : S4x8448x3072.Idx => gateAt m c (i 0) (i 1) (i 2)) hy).symm

end Cert.KernelProjIdeal.Hand

end
-- ==== Proof.Proj.RefValue.lean ====
/-
  The mixers' input projection: what the reference computes, read at an index, as the row functions of Proj/Spec.lean.
-/
module

public import proofs.«01_k».proof.Proof.Gen.ReferenceProjIdeal.Read
public import proofs.«01_k».proof.Proof.Proj.Spec

@[expose] public section

set_option maxRecDepth 16384

noncomputable section

namespace Cert.ReferenceProjIdeal.Hand

open Cert.ReferenceProjIdeal Cert.ReferenceProjIdeal.Gen Cert.ReferenceProjIdeal.Read Idealize.ShloMosaic Idealize.ShloMosaic.TcCoe

variable (x : FVec Ideal S4x8448x1024 .f32) (md : FVec Ideal S5x9216 .f32) (w : FVec Ideal S1024x6208 .f32)
  (rc rs cc cs : FVec Ideal S8192x16 .f32)

/-- The modulation vector of token `r` of batch `bt` that starts at column `o`. -/
abbrev modRow (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- Token `r` of batch `bt` of the stream, modulated. -/
abbrev tokenAt (bt : Fin 4) (r : Fin 8448) : Fin 1024 → EReal :=
  Rows.modulated (fun k => x (ix3 bt r k)) (modRow md 3072 (by decide) bt r) (modRow md 4096 (by decide) bt r)

/-- An entry of the projection. -/
abbrev projEntry (bt : Fin 4) (r : Fin 8448) (q : Fin 6208) : EReal := Rows.proj (fun k q => w (ix2 k q)) (tokenAt x md bt r) q

/-- The shift of every token. -/
theorem shift_apply (bt : Fin 4) (r : Fin 8448) (k : Fin 1024) :
    val_main_v6 (F := Ideal) md (ix3 bt r k) = modRow md 3072 (by decide) bt r k := by
  pointwise [val_main_v0, val_main_v1, val_main_v2, val_main_v3, val_main_v4, val_main_v5, val_main_v6]
  rfl

/-- The scale of every token. -/
theorem scale_apply (bt : Fin 4) (r : Fin 8448) (k : Fin 1024) :
    val_main_v13 (F := Ideal) md (ix3 bt r k) = modRow md 4096 (by decide) bt r k := by
  pointwise [val_main_v7, val_main_v8, val_main_v9, val_main_v10, val_main_v11, val_main_v12, val_main_v13]
  rfl

/-- The modulated stream. -/
theorem token_apply (bt : Fin 4) (r : Fin 8448) (k : Fin 1024) :
    val_main_v35 (F := Ideal) x md (ix3 bt r k) = tokenAt x md bt r k := by
  pointwise [val_main_cst, val_main_cst_0, val_main_cst_1, val_main_cst_2, val_main_cst_3, val_main_cst_4, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35]
  simp only [shift_apply, scale_apply]
  rfl

/-- The projection of the modulated stream. -/
theorem proj_apply (bt : Fin 4) (r : Fin 8448) (q : Fin 6208) :
    val_main_v36 (F := Ideal) x md w (ix3 bt r q) = projEntry x md w bt r q := by
  pointwise [val_main_v36]
  simp only [token_apply]
  rfl

/-- The values. -/
theorem value_apply (bt : Fin 4) (r : Fin 8448) (q : Fin 128) :
    val_main_v143 (F := Ideal) x md w (ix3 bt r q) = projEntry x md w bt r ⟨640 + q.val, by omega⟩ := by
  pointwise [val_main_v39, val_main_v143]
  simp only [proj_apply]

/-- The state-space mixer's input. -/
theorem state_apply (bt : Fin 4) (r : Fin 8448) (q : Fin 512) :
    val_main_v41 (F := Ideal) x md w (ix3 bt r q) = projEntry x md w bt r ⟨2624 + q.val, by omega⟩ := by
  pointwise [val_main_v41]
  simp only [proj_apply]

/-- The gates' logits. -/
theorem gate_apply (bt : Fin 4) (r : Fin 8448) (q : Fin 3072) :
    val_main_v144 (F := Ideal) x md w (ix3 bt r q) = projEntry x md w bt r ⟨3136 + q.val, by omega⟩ := by
  pointwise [val_main_v42, val_main_v144]
  simp only [proj_apply]

/-- The queries: the first lanes rotated by the row's angle. -/
theorem query_row_lo (bt : Fin 4) (n : Fin 8192) (h : Fin 8) (j : Fin 16) :
    val_main_v57 (F := Ideal) x md w rc rs (ix4 bt n h j)
      = projEntry x md w bt ⟨256 + n.val, by omega⟩ ⟨h.val * 64 + j.val, by omega⟩ * rc (ix2 n j)
        - projEntry x md w bt ⟨256 + n.val, by omega⟩ ⟨h.val * 64 + (16 + j.val), by omega⟩ * rs (ix2 n j) := by
  pointwise [val_main_v37, val_main_v44, val_main_v45, val_main_v46, val_main_v49, val_main_v50, val_main_v47, val_main_v48, val_main_v51, val_main_v52, val_main_v53, val_main_v54, val_main_v55, val_main_v56, val_main_v57]
  simp only [proj_apply]

/-- The queries: the second lanes rotated by the row's angle. -/
theorem query_row_hi (bt : Fin 4) (n : Fin 8192) (h : Fin 8) (j : Fin 16) :
    val_main_v64 (F := Ideal) x md w rc rs (ix4 bt n h j)
      = projEntry x md w bt ⟨256 + n.val, by omega⟩ ⟨h.val * 64 + (16 + j.val), by omega⟩ * rc (ix2 n j)
        + projEntry x md w bt ⟨256 + n.val, by omega⟩ ⟨h.val * 64 + j.val, by omega⟩ * rs (ix2 n j) := by
  pointwise [val_main_v37, val_main_v44, val_main_v45, val_main_v46, val_main_v49, val_main_v50, val_main_v47, val_main_v48, val_main_v58, val_main_v59, val_main_v60, val_main_v61, val_main_v62, val_main_v63, val_main_v64]
  simp only [proj_apply]

/-- The queries: the first lanes rotated by the column's angle. -/
theorem query_col_lo (bt : Fin 4) (n : Fin 8192) (h : Fin 8) (j : Fin 16) :
    val_main_v77 (F := Ideal) x md w cc cs (ix4 bt n h j)
      = projEntry x md w bt ⟨256 + n.val, by omega⟩ ⟨h.val * 64 + (32 + j.val), by omega⟩ * cc (ix2 n j)
        - projEntry x md w bt ⟨256 + n.val, by omega⟩ ⟨h.val * 64 + (32 + (16 + j.val)), by omega⟩ * cs (ix2 n j) := by
  pointwise [val_main_v37, val_main_v44, val_main_v45, val_main_v66, val_main_v69, val_main_v70, val_main_v67, val_main_v68, val_main_v71, val_main_v72, val_main_v73, val_main_v74, val_main_v75, val_main_v76, val_main_v77]
  simp only [proj_apply]

/-- The queries: the second lanes rotated by the column's angle. -/
theorem query_col_hi (bt : Fin 4) (n : Fin 8192) (h : Fin 8) (j : Fin 16) :
    val_main_v84 (F := Ideal) x md w cc cs (ix4 bt n h j)
      = projEntry x md w bt ⟨256 + n.val, by omega⟩ ⟨h.val * 64 + (32 + (16 + j.val)), by omega⟩ * cc (ix2 n j)
        + projEntry x md w bt ⟨256 + n.val, by omega⟩ ⟨h.val * 64 + (32 + j.val), by omega⟩ * cs (ix2 n j) := by
  pointwise [val_main_v37, val_main_v44, val_main_v45, val_main_v66, val_main_v69, val_main_v70, val_main_v67, val_main_v68, val_main_v78, val_main_v79, val_main_v80, val_main_v81, val_main_v82, val_main_v83, val_main_v84]
  simp only [proj_apply]

/-- The keys: the first lanes rotated by the row's angle. -/
theorem key_row_lo (bt : Fin 4) (n : Fin 8192) (h : Fin 2) (j : Fin 16) :
    val_main_v105 (F := Ideal) x md w rc rs (ix4 bt n h j)
      = projEntry x md w bt ⟨256 + n.val, by omega⟩ ⟨512 + (h.val * 64 + j.val), by omega⟩ * rc (ix2 n j)
        - projEntry x md w bt ⟨256 + n.val, by omega⟩ ⟨512 + (h.val * 64 + (16 + j.val)), by omega⟩ * rs (ix2 n j) := by
  pointwise [val_main_v38, val_main_v92, val_main_v93, val_main_v94, val_main_v97, val_main_v98, val_main_v95, val_main_v96, val_main_v99, val_main_v100, val_main_v101, val_main_v102, val_main_v103, val_main_v104, val_main_v105]
  simp only [proj_apply]

/-- The keys: the second lanes rotated by the row's angle. -/
theorem key_row_hi (bt : Fin 4) (n : Fin 8192) (h : Fin 2) (j : Fin 16) :
    val_main_v112 (F := Ideal) x md w rc rs (ix4 bt n h j)
      = projEntry x md w bt ⟨256 + n.val, by omega⟩ ⟨512 + (h.val * 64 + (16 + j.val)), by omega⟩ * rc (ix2 n j)
        + projEntry x md w bt ⟨256 + n.val, by omega⟩ ⟨512 + (h.val * 64 + j.val), by omega⟩ * rs (ix2 n j) := by
  pointwise [val_main_v38, val_main_v92, val_main_v93, val_main_v94, val_main_v97, val_main_v98, val_main_v95, val_main_v96, val_main_v106, val_main_v107, val_main_v108, val_main_v109, val_main_v110, val_main_v111, val_main_v112]
  simp only [proj_apply]

/-- The keys: the first lanes rotated by the column's angle. -/
theorem key_col_lo (bt : Fin 4) (n : Fin 8192) (h : Fin 2) (j : Fin 16) :
    val_main_v125 (F := Ideal) x md w cc cs (ix4 bt n h j)
      = projEntry x md w bt ⟨256 + n.val, by omega⟩ ⟨512 + (h.val * 64 + (32 + j.val)), by omega⟩ * cc (ix2 n j)
        - projEntry x md w bt ⟨256 + n.val, by omega⟩ ⟨512 + (h.val * 64 + (32 + (16 + j.val))), by omega⟩ * cs (ix2 n j) := by
  pointwise [val_main_v38, val_main_v92, val_main_v93, val_main_v114, val_main_v117, val_main_v118, val_main_v115, val_main_v116, val_main_v119, val_main_v120, val_main_v121, val_main_v122, val_main_v123, val_main_v124, val_main_v125]
  simp only [proj_apply]

/-- The keys: the second lanes rotated by the column's angle. -/
theorem key_col_hi (bt : Fin 4) (n : Fin 8192) (h : Fin 2) (j : Fin 16) :
    val_main_v132 (F := Ideal) x md w cc cs (ix4 bt n h j)
      = projEntry x md w bt ⟨256 + n.val, by omega⟩ ⟨512 + (h.val * 64 + (32 + (16 + j.val))), by omega⟩ * cc (ix2 n j)
        + projEntry x md w bt ⟨256 + n.val, by omega⟩ ⟨512 + (h.val * 64 + (32 + j.val)), by omega⟩ * cs (ix2 n j) := by
  pointwise [val_main_v38, val_main_v92, val_main_v93, val_main_v114, val_main_v117, val_main_v118, val_main_v115, val_main_v116, val_main_v126, val_main_v127, val_main_v128, val_main_v129, val_main_v130, val_main_v131, val_main_v132]
  simp only [proj_apply]

/-- An entry of the projection depends on the token's and the column's numbers only. -/
theorem entry_congr (bt : Fin 4) {r r' : Fin 8448} {q q' : Fin 6208} (hr : r.val = r'.val) (hq : q.val = q'.val) :
    projEntry x md w bt r q = projEntry x md w bt r' q' := by
  rw [Fin.ext hr, Fin.ext hq]

/-- An entry of a table depends on the lane's number only. -/
theorem lane_congr (a : FVec Ideal S8192x16 .f32) (n : Fin 8192) {j j' : Fin 16} (h : j.val = j'.val) :
    a (ix2 n j) = a (ix2 n j') := by
  rw [Fin.ext h]

/-- The rotated querys. -/
theorem query_apply (bt : Fin 4) (r : Fin 8448) (q : Fin 512) :
    val_main_v141 (F := Ideal) x md w rc rs cc cs (ix3 bt r q)
      = Rows.queryAt (fun n j => rc (ix2 n j)) (fun n j => rs (ix2 n j)) (fun n j => cc (ix2 n j)) (fun n j => cs (ix2 n j))
          (fun k q => w (ix2 k q)) (tokenAt x md bt r) r q := by
  pointwise [val_main_cst_5, val_main_v37, val_main_v43, val_main_v65, val_main_v85, val_main_v86, val_main_v87, val_main_v88, val_main_v89, val_main_v90, val_main_v141]
  simp only [proj_apply, query_row_lo, query_row_hi, query_col_lo, query_col_hi]
  unfold Rows.queryAt Rows.rope
  refine congrArg (· * Rows.eighth) ?_
  by_cases hr : r.val < 256
  · simp only [dif_pos hr]
  · by_cases h1 : q.val % 64 < 32
    · by_cases h2 : q.val % 64 < 16
      · have h3 : q.val % 32 < 16 := by omega
        simp only [dif_neg hr, dif_pos h1, if_pos h1, dif_pos h2, if_pos h3]
        exact congrArg₂ (· - ·) (congrArg₂ (· * ·) (entry_congr x md w bt (by simp only; omega) (by simp only; omega)) (lane_congr rc _ (by simp only; omega)))
          (congrArg₂ (· * ·) (entry_congr x md w bt (by simp only; omega) (by simp only [Rows.partner, if_pos h3]; omega)) (lane_congr rs _ (by simp only; omega)))
      · have h3 : ¬q.val % 32 < 16 := by omega
        simp only [dif_neg hr, dif_pos h1, if_pos h1, dif_neg h2, if_neg h3]
        exact congrArg₂ (· + ·) (congrArg₂ (· * ·) (entry_congr x md w bt (by simp only; omega) (by simp only; omega)) (lane_congr rc _ (by simp only; omega)))
          (congrArg₂ (· * ·) (entry_congr x md w bt (by simp only; omega) (by simp only [Rows.partner, if_neg h3]; omega)) (lane_congr rs _ (by simp only; omega)))
    · by_cases h2 : q.val % 64 - 32 < 16
      · have h3 : q.val % 32 < 16 := by omega
        simp only [dif_neg hr, dif_neg h1, if_neg h1, dif_pos h2, if_pos h3]
        exact congrArg₂ (· - ·) (congrArg₂ (· * ·) (entry_congr x md w bt (by simp only; omega) (by simp only; omega)) (lane_congr cc _ (by simp only; omega)))
          (congrArg₂ (· * ·) (entry_congr x md w bt (by simp only; omega) (by simp only [Rows.partner, if_pos h3]; omega)) (lane_congr cs _ (by simp only; omega)))
      · have h3 : ¬q.val % 32 < 16 := by omega
        simp only [dif_neg hr, dif_neg h1, if_neg h1, dif_neg h2, if_neg h3]
        exact congrArg₂ (· + ·) (congrArg₂ (· * ·) (entry_congr x md w bt (by simp only; omega) (by simp only; omega)) (lane_congr cc _ (by simp only; omega)))
          (congrArg₂ (· * ·) (entry_congr x md w bt (by simp only; omega) (by simp only [Rows.partner, if_neg h3]; omega)) (lane_congr cs _ (by simp only; omega)))

/-- The rotated keys. -/
theorem key_apply (bt : Fin 4) (r : Fin 8448) (q : Fin 128) :
    val_main_v142 (F := Ideal) x md w rc rs cc cs (ix3 bt r q)
      = Rows.keyAt (fun n j => rc (ix2 n j)) (fun n j => rs (ix2 n j)) (fun n j => cc (ix2 n j)) (fun n j => cs (ix2 n j))
          (fun k q => w (ix2 k q)) (tokenAt x md bt r) r q := by
  pointwise [val_main_v38, val_main_v91, val_main_v113, val_main_v133, val_main_v134, val_main_v135, val_main_v136, val_main_v142]
  simp only [proj_apply, key_row_lo, key_row_hi, key_col_lo, key_col_hi]
  unfold Rows.keyAt Rows.rope
  by_cases hr : r.val < 256
  · simp only [dif_pos hr]
  · by_cases h1 : q.val % 64 < 32
    · by_cases h2 : q.val % 64 < 16
      · have h3 : q.val % 32 < 16 := by omega
        simp only [dif_neg hr, dif_pos h1, if_pos h1, dif_pos h2, if_pos h3]
        exact congrArg₂ (· - ·) (congrArg₂ (· * ·) (entry_congr x md w bt (by simp only; omega) (by simp only; omega)) (lane_congr rc _ (by simp only; omega)))
          (congrArg₂ (· * ·) (entry_congr x md w bt (by simp only; omega) (by simp only [Rows.partner, if_pos h3]; omega)) (lane_congr rs _ (by simp only; omega)))
      · have h3 : ¬q.val % 32 < 16 := by omega
        simp only [dif_neg hr, dif_pos h1, if_pos h1, dif_neg h2, if_neg h3]
        exact congrArg₂ (· + ·) (congrArg₂ (· * ·) (entry_congr x md w bt (by simp only; omega) (by simp only; omega)) (lane_congr rc _ (by simp only; omega)))
          (congrArg₂ (· * ·) (entry_congr x md w bt (by simp only; omega) (by simp only [Rows.partner, if_neg h3]; omega)) (lane_congr rs _ (by simp only; omega)))
    · by_cases h2 : q.val % 64 - 32 < 16
      · have h3 : q.val % 32 < 16 := by omega
        simp only [dif_neg hr, dif_neg h1, if_neg h1, dif_pos h2, if_pos h3]
        exact congrArg₂ (· - ·) (congrArg₂ (· * ·) (entry_congr x md w bt (by simp only; omega) (by simp only; omega)) (lane_congr cc _ (by simp only; omega)))
          (congrArg₂ (· * ·) (entry_congr x md w bt (by simp only; omega) (by simp only [Rows.partner, if_pos h3]; omega)) (lane_congr cs _ (by simp only; omega)))
      · have h3 : ¬q.val % 32 < 16 := by omega
        simp only [dif_neg hr, dif_neg h1, if_neg h1, dif_neg h2, if_neg h3]
        exact congrArg₂ (· + ·) (congrArg₂ (· * ·) (entry_congr x md w bt (by simp only; omega) (by simp only; omega)) (lane_congr cc _ (by simp only; omega)))
          (congrArg₂ (· * ·) (entry_congr x md w bt (by simp only; omega) (by simp only [Rows.partner, if_neg h3]; omega)) (lane_congr cs _ (by simp only; omega)))

/-- The recurrence's input, laid out with a gap of 64 zero columns. -/
theorem recur_apply (bt : Fin 4) (r : Fin 8448) (q : Fin 1920) :
    val_main_v140 (F := Ideal) x md w (ix3 bt r q)
      = Rows.recurAt (fun k q => w (ix2 k q)) (tokenAt x md bt r) q := by
  pointwise [val_main_cst_6, val_main_v40, val_main_v137, val_main_v138, val_main_v139, val_main_v140]
  simp only [proj_apply]
  unfold Rows.recurAt
  by_cases h1 : q.val < 1728
  · simp only [dif_pos h1, if_pos h1]
  · by_cases h2 : q.val < 1792
    · have h3 : q.val - 1728 < 64 := by omega
      simp only [dif_neg h1, if_neg h1, dif_pos h2, dif_pos h3]
    · have h3 : ¬q.val - 1728 < 64 := by omega
      simp only [dif_neg h1, if_neg h1, dif_neg h2, dif_neg h3]
      exact entry_congr x md w bt rfl (by simp only; omega)

end Cert.ReferenceProjIdeal.Hand

end
-- ==== Proof.Proj.Equation.lean ====
/-
  The mixers' input projection: the kernel's arrays are the reference's results, and the two programs' claims.
-/
module

public import proofs.«01_k».proof.Defs
public import proofs.«01_k».proof.Proof.Gen.KernelProjIdeal.Value
public import proofs.«01_k».proof.Proof.Gen.ReferenceProjIdeal.Run
public import proofs.«01_k».proof.Proof.Gen.ReferenceProjIdeal.Read
public import proofs.«01_k».proof.Proof.Proj.KernelValue
public import proofs.«01_k».proof.Proof.Proj.RefValue
public import Idealize.ShloMosaic.Lib.Claim

@[expose] public section

noncomputable section

namespace Cert.Proof.Proj

open Idealize.ShloMosaic Idealize.ShloMosaic.TcCoe Idealize.SL.Sem

/-- The queries the kernel leaves are the reference's. -/
theorem query_eq (m : (ℓ : Loc KernelProjIdeal.nD KernelProjIdeal.τ KernelProjIdeal.sig) → Buf (Elt Ideal) ℓ) (c : Dev KernelProjIdeal.nD) :
    (KernelProjIdeal.Gen.dats m 0 c).arrAt 6 KernelProjIdeal.cfg0.N
      = ReferenceProjIdeal.Read.val_main_v141 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2))
          (m ((c.tc : Thread KernelProjIdeal.nD KernelProjIdeal.τ).loc KernelProjIdeal.main_arg3))
          (m ((c.tc : Thread KernelProjIdeal.nD KernelProjIdeal.τ).loc KernelProjIdeal.main_arg4))
          (m ((c.tc : Thread KernelProjIdeal.nD KernelProjIdeal.τ).loc KernelProjIdeal.main_arg5))
          (m ((c.tc : Thread KernelProjIdeal.nD KernelProjIdeal.τ).loc KernelProjIdeal.main_arg6)) := by
  refine (KernelProjIdeal.Hand.final6 m c).trans (funext fun i => ?_)
  idx_vars i
  exact (ReferenceProjIdeal.Hand.query_apply _ _ _ _ _ _ _ _ _ _).symm

/-- The keys the kernel leaves are the reference's. -/
theorem key_eq (m : (ℓ : Loc KernelProjIdeal.nD KernelProjIdeal.τ KernelProjIdeal.sig) → Buf (Elt Ideal) ℓ) (c : Dev KernelProjIdeal.nD) :
    (KernelProjIdeal.Gen.dats m 0 c).arrAt 7 KernelProjIdeal.cfg0.N
      = ReferenceProjIdeal.Read.val_main_v142 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2))
          (m ((c.tc : Thread KernelProjIdeal.nD KernelProjIdeal.τ).loc KernelProjIdeal.main_arg3))
          (m ((c.tc : Thread KernelProjIdeal.nD KernelProjIdeal.τ).loc KernelProjIdeal.main_arg4))
          (m ((c.tc : Thread KernelProjIdeal.nD KernelProjIdeal.τ).loc KernelProjIdeal.main_arg5))
          (m ((c.tc : Thread KernelProjIdeal.nD KernelProjIdeal.τ).loc KernelProjIdeal.main_arg6)) := by
  refine (KernelProjIdeal.Hand.final7 m c).trans (funext fun i => ?_)
  idx_vars i
  exact (ReferenceProjIdeal.Hand.key_apply _ _ _ _ _ _ _ _ _ _).symm

/-- The values the kernel leaves are the reference's. -/
theorem value_eq (m : (ℓ : Loc KernelProjIdeal.nD KernelProjIdeal.τ KernelProjIdeal.sig) → Buf (Elt Ideal) ℓ) (c : Dev KernelProjIdeal.nD) :
    (KernelProjIdeal.Gen.dats m 0 c).arrAt 8 KernelProjIdeal.cfg0.N
      = ReferenceProjIdeal.Read.val_main_v143 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2)) := by
  refine (KernelProjIdeal.Hand.final8 m c).trans (funext fun i => ?_)
  idx_vars i
  exact (ReferenceProjIdeal.Hand.value_apply _ _ _ _ _ _).symm

/-- The recurrence's input the kernel leaves are the reference's. -/
theorem recur_eq (m : (ℓ : Loc KernelProjIdeal.nD KernelProjIdeal.τ KernelProjIdeal.sig) → Buf (Elt Ideal) ℓ) (c : Dev KernelProjIdeal.nD) :
    (KernelProjIdeal.Gen.dats m 0 c).arrAt 9 KernelProjIdeal.cfg0.N
      = ReferenceProjIdeal.Read.val_main_v140 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2)) := by
  refine (KernelProjIdeal.Hand.final9 m c).trans (funext fun i => ?_)
  idx_vars i
  exact (ReferenceProjIdeal.Hand.recur_apply _ _ _ _ _ _).symm

/-- The state-space mixer's input the kernel leaves are the reference's. -/
theorem state_eq (m : (ℓ : Loc KernelProjIdeal.nD KernelProjIdeal.τ KernelProjIdeal.sig) → Buf (Elt Ideal) ℓ) (c : Dev KernelProjIdeal.nD) :
    (KernelProjIdeal.Gen.dats m 0 c).arrAt 10 KernelProjIdeal.cfg0.N
      = ReferenceProjIdeal.Read.val_main_v41 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2)) := by
  refine (KernelProjIdeal.Hand.final10 m c).trans (funext fun i => ?_)
  idx_vars i
  exact (ReferenceProjIdeal.Hand.state_apply _ _ _ _ _ _).symm

/-- The gates' logits the kernel leaves are the reference's. -/
theorem gate_eq (m : (ℓ : Loc KernelProjIdeal.nD KernelProjIdeal.τ KernelProjIdeal.sig) → Buf (Elt Ideal) ℓ) (c : Dev KernelProjIdeal.nD) :
    (KernelProjIdeal.Gen.dats m 0 c).arrAt 11 KernelProjIdeal.cfg0.N
      = ReferenceProjIdeal.Read.val_main_v144 (F := Ideal) (m ((c.tc : Thread KernelProjIdeal.nD KernelProjIdeal.τ).loc KernelProjIdeal.main_arg0))
          (m ((c.tc : Thread KernelProjIdeal.nD KernelProjIdeal.τ).loc KernelProjIdeal.main_arg1))
          (m ((c.tc : Thread KernelProjIdeal.nD KernelProjIdeal.τ).loc KernelProjIdeal.main_arg2)) := by
  refine (KernelProjIdeal.Hand.final11 m c).trans (funext fun i => ?_)
  idx_vars i
  exact (ReferenceProjIdeal.Hand.gate_apply _ _ _ _ _ _).symm

/-- The idealized kernel computes what the idealized reference computes. -/
theorem algebraic : algebraic_KernelProjIdeal_ReferenceProjIdeal (hKernelProjIdeal := KernelProjIdeal.Gen.facts)
    (hReferenceProjIdeal := ReferenceProjIdeal.Gen.facts) := by
  pair_intro
  · run_from KernelProjIdeal.Value.run_blocks m g
  · run_from ReferenceProjIdeal.Value.run m' g'
    all_goals obtain ⟨a0, a1, a2, a3, a4, a5, a6⟩ := hagree c
    · rw [query_eq, ReferenceProjIdeal.Read.val_main_v141_eq]
      exact congr (congr (congr (congr (congr (congrArg₂ _ a0 a1) a2) a3) a4) a5) a6
    · rw [key_eq, ReferenceProjIdeal.Read.val_main_v142_eq]
      exact congr (congr (congr (congr (congr (congrArg₂ _ a0 a1) a2) a3) a4) a5) a6
    · rw [value_eq, a1]
      exact ReferenceProjIdeal.Read.val_main_v143_eq _ _ _
    · rw [recur_eq, ReferenceProjIdeal.Read.val_main_v140_eq]
      exact congr (congrArg₂ _ a0 a1) a2
    · rw [state_eq, a1]
      exact ReferenceProjIdeal.Read.val_main_v41_eq _ _ _
    · rw [gate_eq, a1]
      exact ReferenceProjIdeal.Read.val_main_v144_eq _ _ _

/-- The reference terminates, its arguments unchanged. -/
theorem quiescent_reference : quiescent_ReferenceProjIdeal (hReferenceProjIdeal := ReferenceProjIdeal.Gen.facts) := by
  intro m g _
  exact (θ_run ReferenceProjIdeal.defs _ _).mono (fun r h => ⟨fun c => (h c).2.2.2.2.2.2, sem_eq_zero_of_no_sems (by decide) r.2⟩)
    (ReferenceProjIdeal.Value.run (F := Ideal) m g)

end Cert.Proof.Proj

end
-- ==== Proof.Merge.Spec.lean ====
/-
  The mathematics of the gated merge, one row at a time, over the extended reals: every mixer's result is projected to the
  model's width and gated by the logistic function of its own gate logits; the sum is projected once more, added to the
  residual under the modulation's gate and normalised.
-/
module

public import proofs.«01_k».proof.Proof.Spec

@[expose] public section

noncomputable section

namespace Cert.Rows

open Idealize.ShloMosaic

/-- One mixer's projected result under its gate. -/
def gated (z : Fin 1024 → EReal) (y : Fin 512 → EReal) (p : Fin 512 → Fin 1024 → EReal) (j : Fin 1024) : EReal :=
  Ideal.logistic (z j) * ∑ k, y k * p k j

/-- The sum of the three gated mixers; the three gates stand side by side in one row of logits. -/
def merged (z : Fin 3072 → EReal) (ya yr ys : Fin 512 → EReal) (p : Fin 3 → Fin 512 → Fin 1024 → EReal) (j : Fin 1024) : EReal :=
  gated (fun j => z ⟨j.val, by omega⟩) ya (p 0) j + gated (fun j => z ⟨1024 + j.val, by omega⟩) yr (p 1) j
    + gated (fun j => z ⟨2048 + j.val, by omega⟩) ys (p 2) j

/-- One row of the merge's result. -/
def mergeRow (p : Fin 3 → Fin 512 → Fin 1024 → EReal) (wo : Fin 1024 → Fin 1024 → EReal) (g b x gate : Fin 1024 → EReal)
    (z : Fin 3072 → EReal) (ya yr ys : Fin 512 → EReal) (j : Fin 1024) : EReal :=
  normalise (fun j => alpha * x j + gate j * ∑ k, merged z ya yr ys p k * wo k j) j * g j + b j

/-- Equal arguments give equal rows of the merge. -/
theorem mergeRow_congr {p p' : Fin 3 → Fin 512 → Fin 1024 → EReal} {wo wo' : Fin 1024 → Fin 1024 → EReal}
    {g g' b b' x x' gate gate' : Fin 1024 → EReal} {z z' : Fin 3072 → EReal} {ya ya' yr yr' ys ys' : Fin 512 → EReal}
    (hp : ∀ s k j, p s k j = p' s k j) (hw : ∀ k j, wo k j = wo' k j) (hg : ∀ k, g k = g' k) (hb : ∀ k, b k = b' k)
    (hx : ∀ k, x k = x' k) (ht : ∀ k, gate k = gate' k) (hz : ∀ k, z k = z' k) (ha : ∀ k, ya k = ya' k) (hr : ∀ k, yr k = yr' k)
    (hs : ∀ k, ys k = ys' k) (j : Fin 1024) :
    mergeRow p wo g b x gate z ya yr ys j = mergeRow p' wo' g' b' x' gate' z' ya' yr' ys' j := by
  obtain rfl : p = p' := funext fun s => funext fun k => funext (hp s k)
  obtain rfl : wo = wo' := funext fun k => funext (hw k)
  obtain rfl := funext hg
  obtain rfl := funext hb
  obtain rfl := funext hx
  obtain rfl := funext ht
  obtain rfl := funext hz
  obtain rfl := funext ha
  obtain rfl := funext hr
  obtain rfl := funext hs
  rfl

end Cert.Rows

end
-- ==== Proof.Merge.Block.lean ====
/-
  The gated merge: what one grid point computes, read at an index of its block, as the row functions of Merge/Spec.lean. A
  block holds 768 tokens, context and latent ones; each takes its own modulation vector.
-/
module

public import proofs.«01_k».proof.Proof.Gen.KernelMergeIdeal.Skeleton
public import proofs.«01_k».proof.Proof.Merge.Spec
public import Idealize.ShloMosaic.Lib.Pipeline.ValueKit
public import Idealize.ShloMosaic.Lib.Tactic.WordOmega

@[expose] public section

set_option maxRecDepth 16384

noncomputable section

namespace Cert.KernelMergeIdeal.Hand

open Cert.KernelMergeIdeal Cert.KernelMergeIdeal.Gen Idealize.ShloMosaic Idealize.ShloMosaic.TcCoe Idealize.SL.Sem

/-- The modulation's gate, row by row: the context's vector for the first 256 tokens, the batch element's for the others. -/
theorem pay3_apply (i : grid0.Coords) (c l : Vec Ideal S1x1x1024 .f32) (r : Fin 768) (k : Fin 1024) :
    k0_pay3 i c l (ix2 r k) = Rows.tokenRow (768 * (i 1).val + r.val) (fun k => c (ix3 0 0 k)) (fun k => l (ix3 0 0 k)) k := by
  have h1 : (i 1).val < 11 := (i 1).isLt
  have hr := r.isLt
  pointwise [k0_pay3]
  unfold Rows.tokenRow
  generalize (i 1).val = a at h1 ⊢
  have ha : Scalar.muli (BitVec.ofNat 32 a) 768#32 = BitVec.ofNat 32 (768 * a) := by
    interval_cases a <;> rfl
  rw [ha]
  split
  · refine Eq.trans (congrArg (fun s => Scalar.select s _ _) (show _ = 1#1 by word_omega)) (ValueIdx.select_one _ _)
  · refine Eq.trans (congrArg (fun s => Scalar.select s _ _) (show _ = 0#1 by word_omega)) (ValueIdx.select_zero _ _)

/-- The first gate. -/
theorem pay4_apply (z : Vec Ideal S1x768x1024 .bf16) (r : Fin 768) (k : Fin 1024) :
    k0_pay4 z (ix2 r k) = Ideal.logistic (z (ix3 0 r k)) := by
  pointwise [k0_pay4]
  exact Rows.half_tanh _

/-- The third gate. -/
theorem pay8_apply (z : Vec Ideal S1x768x1024 .bf16) (r : Fin 768) (k : Fin 1024) :
    k0_pay8 z (ix2 r k) = Ideal.logistic (z (ix3 0 r k)) := by
  pointwise [k0_pay8]
  exact Rows.half_tanh _

/-- The first two gated mixers. -/
theorem pay7_apply (z0 z1 : Vec Ideal S1x768x1024 .bf16) (ya yr : Vec Ideal S1x768x512 .f32) (p0 p1 : Vec Ideal S1x512x1024 .bf16)
    (r : Fin 768) (k : Fin 1024) :
    k0_pay7 (k0_pay4 z0) (k0_pay5 ya) (k0_pay6 p0) (constant S768x1024 .f32 0x00000000#32) z1 yr p1 (ix2 r k)
      = Rows.gated (fun k => z0 (ix3 0 r k)) (fun k => ya (ix3 0 r k)) (fun k j => p0 (ix3 0 k j)) k
        + Rows.gated (fun k => z1 (ix3 0 r k)) (fun k => yr (ix3 0 r k)) (fun k j => p1 (ix3 0 k j)) k := by
  pointwise [k0_pay7, k0_pay5, k0_pay6]
  simp only [pay4_apply]
  rw [Rows.half_tanh]
  rfl

/-- The block a grid point stores: the merge's rows. -/
theorem out_apply (i : grid0.Coords) (x0 : Vec Ideal S1x768x1024 .f32) (c l : Vec Ideal S1x1x1024 .f32)
    (z0 z1 z2 : Vec Ideal S1x768x1024 .bf16) (ya yr ys : Vec Ideal S1x768x512 .f32) (p0 p1 p2 : Vec Ideal S1x512x1024 .bf16)
    (wo : Vec Ideal S1024x1024 .bf16) (g b : Vec Ideal S1x1024 .f32) (r : Fin 768) (k : Fin 1024)
    (p : Fin 3 → Fin 512 → Fin 1024 → EReal) (z : Fin 3072 → EReal)
    (hp0 : ∀ k j, p0 (ix3 0 k j) = p 0 k j) (hp1 : ∀ k j, p1 (ix3 0 k j) = p 1 k j) (hp2 : ∀ k j, p2 (ix3 0 k j) = p 2 k j)
    (hz0 : ∀ k : Fin 1024, z0 (ix3 0 r k) = z ⟨k.val, by omega⟩) (hz1 : ∀ k : Fin 1024, z1 (ix3 0 r k) = z ⟨1024 + k.val, by omega⟩)
    (hz2 : ∀ k : Fin 1024, z2 (ix3 0 r k) = z ⟨2048 + k.val, by omega⟩) :
    k0_pay1 (k0_pay2 x0) (k0_pay3 i c l)
        (k0_pay7 (k0_pay4 z0) (k0_pay5 ya) (k0_pay6 p0) (constant S768x1024 .f32 0x00000000#32) z1 yr p1)
        (k0_pay8 z2) (k0_pay9 ys) (k0_pay10 p2) wo g b (ix3 0 r k)
      = Rows.mergeRow p (fun k j => wo (ix2 k j)) (fun k => g (ix2 0 k)) (fun k => b (ix2 0 k)) (fun k => x0 (ix3 0 r k))
        (Rows.tokenRow (768 * (i 1).val + r.val) (fun k => c (ix3 0 0 k)) (fun k => l (ix3 0 0 k))) z
        (fun k => ya (ix3 0 r k)) (fun k => yr (ix3 0 r k)) (fun k => ys (ix3 0 r k)) k := by
  have h3 := pay3_apply i c l r
  have h7 := pay7_apply z0 z1 ya yr p0 p1 r
  have h8 := pay8_apply z2 r
  simp only [hp0, hp1, hz0, hz1] at h7
  simp only [hz2] at h8
  generalize k0_pay3 i c l = gate at h3 ⊢
  generalize k0_pay7 (k0_pay4 z0) (k0_pay5 ya) (k0_pay6 p0) (constant S768x1024 .f32 0x00000000#32) z1 yr p1 = two at h7 ⊢
  generalize k0_pay8 z2 = third at h8 ⊢
  pointwise [k0_pay1, k0_pay2, k0_pay9, k0_pay10]
  simp only [h3, h7, h8, hp2]
  rfl

end Cert.KernelMergeIdeal.Hand

end
-- ==== Proof.Merge.KernelValue.lean ====
/-
  The gated merge: what the kernel's result array holds after the run, at every batch, token and column the merge's row
  function of the arguments.
-/
module

public import proofs.«01_k».proof.Proof.Gen.KernelMergeIdeal.Value
public import proofs.«01_k».proof.Proof.Merge.Block

@[expose] public section

set_option maxRecDepth 16384

noncomputable section

namespace Cert.KernelMergeIdeal.Hand

open Cert.KernelMergeIdeal Cert.KernelMergeIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 768 tokens. -/
theorem idx : ∀ t : Fin cfg0.N,
    win0_0.index t = ![t.val / 11, t.val % 11, 0] ∧ win0_1.index t = ![t.val / 11, 0, 0] ∧ win0_2.index t = ![4, 0, 0]
      ∧ win0_3.index t = ![t.val / 11, t.val % 11, 0] ∧ win0_4.index t = ![t.val / 11, t.val % 11, 0]
      ∧ win0_5.index t = ![t.val / 11, t.val % 11, 0] ∧ win0_6.index t = ![t.val / 11, t.val % 11, 0]
      ∧ win0_7.index t = ![0, 0, 0] ∧ win0_8.index t = ![0, 0] ∧ win0_9.index t = ![0, 0] ∧ win0_10.index t = ![0, 0]
      ∧ win0_11.index t = ![t.val / 11, t.val % 11, 0] ∧ t.val / 11 < 4 ∧ (grid0.coords t 1).val = t.val % 11 :=
  (by decide +kernel : ∀ t : Fin grid0.N, _)

/-- The modulation vector of token `r` of batch `bt` that starts at column `o`. -/
abbrev modRow (md : FVec Ideal S5x9216 .f32) (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The result array as a function of the arguments. -/
def result (x : FVec Ideal S4x8448x1024 .f32) (md : FVec Ideal S5x9216 .f32) (z : FVec Ideal S4x8448x3072 .bf16)
    (ya yr ys : FVec Ideal S4x8448x512 .f32) (p : FVec Ideal S3x512x1024 .f32) (wo : FVec Ideal S1024x1024 .f32)
    (g b : FVec Ideal S1024 .f32) (bt : Fin 4) (r : Fin 8448) (k : Fin 1024) : EReal :=
  Rows.mergeRow (fun s k j => p (ix3 s k j)) (fun k j => wo (ix2 k j)) (fun k => g (ix1 k)) (fun k => b (ix1 k))
    (fun k => x (ix3 bt r k)) (modRow md 5120 (by decide) bt r) (fun k => z (ix3 bt r k)) (fun k => ya (ix3 bt r k))
    (fun k => yr (ix3 bt r k)) (fun k => ys (ix3 bt r k)) k

section Reads

variable (c : Dev nD) (t : Fin cfg0.N)

/-- The block of the token stream. -/
theorem read0 (bt : Fin 4) (ti : Fin 11) (hb : bt.val = t.val / 11) (hi : ti.val = t.val % 11) (r : Fin 768) (k : Fin 1024) :
    (iblk m c 0 t : Vec Ideal S1x768x1024 .f32) (ix3 0 r k)
      = m ((c : Thread nD τ).loc main_arg0) (ix3 bt ⟨768 * ti.val + r.val, by omega⟩ k) := by
  blk_point [iblk, V, idx t]

/-- The block of the batch element's modulation vectors. -/
theorem read1 (bt : Fin 4) (hb : bt.val = t.val / 11) (s : Fin 9) (k : Fin 1024) :
    (iblk m c 1 t : Vec Ideal S1x9x1024 .f32) (ix3 0 s k)
      = m ((c : Thread nD τ).loc main_arg1) (ix2 ⟨bt.val, by omega⟩ ⟨1024 * s.val + k.val, by omega⟩) := by
  blk_point [iblk, V, idx t]

/-- The block of the context's modulation vectors. -/
theorem read2 (s : Fin 9) (k : Fin 1024) :
    (iblk m c 2 t : Vec Ideal S1x9x1024 .f32) (ix3 0 s k)
      = m ((c : Thread nD τ).loc main_arg1) (ix2 4 ⟨1024 * s.val + k.val, by omega⟩) := by
  blk_point [iblk, V, idx t]

/-- The block of the gate logits. -/
theorem read3 (bt : Fin 4) (ti : Fin 11) (hb : bt.val = t.val / 11) (hi : ti.val = t.val % 11) (r : Fin 768) (k : Fin 3072) :
    (iblk m c 3 t : Vec Ideal S1x768x3072 .bf16) (ix3 0 r k)
      = m ((c : Thread nD τ).loc main_arg2) (ix3 bt ⟨768 * ti.val + r.val, by omega⟩ k) := by
  blk_point [iblk, V, idx t]

/-- The block of the attention's result. -/
theorem read4 (bt : Fin 4) (ti : Fin 11) (hb : bt.val = t.val / 11) (hi : ti.val = t.val % 11) (r : Fin 768) (k : Fin 512) :
    (iblk m c 4 t : Vec Ideal S1x768x512 .f32) (ix3 0 r k)
      = m ((c : Thread nD τ).loc main_arg3) (ix3 bt ⟨768 * ti.val + r.val, by omega⟩ k) := by
  blk_point [iblk, V, idx t]

/-- The block of the second mixer's result. -/
theorem read5 (bt : Fin 4) (ti : Fin 11) (hb : bt.val = t.val / 11) (hi : ti.val = t.val % 11) (r : Fin 768) (k : Fin 512) :
    (iblk m c 5 t : Vec Ideal S1x768x512 .f32) (ix3 0 r k)
      = m ((c : Thread nD τ).loc main_arg4) (ix3 bt ⟨768 * ti.val + r.val, by omega⟩ k) := by
  blk_point [iblk, V, idx t]

/-- The block of the third mixer's result. -/
theorem read6 (bt : Fin 4) (ti : Fin 11) (hb : bt.val = t.val / 11) (hi : ti.val = t.val % 11) (r : Fin 768) (k : Fin 512) :
    (iblk m c 6 t : Vec Ideal S1x768x512 .f32) (ix3 0 r k)
      = m ((c : Thread nD τ).loc main_arg5) (ix3 bt ⟨768 * ti.val + r.val, by omega⟩ k) := by
  blk_point [iblk, V, idx t]

/-- The three projections of the mixers. -/
theorem read7 (s : Fin 3) (k : Fin 512) (j : Fin 1024) : (iblk m c 7 t : Vec Ideal S3x512x1024 .bf16) (ix3 s k j)
    = m ((c : Thread nD τ).loc main_arg6) (ix3 s k j) := by
  blk_point [iblk, V, idx t]

/-- The output projection. -/
theorem read8 (k : Fin 1024) (j : Fin 1024) : (iblk m c 8 t : Vec Ideal S1024x1024 .bf16) (ix2 k j)
    = m ((c : Thread nD τ).loc main_arg7) (ix2 k j) := by
  blk_point [iblk, V, idx t]

/-- The gain. -/
theorem read9 (k : Fin 1024) : (iblk m c 9 t : Vec Ideal S1x1024 .f32) (ix2 0 k) = m ((c : Thread nD τ).loc main_arg8) (ix1 k) := by
  blk_point [iblk, V, idx t]

/-- The bias. -/
theorem read10 (k : Fin 1024) : (iblk m c 10 t : Vec Ideal S1x1024 .f32) (ix2 0 k) = m ((c : Thread nD τ).loc main_arg9) (ix1 k) := by
  blk_point [iblk, V, idx t]

end Reads

/-- After the run the result array holds the merge's rows. -/
theorem final (c : Dev nD) : (dats m 0 c).arrAt 11 (cfgs 0).N
    = fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (i 0) (i 1) (i 2) := by
  refine (dats m 0 c).arrAt_eq_of_covers 11 _ (by decide +kernel) fun t _ y => ?_
  blk_simp
  rw [after0_11]
  frame_out
  idx_vars y
  obtain rfl : y0 = 0 := Subsingleton.elim _ _
  refine (out_apply (grid0.coords t) _ _ _ _ _ _ _ _ _ _ _ _ _ _ _ y1 y2
    (fun s k j => (iblk m c 7 t : Vec Ideal S3x512x1024 .bf16) (ix3 s k j)) (fun k => (iblk m c 3 t : Vec Ideal S1x768x3072 .bf16) (ix3 0 y1 k))
    (fun k j => ?_) (fun k j => ?_) (fun k j => ?_) (fun k => ?_) (fun k => ?_) (fun k => ?_)).trans ?_
  · pointwise
  · pointwise
  · pointwise
  · pointwise
  · pointwise
  · pointwise
  · obtain ⟨bt, hb⟩ : ∃ bt : Fin 4, bt.val = t.val / 11 := ⟨⟨t.val / 11, (idx t).2.2.2.2.2.2.2.2.2.2.2.2.1⟩, rfl⟩
    obtain ⟨ti, hi⟩ : ∃ ti : Fin 11, ti.val = t.val % 11 := ⟨⟨t.val % 11, Nat.mod_lt _ (by decide)⟩, rfl⟩
    have hc : (grid0.coords t 1).val = ti.val := (idx t).2.2.2.2.2.2.2.2.2.2.2.2.2.trans hi.symm
    have hy : ((cfg0.win 11).blk t).view.emb (ix3 0 y1 y2) = ix3 bt ⟨768 * ti.val + y1.val, by omega⟩ y2 := by
      blk_ext [idx t]
    refine Eq.trans ?_ (congrArg (fun i : S4x8448x1024.Idx => result (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (i 0) (i 1) (i 2)) hy).symm
    refine Rows.mergeRow_congr (read7 m c t) (read8 m c t) (read9 m c t) (read10 m c t) (read0 m c t bt ti hb hi y1)
      (Rows.tokenRow_congr (by rw [hc]; rfl) (fun k => Eq.trans ?_ (read2 m c t 5 k)) (fun k => Eq.trans ?_ (read1 m c t bt hb 5 k)))
      (read3 m c t bt ti hb hi y1) (read4 m c t bt ti hb hi y1) (read5 m c t bt ti hb hi y1) (read6 m c t bt ti hb hi y1) y2 <;> pointwise

end Cert.KernelMergeIdeal.Hand

end
-- ==== Proof.Merge.RefValue.lean ====
/-
  The gated merge: what the reference computes, read at an index, as the row functions of Merge/Spec.lean.
-/
module

public import proofs.«01_k».proof.Proof.Gen.ReferenceMergeIdeal.Read
public import proofs.«01_k».proof.Proof.Merge.Spec

@[expose] public section

set_option maxRecDepth 16384

noncomputable section

namespace Cert.ReferenceMergeIdeal.Hand

open Cert.ReferenceMergeIdeal Cert.ReferenceMergeIdeal.Gen Cert.ReferenceMergeIdeal.Read Idealize.ShloMosaic Idealize.ShloMosaic.TcCoe

variable (x : FVec Ideal S4x8448x1024 .f32) (md : FVec Ideal S5x9216 .f32) (z : FVec Ideal S4x8448x3072 .bf16)
  (ya yr ys : FVec Ideal S4x8448x512 .f32) (p : FVec Ideal S3x512x1024 .f32) (wo : FVec Ideal S1024x1024 .f32)
  (g b : FVec Ideal S1024 .f32)

/-- The modulation vector of token `r` of batch `bt` that starts at column `o`. -/
abbrev modRow (o : Nat) (ho : o + 1024 ≤ 9216) (bt : Fin 4) (r : Fin 8448) : Fin 1024 → EReal :=
  Rows.tokenRow r.val (fun k => md (ix2 4 ⟨o + k.val, by omega⟩)) (fun k => md (ix2 ⟨bt.val, by omega⟩ ⟨o + k.val, by omega⟩))

/-- The gate of every token. -/
theorem gate_apply (bt : Fin 4) (r : Fin 8448) (k : Fin 1024) :
    val_main_v33 (F := Ideal) md (ix3 bt r k) = modRow md 5120 (by decide) bt r k := by
  pointwise [val_main_v27, val_main_v28, val_main_v29, val_main_v30, val_main_v31, val_main_v32, val_main_v33]
  rfl

/-- The gates of the three mixers. -/
theorem logistic_apply (bt : Fin 4) (r : Fin 8448) (k : Fin 3072) :
    val_main_v6 (F := Ideal) z (ix3 bt r k) = Ideal.logistic (z (ix3 bt r k)) := by
  pointwise [val_main_v0, val_main_v1, val_main_v2, val_main_v3, val_main_v4, val_main_v5, val_main_v6, val_main_cst, val_main_cst_0]
  rfl

/-- The sum of the gated mixers. -/
theorem merged_apply (bt : Fin 4) (r : Fin 8448) (k : Fin 1024) :
    val_main_v23 (F := Ideal) z ya yr ys p (ix3 bt r k)
      = Rows.merged (fun k => z (ix3 bt r k)) (fun k => ya (ix3 bt r k)) (fun k => yr (ix3 bt r k)) (fun k => ys (ix3 bt r k))
          (fun s k j => p (ix3 s k j)) k := by
  pointwise [val_main_v7, val_main_v8, val_main_v9, val_main_v10, val_main_v11, val_main_v12, val_main_v13, val_main_v14, val_main_v15, val_main_v16, val_main_v17, val_main_v18, val_main_v19, val_main_v20, val_main_v21, val_main_v22, val_main_v23]
  simp only [logistic_apply]
  rfl

/-- The residual under the gate. -/
theorem residual_apply (bt : Fin 4) (r : Fin 8448) (k : Fin 1024) :
    val_main_v35 (F := Ideal) x md z ya yr ys p wo (ix3 bt r k)
      = Rows.alpha * x (ix3 bt r k) + modRow md 5120 (by decide) bt r k
          * ∑ j, Rows.merged (fun k => z (ix3 bt r k)) (fun k => ya (ix3 bt r k)) (fun k => yr (ix3 bt r k)) (fun k => ys (ix3 bt r k))
              (fun s k j => p (ix3 s k j)) j * wo (ix2 j k) := by
  pointwise [val_main_v24, val_main_v25, val_main_v26, val_main_cst_1, val_main_v34, val_main_v35]
  simp only [gate_apply, merged_apply]

/-- The merge's result. -/
theorem merge_apply (bt : Fin 4) (r : Fin 8448) (k : Fin 1024) :
    val_main_v59 (F := Ideal) x md z ya yr ys p wo g b (ix3 bt r k)
      = Rows.mergeRow (fun s k j => p (ix3 s k j)) (fun k j => wo (ix2 k j)) (fun k => g (ix1 k)) (fun k => b (ix1 k))
          (fun k => x (ix3 bt r k)) (modRow md 5120 (by decide) bt r) (fun k => z (ix3 bt r k)) (fun k => ya (ix3 bt r k))
          (fun k => yr (ix3 bt r k)) (fun k => ys (ix3 bt r k)) k := by
  pointwise [val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst_2, val_main_cst_3, val_main_cst_4, val_main_cst_5, val_main_cst_6]
  simp only [residual_apply]
  rfl

end Cert.ReferenceMergeIdeal.Hand

end
-- ==== Proof.Merge.Equation.lean ====
/-
  The gated merge: the kernel's array is the reference's result, and the two programs' claims.
-/
module

public import proofs.«01_k».proof.Defs
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Merge.KernelValue
public import proofs.«01_k».proof.Proof.Merge.RefValue
public import Idealize.ShloMosaic.Lib.Claim

@[expose] public section

noncomputable section

namespace Cert.Proof.Merge

open Idealize.ShloMosaic Idealize.ShloMosaic.TcCoe Idealize.SL.Sem

/-- The array the kernel leaves is the reference's result. -/
theorem result_eq (m : (ℓ : Loc KernelMergeIdeal.nD KernelMergeIdeal.τ KernelMergeIdeal.sig) → Buf (Elt Ideal) ℓ) (c : Dev KernelMergeIdeal.nD) :
    (KernelMergeIdeal.Gen.dats m 0 c).arrAt 11 KernelMergeIdeal.cfg0.N
      = ReferenceMergeIdeal.Read.val_main_v59 (F := Ideal) (m ((c.tc : Thread KernelMergeIdeal.nD KernelMergeIdeal.τ).loc KernelMergeIdeal.main_arg0))
          (m ((c.tc : Thread KernelMergeIdeal.nD KernelMergeIdeal.τ).loc KernelMergeIdeal.main_arg1))
          (m ((c.tc : Thread KernelMergeIdeal.nD KernelMergeIdeal.τ).loc KernelMergeIdeal.main_arg2))
          (m ((c.tc : Thread KernelMergeIdeal.nD KernelMergeIdeal.τ).loc KernelMergeIdeal.main_arg3))
          (m ((c.tc : Thread KernelMergeIdeal.nD KernelMergeIdeal.τ).loc KernelMergeIdeal.main_arg4))
          (m ((c.tc : Thread KernelMergeIdeal.nD KernelMergeIdeal.τ).loc KernelMergeIdeal.main_arg5))
          (m ((c.tc : Thread KernelMergeIdeal.nD KernelMergeIdeal.τ).loc KernelMergeIdeal.main_arg6))
          (m ((c.tc : Thread KernelMergeIdeal.nD KernelMergeIdeal.τ).loc KernelMergeIdeal.main_arg7))
          (m ((c.tc : Thread KernelMergeIdeal.nD KernelMergeIdeal.τ).loc KernelMergeIdeal.main_arg8))
          (m ((c.tc : Thread KernelMergeIdeal.nD KernelMergeIdeal.τ).loc KernelMergeIdeal.main_arg9)) := by
  refine (KernelMergeIdeal.Hand.final m c).trans (funext fun i => ?_)
  idx_vars i
  exact (ReferenceMergeIdeal.Hand.merge_apply _ _ _ _ _ _ _ _ _ _ _ _ _).symm

/-- The idealized kernel computes what the idealized reference computes. -/
theorem algebraic : algebraic_KernelMergeIdeal_ReferenceMergeIdeal (hKernelMergeIdeal := KernelMergeIdeal.Gen.facts)
    (hReferenceMergeIdeal := ReferenceMergeIdeal.Gen.facts) := by
  pair_intro
  · run_from KernelMergeIdeal.Value.run_blocks m g
  · run_from ReferenceMergeIdeal.Value.run m' g'
    obtain ⟨a0, a1, a2, a3, a4, a5, a6, a7, a8, a9⟩ := hagree c
    rw [result_eq, ReferenceMergeIdeal.Read.val_main_v59_eq]
    exact congr (congr (congr (congr (congr (congr (congr (congr (congrArg₂ _ a0 a1) a2) a3) a4) a5) a6) a7) a8) a9

/-- The reference terminates, its arguments unchanged. -/
theorem quiescent_reference : quiescent_ReferenceMergeIdeal (hReferenceMergeIdeal := ReferenceMergeIdeal.Gen.facts) := by
  intro m g _
  exact (θ_run ReferenceMergeIdeal.defs _ _).mono (fun r h => ⟨fun c => (h c).2, sem_eq_zero_of_no_sems (by decide) r.2⟩)
    (ReferenceMergeIdeal.Value.run (F := Ideal) m g)

end Cert.Proof.Merge

end
-- ==== Proof.Mod.Block.lean ====
/-
  The modulation vectors: what one grid point computes, read at an index of its block. A block holds 1152 columns of the
  vectors of all five conditioning vectors.
-/
module

public import proofs.«01_k».proof.Proof.Gen.KernelModIdeal.Skeleton
public import proofs.«01_k».proof.Proof.Spec
public import Idealize.ShloMosaic.Lib.Pipeline.ValueKit
public import Idealize.ShloMosaic.Lib.Tactic.WordOmega

@[expose] public section

set_option maxRecDepth 16384

noncomputable section

namespace Cert.KernelModIdeal.Hand

open Cert.KernelModIdeal Cert.KernelModIdeal.Gen Idealize.ShloMosaic Idealize.ShloMosaic.TcCoe Idealize.SL.Sem

/-- Entry `q` of a block of modulation vectors: the conditioning vector's `silu` times a weight column, plus the bias. -/
theorem out_apply (c : Vec Ideal S5x1024 .f32) (w : Vec Ideal S1x1024x1152 .f32) (b : Vec Ideal S1x1x1152 .f32) (s : Fin 5) (q : Fin 1152) :
    k0_pay1 c w b (ix3 0 s q)
      = (∑ k : Fin 1024, c (ix2 s k) * Ideal.logistic (c (ix2 s k)) * w (ix3 0 k q)) + b (ix3 0 0 q) := by
  pointwise [k0_pay1]
  simp only [Rows.silu_half_tanh]

end Cert.KernelModIdeal.Hand

end
-- ==== Proof.Mod.KernelValue.lean ====
/-
  The modulation vectors: what the kernel's result array holds after the run, as a function of the arguments.
-/
module

public import proofs.«01_k».proof.Proof.Gen.KernelModIdeal.Value
public import proofs.«01_k».proof.Proof.Mod.Block

@[expose] public section

set_option maxRecDepth 16384

noncomputable section

namespace Cert.KernelModIdeal.Hand

open Cert.KernelModIdeal Cert.KernelModIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a layer and a block of 1152 columns. -/
theorem idx : ∀ t : Fin cfg0.N,
    win0_0.index t = ![0, 0] ∧ win0_1.index t = ![t.val / 8, 0, t.val % 8] ∧ win0_2.index t = ![t.val / 8, 0, t.val % 8]
      ∧ win0_3.index t = ![t.val / 8, 0, t.val % 8] ∧ t.val / 8 < 2 :=
  (by decide +kernel : ∀ t : Fin grid0.N, _)

/-- The conditioning vectors: the batch elements' four, then the context's. -/
abbrev condRow (x : FVec Ideal S4x1024 .f32) (cx : FVec Ideal S1024 .f32) (s : Fin 5) (k : Fin 1024) : EReal :=
  if h : s.val < 4 then x (ix2 ⟨s.val, h⟩ k) else cx (ix1 k)

/-- The result array as a function of the arguments. -/
def result (x : FVec Ideal S4x1024 .f32) (cx : FVec Ideal S1024 .f32) (w : FVec Ideal S2x1024x9216 .f32) (b : FVec Ideal S2x9216 .f32)
    (l : Fin 2) (s : Fin 5) (q : Fin 9216) : EReal :=
  (∑ k : Fin 1024, condRow x cx s k * Ideal.logistic (condRow x cx s k) * w (ix3 l k q)) + b (ix2 l q)

section Reads

/-- The array the kernel is launched on holds the conditioning vectors. -/
theorem cond_apply (c : Dev nD) (s : Fin 5) (k : Fin 1024) : V m c main_v1 (ix2 s k)
    = condRow (m ((c : Thread nD τ).loc main_arg0)) (m ((c : Thread nD τ).loc main_arg1)) s k := by
  unfold_abbrev_sides
  after_results
  pointwise

variable (c : Dev nD) (t : Fin cfg0.N)

/-- The conditioning vectors. -/
theorem read0 (s : Fin 5) (k : Fin 1024) : (iblk m c 0 t : Vec Ideal S5x1024 .f32) (ix2 s k)
    = condRow (m ((c : Thread nD τ).loc main_arg0)) (m ((c : Thread nD τ).loc main_arg1)) s k := by
  blk_simp [iblk, V]
  have e : (win0_0.blk t).view.emb (ix2 s k) = ix2 s k := by
    blk_ext [idx t]
  exact (congrArg _ e).trans (cond_apply m c s k)

/-- The block of the layer's weights. -/
theorem read1 (l : Fin 2) (ti : Fin 8) (hl : l.val = t.val / 8) (hi : ti.val = t.val % 8) (k : Fin 1024) (q : Fin 1152) :
    (iblk m c 1 t : Vec Ideal S1x1024x1152 .f32) (ix3 0 k q)
      = m ((c : Thread nD τ).loc main_arg2) (ix3 l k ⟨1152 * ti.val + q.val, by omega⟩) := by
  blk_point [iblk, V, idx t]

/-- The block of the layer's bias. -/
theorem read2 (l : Fin 2) (ti : Fin 8) (hl : l.val = t.val / 8) (hi : ti.val = t.val % 8) (q : Fin 1152) :
    (iblk m c 2 t : Vec Ideal S1x1x1152 .f32) (ix3 0 0 q)
      = m ((c : Thread nD τ).loc main_arg3) (ix2 l ⟨1152 * ti.val + q.val, by omega⟩) := by
  blk_point [iblk, V, idx t]

end Reads

/-- After the run the result array holds the modulation vectors. -/
theorem final (c : Dev nD) : (dats m 0 c).arrAt 3 (cfgs 0).N
    = fun i : S2x5x9216.Idx => result (m ((c : Thread nD τ).loc main_arg0)) (m ((c : Thread nD τ).loc main_arg1))
        (m ((c : Thread nD τ).loc main_arg2)) (m ((c : Thread nD τ).loc main_arg3)) (i 0) (i 1) (i 2) := by
  refine (dats m 0 c).arrAt_eq_of_covers 3 _ (by decide +kernel) fun t _ y => ?_
  blk_simp
  rw [after0_3]
  frame_out
  idx_vars y
  obtain rfl : y0 = 0 := Subsingleton.elim _ _
  refine (out_apply _ _ _ y1 y2).trans ?_
  obtain ⟨l, hl⟩ : ∃ l : Fin 2, l.val = t.val / 8 := ⟨⟨t.val / 8, (idx t).2.2.2.2⟩, rfl⟩
  obtain ⟨ti, hi⟩ : ∃ ti : Fin 8, ti.val = t.val % 8 := ⟨⟨t.val % 8, Nat.mod_lt _ (by decide)⟩, rfl⟩
  have hy : ((cfg0.win 3).blk t).view.emb (ix3 0 y1 y2) = ix3 l y1 ⟨1152 * ti.val + y2.val, by omega⟩ := by
    blk_ext [idx t]
  refine Eq.trans ?_ (congrArg (fun i : S2x5x9216.Idx => result (m ((c : Thread nD τ).loc main_arg0)) (m ((c : Thread nD τ).loc main_arg1))
        (m ((c : Thread nD τ).loc main_arg2)) (m ((c : Thread nD τ).loc main_arg3)) (i 0) (i 1) (i 2)) hy).symm
  refine congrArg₂ (· + ·) (Finset.sum_congr rfl fun k _ => ?_) (read2 m c t l ti hl hi y2)
  rw [read0 m c t y1 k, read1 m c t l ti hl hi k y2]
  rfl

end Cert.KernelModIdeal.Hand

end
-- ==== Proof.Mod.RefValue.lean ====
/-
  The modulation vectors: what the reference computes, read at an index.
-/
module

public import proofs.«01_k».proof.Proof.Gen.ReferenceModIdeal.Read
public import proofs.«01_k».proof.Proof.Spec

@[expose] public section

set_option maxRecDepth 16384

noncomputable section

namespace Cert.ReferenceModIdeal.Hand

open Cert.ReferenceModIdeal Cert.ReferenceModIdeal.Gen Cert.ReferenceModIdeal.Read Idealize.ShloMosaic Idealize.ShloMosaic.TcCoe

variable (x : FVec Ideal S4x1024 .f32) (cx : FVec Ideal S1024 .f32) (w : FVec Ideal S2x1024x9216 .f32) (b : FVec Ideal S2x9216 .f32)

/-- `silu` of the batch elements' conditioning vectors. -/
theorem silu_apply (s : Fin 4) (k : Fin 1024) :
    val_main_v0 (F := Ideal) x (ix2 s k) = x (ix2 s k) * Ideal.logistic (x (ix2 s k)) := by
  pointwise [val_main_v0, val_main_call0_v0, val_main_call0_v1, val_main_call0_v2, val_main_call0_v3, val_main_call0_v4, val_main_call0_v5, val_main_call0_cst, val_main_call0_cst_0]
  try rfl

/-- `silu` of the context's conditioning vector. -/
theorem silu_context_apply (k : Fin 1024) :
    val_main_v1 (F := Ideal) cx (ix1 k) = cx (ix1 k) * Ideal.logistic (cx (ix1 k)) := by
  pointwise [val_main_v1, val_main_call1_v0, val_main_call1_v1, val_main_call1_v2, val_main_call1_v3, val_main_call1_v4, val_main_call1_v5, val_main_call1_cst, val_main_call1_cst_0]
  try rfl

/-- The conditioning vectors: the batch elements' four, then the context's. -/
abbrev condRow (s : Fin 5) (k : Fin 1024) : EReal :=
  if h : s.val < 4 then x (ix2 ⟨s.val, h⟩ k) else cx (ix1 k)

/-- The first layer's vectors. -/
theorem first_apply (s : Fin 5) (q : Fin 9216) :
    val_main_v17 (F := Ideal) x cx w b (ix2 s q)
      = (∑ k : Fin 1024, condRow x cx s k * Ideal.logistic (condRow x cx s k) * w (ix3 0 k q)) + b (ix2 0 q) := by
  unfold condRow
  pointwise [val_main_v2, val_main_v3, val_main_v4, val_main_v5, val_main_v6, val_main_v7, val_main_v8, val_main_v9, val_main_v10, val_main_v11, val_main_v12, val_main_v13, val_main_v14, val_main_v15, val_main_v16, val_main_v17]
  split
  · simp only [silu_apply]
  · simp only [silu_context_apply]

/-- The second layer's vectors. -/
theorem second_apply (s : Fin 5) (q : Fin 9216) :
    val_main_v33 (F := Ideal) x cx w b (ix2 s q)
      = (∑ k : Fin 1024, condRow x cx s k * Ideal.logistic (condRow x cx s k) * w (ix3 1 k q)) + b (ix2 1 q) := by
  unfold condRow
  pointwise [val_main_v18, val_main_v19, val_main_v20, val_main_v21, val_main_v22, val_main_v23, val_main_v24, val_main_v25, val_main_v26, val_main_v27, val_main_v28, val_main_v29, val_main_v30, val_main_v31, val_main_v32, val_main_v33]
  split
  · simp only [silu_apply]
  · simp only [silu_context_apply]

/-- The vectors of both layers. -/
theorem vectors_apply (l : Fin 2) (s : Fin 5) (q : Fin 9216) :
    val_main_v36 (F := Ideal) x cx w b (ix3 l s q)
      = (∑ k : Fin 1024, condRow x cx s k * Ideal.logistic (condRow x cx s k) * w (ix3 l k q)) + b (ix2 l q) := by
  have h1 := first_apply x cx w b s q
  have h2 := second_apply x cx w b s q
  pointwise [val_main_v34, val_main_v35, val_main_v36]
  fin_cases l
  · exact h1
  · exact h2

end Cert.ReferenceModIdeal.Hand

end
-- ==== Proof.Mod.Equation.lean ====
/-
  The modulation vectors: the kernel's array is the reference's result, and the two programs' claims.
-/
module

public import proofs.«01_k».proof.Defs
public import proofs.«01_k».proof.Proof.Gen.KernelModIdeal.Value
public import proofs.«01_k».proof.Proof.Gen.ReferenceModIdeal.Run
public import proofs.«01_k».proof.Proof.Gen.ReferenceModIdeal.Read
public import proofs.«01_k».proof.Proof.Mod.KernelValue
public import proofs.«01_k».proof.Proof.Mod.RefValue
public import Idealize.ShloMosaic.Lib.Claim

@[expose] public section

noncomputable section

namespace Cert.Proof.Mod

open Idealize.ShloMosaic Idealize.ShloMosaic.TcCoe Idealize.SL.Sem

/-- The array the kernel leaves is the reference's result. -/
theorem result_eq (m : (ℓ : Loc KernelModIdeal.nD KernelModIdeal.τ KernelModIdeal.sig) → Buf (Elt Ideal) ℓ) (c : Dev KernelModIdeal.nD) :
    (KernelModIdeal.Gen.dats m 0 c).arrAt 3 KernelModIdeal.cfg0.N
      = ReferenceModIdeal.Read.val_main_v36 (F := Ideal) (m ((c.tc : Thread KernelModIdeal.nD KernelModIdeal.τ).loc KernelModIdeal.main_arg0))
          (m ((c.tc : Thread KernelModIdeal.nD KernelModIdeal.τ).loc KernelModIdeal.main_arg1))
          (m ((c.tc : Thread KernelModIdeal.nD KernelModIdeal.τ).loc KernelModIdeal.main_arg2))
          (m ((c.tc : Thread KernelModIdeal.nD KernelModIdeal.τ).loc KernelModIdeal.main_arg3)) := by
  refine (KernelModIdeal.Hand.final m c).trans (funext fun i => ?_)
  idx_vars i
  exact (ReferenceModIdeal.Hand.vectors_apply _ _ _ _ _ _ _).symm

/-- The idealized kernel computes what the idealized reference computes. -/
theorem algebraic : algebraic_KernelModIdeal_ReferenceModIdeal (hKernelModIdeal := KernelModIdeal.Gen.facts)
    (hReferenceModIdeal := ReferenceModIdeal.Gen.facts) := by
  pair_intro
  · run_from KernelModIdeal.Value.run_blocks m g
  · run_from ReferenceModIdeal.Value.run m' g'
    obtain ⟨-, -, -, a3⟩ := hagree c
    rw [result_eq, ReferenceModIdeal.Read.val_main_v36_eq]
    exact congrArg _ a3

/-- The reference terminates, its arguments unchanged. -/
theorem quiescent_reference : quiescent_ReferenceModIdeal (hReferenceModIdeal := ReferenceModIdeal.Gen.facts) := by
  intro m g _
  exact (θ_run ReferenceModIdeal.defs _ _).mono (fun r h => ⟨fun c => (h c).2, sem_eq_zero_of_no_sems (by decide) r.2⟩)
    (ReferenceModIdeal.Value.run (F := Ideal) m g)

end Cert.Proof.Mod

end
-- ==== Proof.Attn.Spec.lean ====
/-
  The windowed attention: one query's row over a set of keys, and the facts that let the kernel's keys (its three blocks and the
  context) stand for the reference's (all of them, those not seen at −∞).
-/
module

public import Idealize.ShloMosaic.Lib.Pipeline.ValueKit
public import Idealize.ShloMosaic.PureOps.Ideal.Laws

@[expose] public section

noncomputable section

namespace Cert.Rows.Attn

open Idealize.ShloMosaic

variable {ι κ : Type} [Fintype ι] [Fintype κ]

/-- The largest score of a row, the sink's included. -/
def top (s : ι → EReal) (sk : EReal) : EReal := max (Finset.univ.fold max ⊥ s) sk

/-- The softmax's denominator. -/
def den (s : ι → EReal) (sk : EReal) : EReal :=
  (∑ k, Ideal.exp (s k - top s sk)) + Ideal.exp (sk - top s sk)

/-- One query's result in one column: the values weighted by the exponentials, divided by the denominator. -/
def attend (s v : ι → EReal) (sk : EReal) : EReal :=
  Ideal.div (∑ k, Ideal.exp (s k - top s sk) * v k) (den s sk)

/-- A score of −∞ has weight zero. -/
theorem exp_bot_sub (m : EReal) : Ideal.exp (⊥ - m) = 0 := by
  rw [sub_eq_add_neg, EReal.bot_add]; rfl

/-- A finite fold of `max` from −∞ is the supremum. -/
theorem fold_eq_sup (s : ι → EReal) : Finset.univ.fold max ⊥ s = Finset.univ.sup s := by
  rfl

/-- Two rows whose seen keys correspond, the others at −∞, have the same sums. -/
theorem sum_transfer (P : ι → Prop) (Q : κ → Prop) (f : ι → κ) (F : ι → EReal) (G : κ → EReal)
    (hF : ∀ i, ¬P i → F i = 0) (hG : ∀ k, ¬Q k → G k = 0) (hPQ : ∀ i, P i → Q (f i))
    (hinj : ∀ i j, P i → P j → f i = f j → i = j) (hsurj : ∀ k, Q k → ∃ i, P i ∧ f i = k) (h : ∀ i, P i → F i = G (f i)) :
    ∑ i, F i = ∑ k, G k := by
  classical
  rw [← Finset.sum_filter_of_ne (s := Finset.univ) (p := P) (f := F) (fun i _ hi => by by_contra hp; exact hi (hF i hp)),
    ← Finset.sum_filter_of_ne (s := Finset.univ) (p := Q) (f := G) (fun i _ hi => by by_contra hp; exact hi (hG i hp))]
  refine Finset.sum_nbij f ?_ ?_ ?_ ?_
  · intro i hi
    simp only [Finset.mem_filter, Finset.mem_univ, true_and] at hi ⊢
    exact hPQ i hi
  · intro i hi j hj hij
    simp only [Finset.coe_filter, Finset.mem_univ, true_and, Set.mem_setOf_eq] at hi hj
    exact hinj i j hi hj hij
  · intro k hk
    simp only [Finset.coe_filter, Finset.mem_univ, true_and, Set.mem_setOf_eq] at hk
    obtain ⟨i, hi, rfl⟩ := hsurj k hk
    exact ⟨i, by simpa using hi, rfl⟩
  · intro i hi
    simp only [Finset.mem_filter, Finset.mem_univ, true_and] at hi
    exact h i hi

/-- Two rows whose seen keys correspond, the others at −∞, have the same largest score. -/
theorem top_transfer (P : ι → Prop) (Q : κ → Prop) (f : ι → κ) (s : ι → EReal) (t : κ → EReal) (sk : EReal)
    (hF : ∀ i, ¬P i → s i = ⊥) (hG : ∀ k, ¬Q k → t k = ⊥) (hPQ : ∀ i, P i → Q (f i))
    (hsurj : ∀ k, Q k → ∃ i, P i ∧ f i = k) (h : ∀ i, P i → s i = t (f i)) : top s sk = top t sk := by
  unfold top
  rw [fold_eq_sup, fold_eq_sup]
  congr 1
  refine le_antisymm (Finset.sup_le fun i _ => ?_) (Finset.sup_le fun k _ => ?_)
  · by_cases hi : P i
    · rw [h i hi]; exact Finset.le_sup (f := t) (Finset.mem_univ _)
    · rw [hF i hi]; exact bot_le
  · by_cases hk : Q k
    · obtain ⟨i, hi, rfl⟩ := hsurj k hk
      rw [← h i hi]; exact Finset.le_sup (f := s) (Finset.mem_univ _)
    · rw [hG k hk]; exact bot_le

/-- Two rows whose seen keys correspond, the others at −∞, have the same result. -/
theorem attend_transfer (P : ι → Prop) (Q : κ → Prop) (f : ι → κ) (s v : ι → EReal) (t w : κ → EReal) (sk : EReal)
    (hF : ∀ i, ¬P i → s i = ⊥) (hG : ∀ k, ¬Q k → t k = ⊥) (hPQ : ∀ i, P i → Q (f i))
    (hinj : ∀ i j, P i → P j → f i = f j → i = j) (hsurj : ∀ k, Q k → ∃ i, P i ∧ f i = k)
    (h : ∀ i, P i → s i = t (f i)) (hv : ∀ i, P i → v i = w (f i)) : attend s v sk = attend t w sk := by
  unfold attend den
  rw [top_transfer P Q f s t sk hF hG hPQ hsurj h]
  rw [sum_transfer P Q f (fun i => Ideal.exp (s i - top t sk)) (fun k => Ideal.exp (t k - top t sk))
    (fun i hi => by rw [hF i hi, exp_bot_sub]) (fun k hk => by rw [hG k hk, exp_bot_sub]) hPQ hinj hsurj (fun i hi => by rw [h i hi]),
    sum_transfer P Q f (fun i => Ideal.exp (s i - top t sk) * v i) (fun k => Ideal.exp (t k - top t sk) * w k)
    (fun i hi => by rw [hF i hi, exp_bot_sub, zero_mul]) (fun k hk => by rw [hG k hk, exp_bot_sub, zero_mul]) hPQ hinj hsurj
    (fun i hi => by rw [h i hi, hv i hi])]

/-- A row over two sets of keys, as the kernel takes it. -/
theorem attend_sum (s v : ι → EReal) (t w : κ → EReal) (sk : EReal) :
    attend (Sum.elim s t) (Sum.elim v w) sk
      = Ideal.div ((∑ k, Ideal.exp (s k - max (max (Finset.univ.fold max ⊥ s) (Finset.univ.fold max ⊥ t)) sk) * v k)
            + ∑ k, Ideal.exp (t k - max (max (Finset.univ.fold max ⊥ s) (Finset.univ.fold max ⊥ t)) sk) * w k)
          (((∑ k, Ideal.exp (s k - max (max (Finset.univ.fold max ⊥ s) (Finset.univ.fold max ⊥ t)) sk))
            + ∑ k, Ideal.exp (t k - max (max (Finset.univ.fold max ⊥ s) (Finset.univ.fold max ⊥ t)) sk))
            + Ideal.exp (sk - max (max (Finset.univ.fold max ⊥ s) (Finset.univ.fold max ⊥ t)) sk)) := by
  have e : top (Sum.elim s t) sk = max (max (Finset.univ.fold max ⊥ s) (Finset.univ.fold max ⊥ t)) sk := by
    unfold top
    rw [fold_eq_sup, fold_eq_sup, fold_eq_sup]
    congr 1
    refine le_antisymm (Finset.sup_le fun i _ => ?_) (max_le (Finset.sup_le fun i _ => ?_) (Finset.sup_le fun i _ => ?_))
    · cases i with
      | inl i => exact le_max_of_le_left (Finset.le_sup (f := s) (Finset.mem_univ i))
      | inr i => exact le_max_of_le_right (Finset.le_sup (f := t) (Finset.mem_univ i))
    · exact Finset.le_sup (f := Sum.elim s t) (Finset.mem_univ (Sum.inl i))
    · exact Finset.le_sup (f := Sum.elim s t) (Finset.mem_univ (Sum.inr i))
  unfold attend den
  rw [e, Fintype.sum_sum_type, Fintype.sum_sum_type]
  rfl

/-- A positive real factor distributes over a finite sum. -/
theorem sum_mul_coe (r : ℝ) (hr : 0 < r) (f : ι → EReal) : ∑ k, f k * (r : EReal) = (∑ k, f k) * (r : EReal) := by
  classical
  refine Finset.induction_on (Finset.univ : Finset ι) (by simp) fun a s ha ih => ?_
  rw [Finset.sum_insert ha, Finset.sum_insert ha, ih]
  exact (EReal.right_distrib_of_nonneg_of_ne_top (by exact_mod_cast hr.le) (EReal.coe_ne_top r) _ _).symm

/-- A score that is a real number or −∞, below a real number, has a real weight that is not negative. -/
theorem exp_real (x : EReal) (m : ℝ) (hx : x ≠ ⊤) : ∃ r : ℝ, 0 ≤ r ∧ Ideal.exp (x - (m : EReal)) = (r : EReal) := by
  induction x with
  | bot => exact ⟨0, le_rfl, by rw [exp_bot_sub]; rfl⟩
  | coe x => exact ⟨Real.exp (x - m), (Real.exp_pos _).le, rfl⟩
  | top => exact absurd rfl hx

/-- The largest score is a real number where the sink is and no score is +∞. -/
theorem top_real (s : ι → EReal) (sk : ℝ) (hs : ∀ k, s k ≠ ⊤) : ∃ m : ℝ, top s (sk : EReal) = (m : EReal) := by
  have h1 : top s (sk : EReal) ≠ ⊤ := by
    unfold top
    rw [fold_eq_sup]
    refine ne_of_lt (max_lt ?_ (EReal.coe_lt_top _))
    exact (Finset.sup_lt_iff bot_lt_top).2 fun k _ => lt_top_iff_ne_top.2 (hs k)
  have h2 : top s (sk : EReal) ≠ ⊥ := fun h => by
    have := le_max_right (Finset.univ.fold max ⊥ s) (sk : EReal)
    unfold top at h
    rw [h] at this
    exact EReal.coe_ne_bot _ (le_bot_iff.1 this)
  exact ⟨(top s sk).toReal, (EReal.coe_toReal h1 h2).symm⟩

/-- The denominator is a positive real number where the sink is a real number and no score is +∞. -/
theorem den_real (s : ι → EReal) (sk : ℝ) (hs : ∀ k, s k ≠ ⊤) : ∃ d : ℝ, 0 < d ∧ den s (sk : EReal) = (d : EReal) := by
  obtain ⟨m, hm⟩ := top_real s sk hs
  unfold den
  rw [hm]
  choose r h0 hr using fun k => exp_real (s k) m (hs k)
  refine ⟨(∑ k, r k) + Real.exp (sk - m), add_pos_of_nonneg_of_pos (Finset.sum_nonneg fun k _ => h0 k) (Real.exp_pos _), ?_⟩
  simp only [hr]
  rw [EReal.coe_add]
  congr 1
  classical
  refine Finset.induction_on (Finset.univ : Finset ι) (by simp) fun a s ha ih => ?_
  rw [Finset.sum_insert ha, Finset.sum_insert ha, ih, EReal.coe_add]

/-- Dividing each weight by the denominator or the whole sum is the same, where the denominator is a positive real number. -/
theorem attend_eq (s v : ι → EReal) (sk : ℝ) (hs : ∀ k, s k ≠ ⊤) :
    ∑ k, v k * Ideal.div (Ideal.exp (s k - top s (sk : EReal))) (den s (sk : EReal)) = attend s v (sk : EReal) := by
  obtain ⟨d, hd, he⟩ := den_real s sk hs
  unfold attend
  rw [he, Ideal.div_coe hd.ne', ← sum_mul_coe (1 / d) (one_div_pos.2 hd)]
  refine Finset.sum_congr rfl fun k _ => ?_
  rw [Ideal.div_coe hd.ne', ← mul_assoc, mul_comm (v k)]

/-- A finite sum of products of real numbers is not +∞. -/
theorem dot_ne_top (a b : ι → EReal) (ha : ∀ k, ∃ r : ℝ, a k = r) (hb : ∀ k, ∃ r : ℝ, b k = r) : ∑ k, a k * b k ≠ ⊤ := by
  choose x hx using ha
  choose y hy using hb
  have : ∑ k, a k * b k = ((∑ k, x k * y k : ℝ) : EReal) := by
    simp only [hx, hy]
    classical
    refine Finset.induction_on (Finset.univ : Finset ι) (by simp) fun a s ha ih => ?_
    rw [Finset.sum_insert ha, Finset.sum_insert ha, ih, EReal.coe_add, EReal.coe_mul]
  rw [this]
  exact EReal.coe_ne_top _

end Cert.Rows.Attn

end
-- ==== Proof.Attn.Pieces.lean ====
/-
  The windowed attention: the pieces of one grid point's computation, read at an index. A block holds 128 tokens; the four heads
  of a key head are stacked, 128 rows each.
-/
module

public import proofs.«01_k».proof.Proof.Gen.KernelAttnIdeal.Skeleton
public import proofs.«01_k».proof.Proof.Attn.Spec
public import Idealize.ShloMosaic.Lib.Pipeline.ValueKit
public import Idealize.ShloMosaic.Lib.Tactic.WordOmega

@[expose] public section

set_option maxRecDepth 16384

noncomputable section

namespace Cert.KernelAttnIdeal.Hand

open Cert.KernelAttnIdeal Cert.KernelAttnIdeal.Gen Idealize.ShloMosaic Idealize.ShloMosaic.TcCoe Idealize.SL.Sem

/-- The stacked row of token `r` in head `g` of its key head. -/
abbrev row (g : Fin 4) (r : Fin 128) : Fin 512 := ⟨128 * g.val + r.val, by omega⟩

/-- The stacked queries of the first key head. -/
theorem pay16_apply (v1 : FVec Ideal S128x512 .bf16) (g : Fin 4) (r : Fin 128) (d : Fin 64) :
    k0_pay16 v1 (ix2 (row g r) d) = v1 (ix2 r ⟨64 * g.val + d.val, by omega⟩) := by
  fin_cases g <;> pointwise [k0_pay16]
  · rw [dif_neg (by omega), dif_neg (by omega), dif_pos (by omega)]
    exact congrArg v1 (congrArg₂ ix2 (Fin.ext (by dsimp only; omega)) (Fin.ext (by dsimp only)))
  · rw [dif_neg (by omega), dif_neg (by omega), dif_neg (by omega)]
    exact congrArg v1 (congrArg₂ ix2 (Fin.ext (by dsimp only; omega)) (Fin.ext (by dsimp only)))

/-- The stacked queries of the second key head. -/
theorem pay31_apply (v1 : FVec Ideal S128x512 .bf16) (g : Fin 4) (r : Fin 128) (d : Fin 64) :
    k0_pay31 v1 (ix2 (row g r) d) = v1 (ix2 r ⟨256 + 64 * g.val + d.val, by omega⟩) := by
  fin_cases g <;> pointwise [k0_pay31]
  · rw [dif_neg (by omega), dif_neg (by omega), dif_pos (by omega)]
    exact congrArg v1 (congrArg₂ ix2 (Fin.ext (by dsimp only; omega)) (Fin.ext (by dsimp only)))
  · rw [dif_neg (by omega), dif_neg (by omega), dif_neg (by omega)]
    exact congrArg v1 (congrArg₂ ix2 (Fin.ext (by dsimp only; omega)) (Fin.ext (by dsimp only)))

/-- The two key heads' stacked results, side by side. -/
def joined (v145 v245 : FVec Ideal S512x64 .f32) : FVec Ideal S128x512 .f32 :=
  concatenate S128x512 1 [⟨S128x64, extractStridedSlice S128x64 ![0, 0] v145 slices_S512x64_o0_0_S128x64⟩,
    ⟨S128x64, extractStridedSlice S128x64 ![128, 0] v145 slices_S512x64_o128_0_S128x64⟩,
    ⟨S128x64, extractStridedSlice S128x64 ![256, 0] v145 slices_S512x64_o256_0_S128x64⟩,
    ⟨S128x64, extractStridedSlice S128x64 ![384, 0] v145 slices_S512x64_o384_0_S128x64⟩,
    ⟨S128x64, extractStridedSlice S128x64 ![0, 0] v245 slices_S512x64_o0_0_S128x64⟩,
    ⟨S128x64, extractStridedSlice S128x64 ![128, 0] v245 slices_S512x64_o128_0_S128x64⟩,
    ⟨S128x64, extractStridedSlice S128x64 ![256, 0] v245 slices_S512x64_o256_0_S128x64⟩,
    ⟨S128x64, extractStridedSlice S128x64 ![384, 0] v245 slices_S512x64_o384_0_S128x64⟩] concatenates_S128x64_S128x64_S128x64_S128x64_S128x64_S128x64_S128x64_S128x64_S128x512_d1

/-- The side-by-side results, read at a column of a piece. -/
theorem joined_read (a b : FVec Ideal S512x64 .f32) (r : Fin 128) (k : Fin 512) :
    joined a b (ix2 r k)
      = if h : k.val < 256 then a (ix2 (row ⟨k.val / 64, by omega⟩ r) ⟨k.val % 64, Nat.mod_lt _ (by decide)⟩)
        else b (ix2 (row ⟨(k.val - 256) / 64, by omega⟩ r) ⟨k.val % 64, Nat.mod_lt _ (by decide)⟩) := by
  have hk := k.isLt
  by_cases h : k.val < 256
  · rw [dif_pos h]
    unfold joined
    pointwise
    split_ifs
    all_goals first
      | omega
      | exact congrArg a (congrArg₂ ix2 (Fin.ext (by dsimp only; omega)) (Fin.ext (by dsimp only; omega)))
  · rw [dif_neg h]
    unfold joined
    pointwise
    split_ifs
    all_goals first
      | omega
      | exact congrArg b (congrArg₂ ix2 (Fin.ext (by dsimp only; omega)) (Fin.ext (by dsimp only; omega)))

/-- One piece of the side-by-side results. -/
theorem joined_piece (a b : FVec Ideal S512x64 .f32) (g : Fin 4) (r : Fin 128) (d : Fin 64) :
    joined a b (ix2 r ⟨64 * g.val + d.val, by omega⟩) = a (ix2 (row g r) d)
      ∧ joined a b (ix2 r ⟨256 + 64 * g.val + d.val, by omega⟩) = b (ix2 (row g r) d) := by
  have hd := d.isLt
  have hg := g.isLt
  constructor
  · rw [joined_read, dif_pos (by dsimp only <;> omega)]
    exact congrArg a (congrArg₂ ix2 (Fin.ext (by dsimp only <;> omega)) (Fin.ext (by dsimp only <;> omega)))
  · rw [joined_read, dif_neg (by dsimp only <;> omega)]
    exact congrArg b (congrArg₂ ix2 (Fin.ext (by dsimp only <;> omega)) (Fin.ext (by dsimp only <;> omega)))

/-- The number of a stacked row's head, as the kernel computes it. -/
theorem group : ∀ i : Fin 512, k0_pay7 (ix2 i 0) = BitVec.ofNat 32 (i.val / 128) := by
  intro i
  pointwise [k0_pay7]
  revert i
  decide +kernel

/-- The sink's logit of a stacked row: its head's, among four. -/
theorem pay35_apply (a b c d : Elt Ideal .f32) (g : Fin 4) (r : Fin 128) :
    k0_pay35 a b c d (ix2 (row g r) 0) = (![a, b, c, d] : Fin 4 → EReal) g := by
  have h := group (row g r)
  have e : (row g r).val / 128 = g.val := by show (128 * g.val + r.val) / 128 = g.val; omega
  rw [e] at h
  have h' : k0_pay35 a b c d (ix2 (row g r) 0)
      = Scalar.select (IntOp.cmpi .eq (k0_pay7 (ix2 (row g r) 0)) 3#32) d
          (Scalar.select (IntOp.cmpi .eq (k0_pay7 (ix2 (row g r) 0)) 2#32) c
            (Scalar.select (IntOp.cmpi .eq (k0_pay7 (ix2 (row g r) 0)) 1#32) b a)) := rfl
  rw [h', h]
  fin_cases g <;> rfl

/-- The other computation of the sink's logits is the same. -/
theorem pay24_eq (a b c d : Elt Ideal .f32) :
    k0_pay24 (F := Ideal) (iota Kind.tc S512x1 32 [0] iota_S512x1_d0_w32) 128#32 k0_pay21 k0_pay22 k0_pay23 a b c d = k0_pay35 a b c d := rfl

/-- The keys a query sees among the three blocks of its tile: at most 128 away, and latent ones. -/
def Ok (a : Nat) (r : Fin 128) (j : Fin 384) : Prop :=
  r.val ≤ j.val ∧ j.val ≤ r.val + 256 ∧ (a = 2 → 128 ≤ j.val) ∧ (a = 65 → j.val < 256)

instance (a : Nat) (r : Fin 128) (j : Fin 384) : Decidable (Ok a r j) := by unfold Ok; infer_instance

/-- A stacked row's token, as the kernel computes it. -/
theorem token : ∀ i : Fin 512,
    Scalar.select
      (IntOp.andi
        (IntOp.xori
          (IntOp.cmpi CmpIPredicate.slt
            (IntOp.remsi ArithUnit.vector (BitVec.ofNat 32 i.val)
              (Scalar.select (Scalar.cmpi CmpIPredicate.eq 128#32 0#32) 1#32 128#32))
            0#32)
          (Scalar.cmpi CmpIPredicate.slt
            (Scalar.select (Scalar.cmpi CmpIPredicate.eq 128#32 0#32) 1#32 128#32) 0#32))
        (IntOp.cmpi CmpIPredicate.ne
          (IntOp.remsi ArithUnit.vector (BitVec.ofNat 32 i.val)
            (Scalar.select (Scalar.cmpi CmpIPredicate.eq 128#32 0#32) 1#32 128#32))
          0#32))
      (IntOp.addi
        (IntOp.remsi ArithUnit.vector (BitVec.ofNat 32 i.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 i.val)
        (Scalar.select (Scalar.cmpi CmpIPredicate.eq 128#32 0#32) 1#32 128#32)) = BitVec.ofNat 32 (i.val % 128) := by
  decide +kernel

/-- The distance's comparison. -/
theorem near : ∀ (r : Fin 128) (j : Fin 384),
    IntOp.cmpi .sle (IntOp.absi (IntOp.subi (IntOp.subi (BitVec.ofNat 32 j.val) 128#32) (BitVec.ofNat 32 r.val))) 128#32
      = if r.val ≤ j.val ∧ j.val ≤ r.val + 256 then 1#1 else 0#1 := by
  decide +kernel

/-- The lower bound's comparison. -/
theorem above (a : Nat) (ha : 2 ≤ a) (hb : a < 66) (j : Fin 384) :
    IntOp.cmpi .sge (BitVec.ofNat 32 j.val) (Scalar.select (Scalar.cmpi CmpIPredicate.sgt (BitVec.ofNat 32 a) 2#32) 0#32 128#32)
      = if a = 2 → 128 ≤ j.val then 1#1 else 0#1 := by
  have elo : Scalar.select (Scalar.cmpi CmpIPredicate.sgt (BitVec.ofNat 32 a) 2#32) 0#32 128#32
      = if a = 2 then 128#32 else 0#32 := by interval_cases a <;> rfl
  rw [elo]
  by_cases h : a = 2
  · simp only [h, if_true, true_implies]
    revert j; decide +kernel
  · simp only [h, if_false, false_implies, if_true]
    revert j; decide +kernel

/-- The upper bound's comparison. -/
theorem below (a : Nat) (ha : 2 ≤ a) (hb : a < 66) (j : Fin 384) :
    IntOp.cmpi .slt (BitVec.ofNat 32 j.val) (Scalar.select (Scalar.cmpi CmpIPredicate.slt (BitVec.ofNat 32 a) 65#32) 384#32 256#32)
      = if a = 65 → j.val < 256 then 1#1 else 0#1 := by
  have ehi : Scalar.select (Scalar.cmpi CmpIPredicate.slt (BitVec.ofNat 32 a) 65#32) 384#32 256#32
      = if a = 65 then 256#32 else 384#32 := by interval_cases a <;> rfl
  rw [ehi]
  by_cases h : a = 65
  · simp only [h, if_true, true_implies]
    revert j; decide +kernel
  · simp only [h, if_false, false_implies, if_true]
    revert j; decide +kernel

/-- Three conditions joined. -/
theorem and3 (p q s : Prop) [Decidable p] [Decidable q] [Decidable s] :
    IntOp.andi (IntOp.andi (if p then 1#1 else 0#1) (if q then 1#1 else 0#1)) (if s then 1#1 else 0#1)
      = if (p ∧ q) ∧ s then 1#1 else 0#1 := by
  split_ifs <;> first | rfl | (exfalso; tauto)

/-- The mask of tile `a`, at a stacked row and a key of the three blocks. -/
theorem pay15_apply (a : Nat) (ha : 2 ≤ a) (hb : a < 66) (g : Fin 4) (r : Fin 128) (j : Fin 384) :
    k0_pay15 (BitVec.ofNat 32 a) (ix2 (row g r) j) = if Ok a r j then 1#1 else 0#1 := by
  pointwise [k0_pay15]
  have e := token (row g r)
  have e' : (row g r).val % 128 = r.val := by show (128 * g.val + r.val) % 128 = r.val; omega
  rw [e'] at e
  refine (congrArg₂ IntOp.andi (congrArg₂ IntOp.andi ((congrArg (fun w => IntOp.cmpi .sle (IntOp.absi (IntOp.subi
    (IntOp.subi (BitVec.ofNat 32 j.val) 128#32) w)) 128#32) e).trans (near r j)) (above a ha hb j)) (below a ha hb j)).trans ?_
  refine (and3 _ _ _).trans (if_congr ?_ rfl rfl)
  unfold Ok
  tauto

/-- The masking constant is −∞. -/
theorem mask : (Named.named κ "mask" 0xF149F2CA#32 : Ideal .f32) = ⊥ := rfl

/-- The three key or value blocks, one after the other, for key head `h`. -/
def cat3 (x y z : Vec Ideal S1x128x128 .bf16) (h : Fin 2) (j : Fin 384) (d : Fin 64) : EReal :=
  if h₀ : j.val < 128 then x (ix3 0 ⟨j.val, h₀⟩ ⟨64 * h.val + d.val, by omega⟩)
  else if h₁ : j.val - 128 < 128 then y (ix3 0 ⟨j.val - 128, h₁⟩ ⟨64 * h.val + d.val, by omega⟩)
  else z (ix3 0 ⟨j.val - 128 - 128, by omega⟩ ⟨64 * h.val + d.val, by omega⟩)

/-- The values of the first key head. -/
theorem pay18_apply (x y z : Vec Ideal S1x128x128 .bf16) (j : Fin 384) (d : Fin 64) :
    k0_pay18 x y z (ix2 j d) = cat3 x y z 0 j d := by
  pointwise [k0_pay18]
  simp only [cat3, Fin.val_zero, Nat.mul_zero, Nat.zero_add]

/-- The values of the second key head. -/
theorem pay32_apply (x y z : Vec Ideal S1x128x128 .bf16) (j : Fin 384) (d : Fin 64) :
    k0_pay32 x y z (ix2 j d) = cat3 x y z 1 j d := by
  pointwise [k0_pay32]
  rfl

/-- The context scores of the first key head. -/
theorem pay20_apply (q : FVec Ideal S512x64 .bf16) (x : Vec Ideal S1x256x128 .bf16) (i : Fin 512) (k : Fin 256) :
    k0_pay20 (k0_pay2 x) q (ix2 i k) = ∑ e, q (ix2 i e) * x (ix3 0 k ⟨e.val, by omega⟩) := by
  pointwise [k0_pay20, k0_pay2]

/-- The context scores of the second key head. -/
theorem pay34_apply (v1 : FVec Ideal S128x512 .bf16) (x : Vec Ideal S1x256x128 .bf16) (i : Fin 512) (k : Fin 256) :
    k0_pay34 v1 (k0_pay2 x) (ix2 i k) = ∑ e, k0_pay31 v1 (ix2 i e) * x (ix3 0 k ⟨64 + e.val, by omega⟩) := by
  generalize hq : k0_pay31 v1 = q
  pointwise [k0_pay34, k0_pay2, hq]

/-- The masked scores of the first key head. -/
theorem pay19_apply (w : IVec S512x384 1) (q : FVec Ideal S512x64 .bf16) (x y z : Vec Ideal S1x128x128 .bf16) (i : Fin 512) (j : Fin 384) :
    k0_pay19 w q (k0_pay17 x) y z (ix2 i j) = Scalar.select (w (ix2 i j)) (∑ e, q (ix2 i e) * cat3 x y z 0 j e) ⊥ := by
  have h : k0_pay19 w q (k0_pay17 x) y z (ix2 i j)
      = Scalar.select (w (ix2 i j)) (matmul dot_S512x64_S384x64_S512x384_1_1_0_0_n_n none q (k0_pay18 x y z) (constant S512x384 .f32 0x00000000#32) (ix2 i j)) ⊥ := rfl
  rw [h]
  generalize hp : k0_pay18 x y z = p
  pointwise
  simp only [← hp, pay18_apply]

/-- The masked scores of the second key head. -/
theorem pay33_apply (w : IVec S512x384 1) (v1 : FVec Ideal S128x512 .bf16) (x y z : Vec Ideal S1x128x128 .bf16) (i : Fin 512) (j : Fin 384) :
    k0_pay33 v1 w x y z (ix2 i j) = Scalar.select (w (ix2 i j)) (∑ e, k0_pay31 v1 (ix2 i e) * cat3 x y z 1 j e) ⊥ := by
  have h : k0_pay33 v1 w x y z (ix2 i j)
      = Scalar.select (w (ix2 i j)) (matmul dot_S512x64_S384x64_S512x384_1_1_0_0_n_n none (k0_pay31 v1) (k0_pay32 x y z) (constant S512x384 .f32 0x00000000#32) (ix2 i j)) ⊥ := rfl
  rw [h]
  generalize hp : k0_pay32 x y z = p
  generalize hq : k0_pay31 v1 = q
  pointwise
  simp only [← hp, pay32_apply]

end Cert.KernelAttnIdeal.Hand

end
-- ==== Proof.Attn.Block.lean ====
/-
  The windowed attention: what one grid point stores, read at an index of its block, as the row function of Attn/Spec.lean, for
  a context tile and for a latent one.
-/
module

public import proofs.«01_k».proof.Proof.Attn.Pieces

@[expose] public section

set_option maxRecDepth 16384

noncomputable section

namespace Cert.KernelAttnIdeal.Hand

open Cert.KernelAttnIdeal Cert.KernelAttnIdeal.Gen Idealize.ShloMosaic Idealize.ShloMosaic.TcCoe Idealize.SL.Sem

/-- The word the maxima start from is −∞. -/
theorem neg_inf : Ideal.ofBits .f32 0xFF800000#32 = ⊥ := by simp [Ideal.ofBits, Ideal.ieee]

/-- A key head's result at a latent tile, from its masked scores, its context scores, its values and its sink logits. -/
theorem pay30_apply (s : FVec Ideal S512x384 .f32) (t : FVec Ideal S512x256 .f32) (p : FVec Ideal S384x64 .bf16) (v : Vec Ideal S1x256x128 .bf16)
    (a b c d : Elt Ideal .f32) (i : Fin 512) (k : Fin 64) :
    k0_pay30 (k0_pay3 v) p (k0_pay27 s t (iota Kind.tc S512x1 32 [0] iota_S512x1_d0_w32) 128#32 k0_pay21 k0_pay22 k0_pay23 a b c d)
        (k0_pay28 s t (iota Kind.tc S512x1 32 [0] iota_S512x1_d0_w32) 128#32 k0_pay21 k0_pay22 k0_pay23 a b c d)
        (k0_pay29 s t (iota Kind.tc S512x1 32 [0] iota_S512x1_d0_w32) 128#32 k0_pay21 k0_pay22 k0_pay23 a b c d) (ix2 i k)
      = Rows.Attn.attend (Sum.elim (fun j => s (ix2 i j)) (fun j => t (ix2 i j)))
          (Sum.elim (fun j => p (ix2 j k)) (fun j => v (ix3 0 j ⟨k.val, by omega⟩))) (k0_pay35 a b c d (ix2 i 0)) := by
  rw [Rows.Attn.attend_sum]
  generalize hsk : k0_pay35 a b c d = sk
  pointwise [k0_pay30, k0_pay27, k0_pay28, k0_pay29, k0_pay25, k0_pay26, k0_pay3, hsk]
  simp only [neg_inf]
  subst hsk
  rfl

/-- The second key head's result at a latent tile, beside the first's. -/
def second (v4 : Vec Ideal S1x256x128 .bf16) (v170 : FVec Ideal S384x64 .bf16) (v173 : FVec Ideal S512x384 .f32)
    (v175 : FVec Ideal S512x256 .f32) (v217 : FVec Ideal S512x1 .f32) : FVec Ideal S512x64 .f32 :=
  have v223 : FVec Ideal S512x1 .f32 := maximumf (maximumf (k0_pay36 v173)
    (shapeCast S512x1 (multiReduction .maximumf [1] S512 v175 0xFF800000#32 reduces_S512x256_S512 (.inl rfl) rfl) shapeCasts_S512_S512x1)) v217
  have v226 : FVec Ideal S512x384 .f32 := exp (subf v173 (broadcastTo S512x384 v223 broadcasts_S512x1_S512x384))
  have v229 : FVec Ideal S512x256 .f32 := exp (subf v175 (broadcastTo S512x256 v223 broadcasts_S512x1_S512x256))
  have v237 : FVec Ideal S512x1 .f32 := addf (addf
    (shapeCast S512x1 (multiReduction .add [1] S512 v226 0x00000000#32 reduces_S512x384_S512 (.inl rfl) rfl) shapeCasts_S512_S512x1)
    (shapeCast S512x1 (multiReduction .add [1] S512 v229 0x00000000#32 reduces_S512x256_S512 (.inl rfl) rfl) shapeCasts_S512_S512x1))
    (exp (subf v217 v223))
  divf (addf
    (matmul dot_S512x384_S384x64_S512x64_1_0_0_1_n_n none (truncf .bf16 v226 bitsLt_bf16_f32) v170 (constant S512x64 .f32 0x00000000#32))
    (matmul dot_S512x256_S256x64_S512x64_1_0_0_1_n_n none (truncf .bf16 v229 bitsLt_bf16_f32)
      (extractStridedSlice S256x64 ![0, 64] (k0_pay3 v4) slices_S256x128_o0_64_S256x64) (constant S512x64 .f32 0x00000000#32)))
    (broadcastTo S512x64 v237 broadcasts_S512x1_S512x64)

/-- The block a latent tile stores is the two key heads' results, side by side. -/
theorem pay5_eq (v4 : Vec Ideal S1x256x128 .bf16) (v145 : FVec Ideal S512x64 .f32) (v170 : FVec Ideal S384x64 .bf16)
    (v173 : FVec Ideal S512x384 .f32) (v175 : FVec Ideal S512x256 .f32) (v217 : FVec Ideal S512x1 .f32) :
    k0_pay5 v4 v145 v170 v173 v175 v217 (k0_pay36 v173) = k0_pay4 (joined v145 (second v4 v170 v173 v175 v217)) := rfl

/-- The second key head's result, read at an index. -/
theorem second_apply (v : Vec Ideal S1x256x128 .bf16) (p : FVec Ideal S384x64 .bf16) (s : FVec Ideal S512x384 .f32)
    (t : FVec Ideal S512x256 .f32) (sk : FVec Ideal S512x1 .f32) (i : Fin 512) (k : Fin 64) :
    second v p s t sk (ix2 i k)
      = Rows.Attn.attend (Sum.elim (fun j => s (ix2 i j)) (fun j => t (ix2 i j)))
          (Sum.elim (fun j => p (ix2 j k)) (fun j => v (ix3 0 j ⟨64 + k.val, by omega⟩))) (sk (ix2 i 0)) := by
  rw [Rows.Attn.attend_sum]
  pointwise [second, k0_pay36, k0_pay3]
  simp only [neg_inf]

/-- A key head's result at a context tile, from its scores, its values and its sink logits. -/
theorem pay10_apply (v : Vec Ideal S1x256x128 .bf16) (s : FVec Ideal S512x256 .f32) (a b c d : Elt Ideal .f32) (i : Fin 512) (k : Fin 64) :
    k0_pay10 (k0_pay3 v) s (k0_pay8 a b c) k0_pay9 d (ix2 i k)
      = Rows.Attn.attend (fun j => s (ix2 i j)) (fun j => v (ix3 0 j ⟨k.val, by omega⟩)) (k0_pay35 a b c d (ix2 i 0)) := by
  have h : select k0_pay9 (broadcast S512x1 d) (k0_pay8 a b c) = k0_pay35 a b c d := rfl
  unfold k0_pay10
  rw [h]
  generalize k0_pay35 a b c d = sk
  unfold Rows.Attn.attend Rows.Attn.den Rows.Attn.top
  pointwise [k0_pay3]
  simp only [neg_inf]

/-- The second key head's result at a context tile. -/
def ctxSecond (v : Vec Ideal S1x256x128 .bf16) (s : FVec Ideal S512x256 .f32) (sk : FVec Ideal S512x1 .f32) : FVec Ideal S512x64 .f32 :=
  have v128 : FVec Ideal S512x1 .f32 := maximumf
    (shapeCast S512x1 (multiReduction .maximumf [1] S512 s 0xFF800000#32 reduces_S512x256_S512 (.inl rfl) rfl) shapeCasts_S512_S512x1) sk
  have v131 : FVec Ideal S512x256 .f32 := exp (subf s (broadcastTo S512x256 v128 broadcasts_S512x1_S512x256))
  have v136 : FVec Ideal S512x1 .f32 := addf
    (shapeCast S512x1 (multiReduction .add [1] S512 v131 0x00000000#32 reduces_S512x256_S512 (.inl rfl) rfl) shapeCasts_S512_S512x1)
    (exp (subf sk v128))
  divf (matmul dot_S512x256_S256x64_S512x64_1_0_0_1_n_n none (truncf .bf16 v131 bitsLt_bf16_f32)
      (extractStridedSlice S256x64 ![0, 64] (k0_pay3 v) slices_S256x128_o0_64_S256x64) (constant S512x64 .f32 0x00000000#32))
    (broadcastTo S512x64 v136 broadcasts_S512x1_S512x64)

/-- The block a context tile stores is the two key heads' results, side by side. -/
theorem pay14_eq (v : Vec Ideal S1x256x128 .bf16) (v76 : FVec Ideal S512x64 .f32) (s : FVec Ideal S512x256 .f32) (a b c d : Elt Ideal .f32) :
    k0_pay14 (k0_pay3 v) v76 s k0_pay12 k0_pay13 1#32 a b c d = joined v76 (ctxSecond v s (k0_pay35 a b c d)) := rfl

/-- The second key head's result at a context tile, read at an index. -/
theorem ctxSecond_apply (v : Vec Ideal S1x256x128 .bf16) (s : FVec Ideal S512x256 .f32) (sk : FVec Ideal S512x1 .f32) (i : Fin 512) (k : Fin 64) :
    ctxSecond v s sk (ix2 i k)
      = Rows.Attn.attend (fun j => s (ix2 i j)) (fun j => v (ix3 0 j ⟨64 + k.val, by omega⟩)) (sk (ix2 i 0)) := by
  unfold Rows.Attn.attend Rows.Attn.den Rows.Attn.top
  pointwise [ctxSecond, k0_pay3]
  simp only [neg_inf]

/-- A context tile's scores are taken as a latent tile's context scores are. -/
theorem pay6_eq (v1 : FVec Ideal S128x512 .bf16) (v3 : FVec Ideal S256x128 .bf16) : k0_pay6 v1 v3 = k0_pay20 v3 (k0_pay16 v1) := rfl

/-- The same for the second key head. -/
theorem pay11_eq (v1 : FVec Ideal S128x512 .bf16) (v3 : FVec Ideal S256x128 .bf16) : k0_pay11 v1 v3 = k0_pay34 v1 v3 := rfl

/-- The query of token `r` in head `g` of key head `h`. -/
def qrow (q : Vec Ideal S1x128x512 .bf16) (h : Fin 2) (g : Fin 4) (r : Fin 128) (e : Fin 64) : EReal :=
  q (ix3 0 r ⟨256 * h.val + 64 * g.val + e.val, by omega⟩)

/-- Its scores with the context keys. -/
def ctxScores (q : Vec Ideal S1x128x512 .bf16) (kc : Vec Ideal S1x256x128 .bf16) (h : Fin 2) (g : Fin 4) (r : Fin 128) (k : Fin 256) : EReal :=
  ∑ e : Fin 64, qrow q h g r e * kc (ix3 0 k ⟨64 * h.val + e.val, by omega⟩)

/-- A column of the context values. -/
def ctxValues (vc : Vec Ideal S1x256x128 .bf16) (h : Fin 2) (d : Fin 64) (k : Fin 256) : EReal :=
  vc (ix3 0 k ⟨64 * h.val + d.val, by omega⟩)

/-- The scores with the keys of the three blocks of tile `a`, those not seen at −∞. -/
def locScores (a : Nat) (q : Vec Ideal S1x128x512 .bf16) (x y z : Vec Ideal S1x128x128 .bf16) (h : Fin 2) (g : Fin 4) (r : Fin 128)
    (j : Fin 384) : EReal :=
  if Ok a r j then ∑ e : Fin 64, qrow q h g r e * cat3 x y z h j e else ⊥

/-- The first key head's queries. -/
theorem query0 (q : Vec Ideal S1x128x512 .bf16) (g : Fin 4) (r : Fin 128) (e : Fin 64) :
    k0_pay16 (k0_pay1 q) (ix2 (row g r) e) = qrow q 0 g r e := by
  rw [pay16_apply]
  pointwise [k0_pay1]
  unfold qrow
  exact congrArg q (congrArg (ix3 0 r) (Fin.ext (by simp)))

/-- The second key head's queries. -/
theorem query1 (q : Vec Ideal S1x128x512 .bf16) (g : Fin 4) (r : Fin 128) (e : Fin 64) :
    k0_pay31 (k0_pay1 q) (ix2 (row g r) e) = qrow q 1 g r e := by
  rw [pay31_apply]
  pointwise [k0_pay1]
  unfold qrow
  exact congrArg q (congrArg (ix3 0 r) (Fin.ext (by simp)))

/-- The block stored, read at an index: the two key heads' results. -/
theorem pay4_apply (x : FVec Ideal S128x512 .f32) (r : Fin 128) (k : Fin 512) : k0_pay4 x (ix3 0 r k) = x (ix2 r k) := by
  pointwise [k0_pay4]

/-- What a context tile stores. -/
theorem ctx_apply (q : Vec Ideal S1x128x512 .bf16) (kc vc : Vec Ideal S1x256x128 .bf16) (a0 a1 a2 a3 a4 a5 a6 a7 : Elt Ideal .f32)
    (sink : Vec Ideal S8 .f32) (h0 : a0 = sink (ix1 0)) (h1 : a1 = sink (ix1 1)) (h2 : a2 = sink (ix1 2)) (h3 : a3 = sink (ix1 3))
    (h4 : a4 = sink (ix1 4)) (h5 : a5 = sink (ix1 5)) (h6 : a6 = sink (ix1 6)) (h7 : a7 = sink (ix1 7))
    (h : Fin 2) (g : Fin 4) (r : Fin 128) (d : Fin 64) :
    k0_pay4 (k0_pay14 (k0_pay3 vc) (k0_pay10 (k0_pay3 vc) (k0_pay6 (k0_pay1 q) (k0_pay2 kc)) (k0_pay8 a0 a1 a2) k0_pay9 a3)
        (k0_pay11 (k0_pay1 q) (k0_pay2 kc)) k0_pay12 k0_pay13 1#32 a4 a5 a6 a7) (ix3 0 r ⟨256 * h.val + 64 * g.val + d.val, by omega⟩)
      = Rows.Attn.attend (ctxScores q kc h g r) (ctxValues vc h d) (sink (ix1 ⟨4 * h.val + g.val, by omega⟩)) := by
  subst h0 h1 h2 h3 h4 h5 h6 h7
  rw [pay4_apply, pay14_eq]
  obtain ⟨e0, e1⟩ := joined_piece (k0_pay10 (k0_pay3 vc) (k0_pay6 (k0_pay1 q) (k0_pay2 kc)) (k0_pay8 (sink (ix1 0)) (sink (ix1 1)) (sink (ix1 2))) k0_pay9 (sink (ix1 3)))
    (ctxSecond vc (k0_pay11 (k0_pay1 q) (k0_pay2 kc)) (k0_pay35 (sink (ix1 4)) (sink (ix1 5)) (sink (ix1 6)) (sink (ix1 7)))) g r d
  obtain rfl | rfl : h = 0 ∨ h = 1 := by omega
  · refine Eq.trans (congrArg _ (congrArg (ix2 r) (Fin.ext (by simp)))) (e0.trans ?_)
    rw [pay10_apply, pay35_apply, pay6_eq]
    congr 1
    · funext j
      rw [pay20_apply]
      simp only [query0]
      exact Finset.sum_congr rfl fun e _ => congrArg _ (congrArg kc (congrArg (ix3 0 j) (Fin.ext (by simp))))
    · funext j
      exact congrArg vc (congrArg (ix3 0 j) (Fin.ext (by simp)))
    · fin_cases g <;> rfl
  · refine Eq.trans (congrArg _ (congrArg (ix2 r) (Fin.ext (by simp)))) (e1.trans ?_)
    rw [ctxSecond_apply, pay35_apply, pay11_eq]
    congr 1
    · funext j
      rw [pay34_apply]
      simp only [query1]
      rfl
    · fin_cases g <;> rfl

/-- What a latent tile stores. -/
theorem latent_apply (a : Nat) (ha : 2 ≤ a) (hb : a < 66) (q : Vec Ideal S1x128x512 .bf16) (x y z : Vec Ideal S1x128x128 .bf16)
    (kc : Vec Ideal S1x256x128 .bf16) (vx vy vz : Vec Ideal S1x128x128 .bf16) (vc : Vec Ideal S1x256x128 .bf16)
    (a0 a1 a2 a3 a4 a5 a6 a7 : Elt Ideal .f32)
    (sink : Vec Ideal S8 .f32) (h0 : a0 = sink (ix1 0)) (h1 : a1 = sink (ix1 1)) (h2 : a2 = sink (ix1 2)) (h3 : a3 = sink (ix1 3))
    (h4 : a4 = sink (ix1 4)) (h5 : a5 = sink (ix1 5)) (h6 : a6 = sink (ix1 6)) (h7 : a7 = sink (ix1 7))
    (h : Fin 2) (g : Fin 4) (r : Fin 128) (d : Fin 64) :
    k0_pay5 vc
      (k0_pay30 (k0_pay3 vc) (k0_pay18 vx vy vz)
        (k0_pay27 (k0_pay19 (k0_pay15 (BitVec.ofNat 32 a)) (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 a0 a1 a2 a3)
        (k0_pay28 (k0_pay19 (k0_pay15 (BitVec.ofNat 32 a)) (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 a0 a1 a2 a3)
        (k0_pay29 (k0_pay19 (k0_pay15 (BitVec.ofNat 32 a)) (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 a0 a1 a2 a3))
      (k0_pay32 vx vy vz) (k0_pay33 (k0_pay1 q) (k0_pay15 (BitVec.ofNat 32 a)) x y z) (k0_pay34 (k0_pay1 q) (k0_pay2 kc))
      (k0_pay35 a4 a5 a6 a7) (k0_pay36 (k0_pay33 (k0_pay1 q) (k0_pay15 (BitVec.ofNat 32 a)) x y z))
      (ix3 0 r ⟨256 * h.val + 64 * g.val + d.val, by omega⟩)
      = Rows.Attn.attend (Sum.elim (locScores a q x y z h g r) (ctxScores q kc h g r))
          (Sum.elim (fun j => cat3 vx vy vz h j d) (ctxValues vc h d)) (sink (ix1 ⟨4 * h.val + g.val, by omega⟩)) := by
  subst h0 h1 h2 h3 h4 h5 h6 h7
  have hm := pay15_apply a ha hb g r
  generalize k0_pay15 (BitVec.ofNat 32 a) = w at hm ⊢
  have s0 : ∀ j, k0_pay19 w (k0_pay16 (k0_pay1 q)) (k0_pay17 x) y z (ix2 (row g r) j) = locScores a q x y z 0 g r j := fun j => by
    rw [pay19_apply, hm j]
    simp only [query0]
    unfold locScores
    split_ifs
    · exact ValueIdx.select_one _ _
    · exact ValueIdx.select_zero _ _
  have s1 : ∀ j, k0_pay33 (k0_pay1 q) w x y z (ix2 (row g r) j) = locScores a q x y z 1 g r j := fun j => by
    rw [pay33_apply, hm j]
    simp only [query1]
    unfold locScores
    split_ifs
    · exact ValueIdx.select_one _ _
    · exact ValueIdx.select_zero _ _
  rw [pay5_eq, pay4_apply]
  obtain ⟨e0, e1⟩ := joined_piece (k0_pay30 (k0_pay3 vc) (k0_pay18 vx vy vz)
        (k0_pay27 (k0_pay19 w (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 (sink (ix1 0)) (sink (ix1 1)) (sink (ix1 2)) (sink (ix1 3)))
        (k0_pay28 (k0_pay19 w (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 (sink (ix1 0)) (sink (ix1 1)) (sink (ix1 2)) (sink (ix1 3)))
        (k0_pay29 (k0_pay19 w (k0_pay16 (k0_pay1 q)) (k0_pay17 x) y z) (k0_pay20 (k0_pay2 kc) (k0_pay16 (k0_pay1 q)))
          (iota Kind.tc S512x1 32 [0] iota_S512x1_d0_w32) 128#32 k0_pay21 k0_pay22 k0_pay23 (sink (ix1 0)) (sink (ix1 1)) (sink (ix1 2)) (sink (ix1 3))))
    (second vc (k0_pay32 vx vy vz) (k0_pay33 (k0_pay1 q) w x y z) (k0_pay34 (k0_pay1 q) (k0_pay2 kc))
      (k0_pay35 (sink (ix1 4)) (sink (ix1 5)) (sink (ix1 6)) (sink (ix1 7)))) g r d
  obtain rfl | rfl : h = 0 ∨ h = 1 := by omega
  · refine Eq.trans (congrArg _ (congrArg (ix2 r) (Fin.ext (by simp)))) (e0.trans ?_)
    rw [pay30_apply, pay35_apply]
    congr 1
    · congr 1
      · funext j
        exact s0 j
      · funext j
        rw [pay20_apply]
        simp only [query0]
        exact Finset.sum_congr rfl fun e _ => congrArg _ (congrArg kc (congrArg (ix3 0 j) (Fin.ext (by simp))))
    · congr 1
      · funext j
        exact pay18_apply vx vy vz j d
      · funext j
        exact congrArg vc (congrArg (ix3 0 j) (Fin.ext (by simp)))
    · fin_cases g <;> rfl
  · refine Eq.trans (congrArg _ (congrArg (ix2 r) (Fin.ext (by simp)))) (e1.trans ?_)
    rw [second_apply, pay35_apply]
    congr 1
    · congr 1
      · funext j
        exact s1 j
      · funext j
        rw [pay34_apply]
        simp only [query1]
        rfl
    · congr 1
      funext j
      exact pay32_apply vx vy vz j d
    · fin_cases g <;> rfl

end Cert.KernelAttnIdeal.Hand

end
-- ==== Proof.Attn.Row.lean ====
/-
  The windowed attention: the row of one token, from its queries, all the keys and all the values, and the two shapes in which a
  tile of 128 tokens meets it.
-/
module

public import proofs.«01_k».proof.Proof.Attn.Spec

@[expose] public section

noncomputable section

namespace Cert.Rows.Attn

open Idealize.ShloMosaic

/-- Token `row` sees the context, and a latent token sees also the latent tokens at most 128 away. -/
def Sees (row key : Fin 8448) : Prop := key.val < 256 ∨ (256 ≤ row.val ∧ row.val ≤ key.val + 128 ∧ key.val ≤ row.val + 128)

instance (row key : Fin 8448) : Decidable (Sees row key) := by unfold Sees; infer_instance

/-- The scores of token `row` in head `g` of key head `h`: −∞ at the keys not seen. -/
def score (row : Fin 8448) (q : Fin 512 → EReal) (k : Fin 8448 → Fin 128 → EReal) (h : Fin 2) (g : Fin 4) (key : Fin 8448) : EReal :=
  if Sees row key then ∑ e : Fin 64, q ⟨256 * h.val + 64 * g.val + e.val, by omega⟩ * k key ⟨64 * h.val + e.val, by omega⟩ else ⊥

/-- A column of the values. -/
def value (v : Fin 8448 → Fin 128 → EReal) (h : Fin 2) (d : Fin 64) (key : Fin 8448) : EReal := v key ⟨64 * h.val + d.val, by omega⟩

/-- The key a latent tile's local position `j`, or its context position, stands for. -/
def place (a : Nat) : Fin 384 ⊕ Fin 256 → Fin 8448
  | .inl j => ⟨(128 * a + j.val - 128) % 8448, Nat.mod_lt _ (by decide)⟩
  | .inr k => ⟨k.val, by omega⟩

/-- The row of a token of the context: it sees the context only. -/
theorem attend_context (row : Fin 8448) (hrow : row.val < 256) (q : Fin 512 → EReal) (k v : Fin 8448 → Fin 128 → EReal) (h : Fin 2) (g : Fin 4)
    (d : Fin 64) (s w : Fin 256 → EReal) (sk : EReal)
    (hs : ∀ j : Fin 256, s j = ∑ e : Fin 64, q ⟨256 * h.val + 64 * g.val + e.val, by omega⟩ * k ⟨j.val, by omega⟩ ⟨64 * h.val + e.val, by omega⟩)
    (hw : ∀ j : Fin 256, w j = v ⟨j.val, by omega⟩ ⟨64 * h.val + d.val, by omega⟩) :
    attend s w sk = attend (score row q k h g) (value v h d) sk := by
  refine attend_transfer (fun _ => True) (fun key => key.val < 256) (fun j => ⟨j.val, by omega⟩) s w (score row q k h g) (value v h d) sk
    (fun i hi => absurd trivial hi) (fun key hk => if_neg ?_) (fun i _ => i.isLt) (fun i j _ _ e => Fin.ext (Fin.mk.inj e))
    (fun key hk => ⟨⟨key.val, hk⟩, trivial, rfl⟩) (fun i _ => ?_) (fun i _ => ?_)
  · unfold Sees; omega
  · rw [hs i]
    exact (if_pos (Or.inl i.isLt)).symm
  · exact hw i

/-- The row of a latent token: the three blocks around it, as far as it sees them, and the context. -/
theorem attend_latent (a : Nat) (ha : 2 ≤ a) (hb : a < 66) (r : Fin 128) (row : Fin 8448) (hrow : row.val = 128 * a + r.val)
    (q : Fin 512 → EReal) (k v : Fin 8448 → Fin 128 → EReal) (h : Fin 2) (g : Fin 4) (d : Fin 64)
    (P : Fin 384 → Prop)
    (hP : ∀ j, P j ↔ r.val ≤ j.val ∧ j.val ≤ r.val + 256 ∧ (a = 2 → 128 ≤ j.val) ∧ (a = 65 → j.val < 256))
    (s : Fin 384 → EReal) (t : Fin 256 → EReal) (w : Fin 384 → EReal) (u : Fin 256 → EReal) (sk : EReal)
    (hn : ∀ j, ¬P j → s j = ⊥)
    (hs : ∀ j, P j → s j = ∑ e : Fin 64, q ⟨256 * h.val + 64 * g.val + e.val, by omega⟩ * k (place a (.inl j)) ⟨64 * h.val + e.val, by omega⟩)
    (ht : ∀ j : Fin 256, t j = ∑ e : Fin 64, q ⟨256 * h.val + 64 * g.val + e.val, by omega⟩ * k (place a (.inr j)) ⟨64 * h.val + e.val, by omega⟩)
    (hw : ∀ j, P j → w j = v (place a (.inl j)) ⟨64 * h.val + d.val, by omega⟩)
    (hu : ∀ j : Fin 256, u j = v (place a (.inr j)) ⟨64 * h.val + d.val, by omega⟩) :
    attend (Sum.elim s t) (Sum.elim w u) sk = attend (score row q k h g) (value v h d) sk := by
  have pl : ∀ j, P j → (place a (.inl j)).val = 128 * a + j.val - 128 := fun j hj => by
    have := (hP j).1 hj
    have := j.isLt
    show (128 * a + j.val - 128) % 8448 = _
    apply Nat.mod_eq_of_lt
    omega
  have hsee : ∀ j, P j → Sees row (place a (.inl j)) := fun j hj => by
    have := (hP j).1 hj
    have := pl j hj
    unfold Sees
    omega
  refine attend_transfer (Sum.elim P fun _ => True) (Sees row) (place a) _ _ _ _ sk ?_ (fun key hk => if_neg hk) ?_ ?_ ?_ ?_ ?_
  · rintro (j | j) hj
    · exact hn j hj
    · exact absurd trivial hj
  · rintro (j | j) hj
    · exact hsee j hj
    · exact Or.inl j.isLt
  · rintro (i | i) (j | j) hi hj e
    · have e := congrArg Fin.val e
      rw [pl i hi, pl j hj] at e
      have := (hP i).1 hi
      have := (hP j).1 hj
      exact congrArg Sum.inl (Fin.ext (by omega))
    · have e := congrArg Fin.val e
      rw [pl i hi] at e
      have e : 128 * a + i.val - 128 = j.val := e
      have := (hP i).1 hi
      have := j.isLt
      exfalso; omega
    · have e := congrArg Fin.val e
      rw [pl j hj] at e
      have e : i.val = 128 * a + j.val - 128 := e
      have := (hP j).1 hj
      have := i.isLt
      exfalso; omega
    · have e : i.val = j.val := Fin.mk.inj e
      exact congrArg Sum.inr (Fin.ext e)
  · intro key hk
    by_cases hc : key.val < 256
    · exact ⟨.inr ⟨key.val, hc⟩, trivial, rfl⟩
    · have hk : 256 ≤ row.val ∧ row.val ≤ key.val + 128 ∧ key.val ≤ row.val + 128 := hk.resolve_left hc
      have hl := key.isLt
      have hr := r.isLt
      have hj : P ⟨key.val + 128 - 128 * a, by omega⟩ := (hP _).2 ⟨by show r.val ≤ key.val + 128 - 128 * a; omega,
        by show key.val + 128 - 128 * a ≤ r.val + 256; omega, fun _ => by show 128 ≤ key.val + 128 - 128 * a; omega,
        fun _ => by show key.val + 128 - 128 * a < 256; omega⟩
      refine ⟨.inl ⟨key.val + 128 - 128 * a, by omega⟩, hj, Fin.ext ((pl _ hj).trans ?_)⟩
      show 128 * a + (key.val + 128 - 128 * a) - 128 = key.val
      omega
  · rintro (j | j) hj
    · exact (hs j hj).trans (if_pos (hsee j hj)).symm
    · exact (ht j).trans (if_pos (Or.inl j.isLt)).symm
  · rintro (j | j) hj
    · exact hw j hj
    · exact hu j

end Cert.Rows.Attn

end
-- ==== Proof.Attn.KernelValue.lean ====
/-
  The windowed attention: what the kernel's result array holds after the run, at every batch, token and column the row function of
  Attn/Row.lean of the arguments.
-/
module

public import proofs.«01_k».proof.Proof.Gen.KernelAttnIdeal.Value
public import proofs.«01_k».proof.Proof.Attn.Block
public import proofs.«01_k».proof.Proof.Attn.Row

@[expose] public section

set_option maxRecDepth 16384

noncomputable section

namespace Cert.KernelAttnIdeal.Hand

open Cert.KernelAttnIdeal Cert.KernelAttnIdeal.Gen Idealize.ShloMosaic Idealize.ShloMosaic.TcCoe Idealize.SL.Sem
open Idealize.ShloMosaic.Pipeline (Dat)

variable (m : (ℓ : Loc nD τ sig) → Buf (Elt Ideal) ℓ)

/-- The window maps over the grid: a grid point is a batch and a tile of 128 tokens; a latent tile has also the tile before it and
    the tile after it, held within the latent tiles. -/
theorem idx : ∀ t : Fin cfg0.N,
    win0_0.index t = ![0] ∧ win0_1.index t = ![t.val / 66, t.val % 66, 0]
      ∧ win0_2.index t = ![t.val / 66, max 2 (t.val % 66 - 1), 0] ∧ win0_3.index t = ![t.val / 66, t.val % 66, 0]
      ∧ win0_4.index t = ![t.val / 66, max 2 (min 65 (t.val % 66 + 1)), 0] ∧ win0_5.index t = ![t.val / 66, 0, 0]
      ∧ win0_6.index t = ![t.val / 66, max 2 (t.val % 66 - 1), 0] ∧ win0_7.index t = ![t.val / 66, t.val % 66, 0]
      ∧ win0_8.index t = ![t.val / 66, max 2 (min 65 (t.val % 66 + 1)), 0] ∧ win0_9.index t = ![t.val / 66, 0, 0]
      ∧ win0_10.index t = ![t.val / 66, t.val % 66, 0] ∧ t.val / 66 < 4 ∧ (grid0.coords t 1).val = t.val % 66 :=
  (by decide +kernel : ∀ t : Fin grid0.N, _)

/-- The result array as a function of the arguments. -/
def result (sink : FVec Ideal S8 .f32) (q : FVec Ideal S4x8448x512 .bf16) (k v : FVec Ideal S4x8448x128 .bf16)
    (bt : Fin 4) (row : Fin 8448) (c : Fin 512) : EReal :=
  Rows.Attn.attend (Rows.Attn.score row (fun e => q (ix3 bt row e)) (fun key e => k (ix3 bt key e)) ⟨c.val / 256, by omega⟩ ⟨c.val % 256 / 64, by omega⟩)
    (Rows.Attn.value (fun key e => v (ix3 bt key e)) ⟨c.val / 256, by omega⟩ ⟨c.val % 64, by omega⟩) (sink (ix1 ⟨c.val / 64, by omega⟩))

/-- The result at the column of a head and a feature. -/
theorem result_at (sink : FVec Ideal S8 .f32) (q : FVec Ideal S4x8448x512 .bf16) (k v : FVec Ideal S4x8448x128 .bf16)
    (bt : Fin 4) (row : Fin 8448) (h : Fin 2) (g : Fin 4) (d : Fin 64) :
    result sink q k v bt row ⟨256 * h.val + 64 * g.val + d.val, by omega⟩
      = Rows.Attn.attend (Rows.Attn.score row (fun e => q (ix3 bt row e)) (fun key e => k (ix3 bt key e)) h g)
          (Rows.Attn.value (fun key e => v (ix3 bt key e)) h d) (sink (ix1 ⟨4 * h.val + g.val, by omega⟩)) := by
  have e1 : (⟨(256 * h.val + 64 * g.val + d.val) / 256, by omega⟩ : Fin 2) = h := Fin.ext (by show _ / 256 = _; omega)
  have e2 : (⟨(256 * h.val + 64 * g.val + d.val) % 256 / 64, by omega⟩ : Fin 4) = g := Fin.ext (by show _ % 256 / 64 = _; omega)
  have e3 : (⟨(256 * h.val + 64 * g.val + d.val) % 64, by omega⟩ : Fin 64) = d := Fin.ext (by show _ % 64 = _; omega)
  have e4 : (⟨(256 * h.val + 64 * g.val + d.val) / 64, by omega⟩ : Fin 8) = ⟨4 * h.val + g.val, by omega⟩ := Fin.ext (by show _ / 64 = 4 * h.val + g.val; omega)
  unfold result
  simp only [e1, e2, e3, e4]

/-- Every column is that of a head and a feature. -/
theorem column (c : Fin 512) : ∃ (h : Fin 2) (g : Fin 4) (d : Fin 64), c = ⟨256 * h.val + 64 * g.val + d.val, by omega⟩ :=
  ⟨⟨c.val / 256, by omega⟩, ⟨c.val % 256 / 64, by omega⟩, ⟨c.val % 64, by omega⟩, Fin.ext (by
    show c.val = 256 * (c.val / 256) + 64 * (c.val % 256 / 64) + c.val % 64; omega)⟩

section Reads

variable (c : Dev nD) (t : Fin cfg0.N)

/-- The sink logits. -/
theorem read0 (k : Fin 8) : (iblk m c 0 t : Vec Ideal S8 .f32) (ix1 k) = m ((c : Thread nD τ).loc main_arg0) (ix1 k) := by
  blk_point [iblk, V, idx t]

/-- The block of the queries. -/
theorem read1 (bt : Fin 4) (ti : Fin 66) (hb : bt.val = t.val / 66) (hi : ti.val = t.val % 66) (r : Fin 128) (k : Fin 512) :
    (iblk m c 1 t : Vec Ideal S1x128x512 .bf16) (ix3 0 r k)
      = m ((c : Thread nD τ).loc main_arg1) (ix3 bt ⟨128 * ti.val + r.val, by omega⟩ k) := by
  blk_point [iblk, V, idx t]

/-- The block of keys before. -/
theorem read2 (bt : Fin 4) (ti : Fin 66) (hb : bt.val = t.val / 66) (hi : ti.val = max 2 (t.val % 66 - 1)) (r : Fin 128) (k : Fin 128) :
    (iblk m c 2 t : Vec Ideal S1x128x128 .bf16) (ix3 0 r k)
      = m ((c : Thread nD τ).loc main_arg2) (ix3 bt ⟨128 * ti.val + r.val, by omega⟩ k) := by
  blk_point [iblk, V, idx t]

/-- The tile's own block of keys. -/
theorem read3 (bt : Fin 4) (ti : Fin 66) (hb : bt.val = t.val / 66) (hi : ti.val = t.val % 66) (r : Fin 128) (k : Fin 128) :
    (iblk m c 3 t : Vec Ideal S1x128x128 .bf16) (ix3 0 r k)
      = m ((c : Thread nD τ).loc main_arg2) (ix3 bt ⟨128 * ti.val + r.val, by omega⟩ k) := by
  blk_point [iblk, V, idx t]

/-- The block of keys after. -/
theorem read4 (bt : Fin 4) (ti : Fin 66) (hb : bt.val = t.val / 66) (hi : ti.val = max 2 (min 65 (t.val % 66 + 1))) (r : Fin 128) (k : Fin 128) :
    (iblk m c 4 t : Vec Ideal S1x128x128 .bf16) (ix3 0 r k)
      = m ((c : Thread nD τ).loc main_arg2) (ix3 bt ⟨128 * ti.val + r.val, by omega⟩ k) := by
  blk_point [iblk, V, idx t]

/-- The context's keys. -/
theorem read5 (bt : Fin 4) (hb : bt.val = t.val / 66) (r : Fin 256) (k : Fin 128) :
    (iblk m c 5 t : Vec Ideal S1x256x128 .bf16) (ix3 0 r k) = m ((c : Thread nD τ).loc main_arg2) (ix3 bt ⟨r.val, by omega⟩ k) := by
  blk_point [iblk, V, idx t]

/-- The block of values before. -/
theorem read6 (bt : Fin 4) (ti : Fin 66) (hb : bt.val = t.val / 66) (hi : ti.val = max 2 (t.val % 66 - 1)) (r : Fin 128) (k : Fin 128) :
    (iblk m c 6 t : Vec Ideal S1x128x128 .bf16) (ix3 0 r k)
      = m ((c : Thread nD τ).loc main_arg3) (ix3 bt ⟨128 * ti.val + r.val, by omega⟩ k) := by
  blk_point [iblk, V, idx t]

/-- The tile's own block of values. -/
theorem read7 (bt : Fin 4) (ti : Fin 66) (hb : bt.val = t.val / 66) (hi : ti.val = t.val % 66) (r : Fin 128) (k : Fin 128) :
    (iblk m c 7 t : Vec Ideal S1x128x128 .bf16) (ix3 0 r k)
      = m ((c : Thread nD τ).loc main_arg3) (ix3 bt ⟨128 * ti.val + r.val, by omega⟩ k) := by
  blk_point [iblk, V, idx t]

/-- The block of values after. -/
theorem read8 (bt : Fin 4) (ti : Fin 66) (hb : bt.val = t.val / 66) (hi : ti.val = max 2 (min 65 (t.val % 66 + 1))) (r : Fin 128) (k : Fin 128) :
    (iblk m c 8 t : Vec Ideal S1x128x128 .bf16) (ix3 0 r k)
      = m ((c : Thread nD τ).loc main_arg3) (ix3 bt ⟨128 * ti.val + r.val, by omega⟩ k) := by
  blk_point [iblk, V, idx t]

/-- The context's values. -/
theorem read9 (bt : Fin 4) (hb : bt.val = t.val / 66) (r : Fin 256) (k : Fin 128) :
    (iblk m c 9 t : Vec Ideal S1x256x128 .bf16) (ix3 0 r k) = m ((c : Thread nD τ).loc main_arg3) (ix3 bt ⟨r.val, by omega⟩ k) := by
  blk_point [iblk, V, idx t]

end Reads

/-- A latent tile's three blocks hold, where they are seen, the latent tokens around it. -/
theorem cat3_at (a : Nat) (ha : 2 ≤ a) (hb : a < 66) (K : FVec Ideal S4x8448x128 .bf16) (bt : Fin 4) (x y z : Vec Ideal S1x128x128 .bf16)
    (n₀ n₁ n₂ : Fin 66) (e₀ : n₀.val = max 2 (a - 1)) (e₁ : n₁.val = a) (e₂ : n₂.val = max 2 (min 65 (a + 1)))
    (hx : ∀ r k, x (ix3 0 r k) = K (ix3 bt ⟨128 * n₀.val + r.val, by omega⟩ k))
    (hy : ∀ r k, y (ix3 0 r k) = K (ix3 bt ⟨128 * n₁.val + r.val, by omega⟩ k))
    (hz : ∀ r k, z (ix3 0 r k) = K (ix3 bt ⟨128 * n₂.val + r.val, by omega⟩ k))
    (h : Fin 2) (r : Fin 128) (j : Fin 384) (hj : Ok a r j) (d : Fin 64) :
    cat3 x y z h j d = K (ix3 bt (Rows.Attn.place a (.inl j)) ⟨64 * h.val + d.val, by omega⟩) := by
  have hj : r.val ≤ j.val ∧ j.val ≤ r.val + 256 ∧ (a = 2 → 128 ≤ j.val) ∧ (a = 65 → j.val < 256) := hj
  have hjl := j.isLt
  have pl : (Rows.Attn.place a (.inl j)).val = 128 * a + j.val - 128 := by
    show (128 * a + j.val - 128) % 8448 = _
    exact Nat.mod_eq_of_lt (by omega)
  unfold cat3
  split_ifs with h₀ h₁
  · rw [hx]
    refine congrArg K (congrArg (fun n => ix3 bt n _) (Fin.ext (Eq.trans ?_ pl.symm)))
    show 128 * n₀.val + j.val = _
    omega
  · rw [hy]
    refine congrArg K (congrArg (fun n => ix3 bt n _) (Fin.ext (Eq.trans ?_ pl.symm)))
    show 128 * n₁.val + (j.val - 128) = _
    omega
  · rw [hz]
    refine congrArg K (congrArg (fun n => ix3 bt n _) (Fin.ext (Eq.trans ?_ pl.symm)))
    show 128 * n₂.val + (j.val - 128 - 128) = _
    omega

/-- After the run the result array holds the attention's rows. -/
theorem final (c : Dev nD) : (dats m 0 c).arrAt 10 (cfgs 0).N
    = fun i : S4x8448x512.Idx => result (m ((c : Thread nD τ).loc main_arg0)) (m ((c : Thread nD τ).loc main_arg1))
        (m ((c : Thread nD τ).loc main_arg2)) (m ((c : Thread nD τ).loc main_arg3)) (i 0) (i 1) (i 2) := by
  refine (dats m 0 c).arrAt_eq_of_covers 10 _ (by decide +kernel) fun t _ y => ?_
  blk_simp
  obtain ⟨bt, hb⟩ : ∃ bt : Fin 4, bt.val = t.val / 66 := ⟨⟨t.val / 66, (idx t).2.2.2.2.2.2.2.2.2.2.2.1⟩, rfl⟩
  obtain ⟨ti, hi⟩ : ∃ ti : Fin 66, ti.val = t.val % 66 := ⟨⟨t.val % 66, Nat.mod_lt _ (by decide)⟩, rfl⟩
  have hc : (grid0.coords t 1).val = ti.val := (idx t).2.2.2.2.2.2.2.2.2.2.2.2.trans hi.symm
  by_cases h : t.val % 66 ≤ 1
  · rw [after0_10, outsAt0_A m c t h (by omega)]
    frame_out
    idx_vars y
    obtain rfl : y0 = 0 := Subsingleton.elim _ _
    obtain ⟨kh, g, d, rfl⟩ := column y2
    have hy : ((cfg0.win 10).blk t).view.emb (ix3 0 y1 ⟨256 * kh.val + 64 * g.val + d.val, by omega⟩)
        = ix3 bt ⟨128 * ti.val + y1.val, by omega⟩ ⟨256 * kh.val + 64 * g.val + d.val, by omega⟩ := by
      blk_ext [idx t]
    refine Eq.trans ?_ (congrArg (fun i : S4x8448x512.Idx => result (m ((c : Thread nD τ).loc main_arg0)) (m ((c : Thread nD τ).loc main_arg1))
        (m ((c : Thread nD τ).loc main_arg2)) (m ((c : Thread nD τ).loc main_arg3)) (i 0) (i 1) (i 2)) hy).symm
    refine Eq.trans ?_ (result_at _ _ _ _ bt ⟨128 * ti.val + y1.val, by omega⟩ kh g d).symm
    refine (ctx_apply (iblk m c 1 t) (iblk m c 5 t) (iblk m c 9 t) _ _ _ _ _ _ _ _ (iblk m c 0 t) ?_ ?_ ?_ ?_ ?_ ?_ ?_ ?_ kh g y1 d).trans ?_
    iterate 8 pointwise
    rw [read0]
    refine Rows.Attn.attend_context _ (by show 128 * ti.val + y1.val < 256; omega) _ _ _ kh g d _ _ _ (fun j => ?_) (fun j => ?_)
    · unfold ctxScores qrow
      exact Finset.sum_congr rfl fun e _ => congrArg₂ (· * ·) (read1 m c t bt ti hb hi y1 _) (read5 m c t bt hb j _)
    · exact read9 m c t bt hb j _
  · have h1 : 2 ≤ t.val % 66 := by omega
    rw [after0_10, outsAt0_B m c t h h1]
    frame_out
    idx_vars y
    obtain rfl : y0 = 0 := Subsingleton.elim _ _
    obtain ⟨kh, g, d, rfl⟩ := column y2
    have hy : ((cfg0.win 10).blk t).view.emb (ix3 0 y1 ⟨256 * kh.val + 64 * g.val + d.val, by omega⟩)
        = ix3 bt ⟨128 * ti.val + y1.val, by omega⟩ ⟨256 * kh.val + 64 * g.val + d.val, by omega⟩ := by
      blk_ext [idx t]
    refine Eq.trans ?_ (congrArg (fun i : S4x8448x512.Idx => result (m ((c : Thread nD τ).loc main_arg0)) (m ((c : Thread nD τ).loc main_arg1))
        (m ((c : Thread nD τ).loc main_arg2)) (m ((c : Thread nD τ).loc main_arg3)) (i 0) (i 1) (i 2)) hy).symm
    refine Eq.trans ?_ (result_at _ _ _ _ bt ⟨128 * ti.val + y1.val, by omega⟩ kh g d).symm
    refine (latent_apply (grid0.coords t 1).val (by omega) (by omega) (iblk m c 1 t) (iblk m c 2 t) (iblk m c 3 t) (iblk m c 4 t) (iblk m c 5 t)
      (iblk m c 6 t) (iblk m c 7 t) (iblk m c 8 t) (iblk m c 9 t) _ _ _ _ _ _ _ _ (iblk m c 0 t) ?_ ?_ ?_ ?_ ?_ ?_ ?_ ?_ kh g y1 d).trans ?_
    iterate 8 pointwise
    rw [read0, hc]
    obtain ⟨n₀, e₀⟩ : ∃ n : Fin 66, n.val = max 2 (ti.val - 1) := ⟨⟨max 2 (ti.val - 1), by omega⟩, rfl⟩
    obtain ⟨n₂, e₂⟩ : ∃ n : Fin 66, n.val = max 2 (min 65 (ti.val + 1)) := ⟨⟨max 2 (min 65 (ti.val + 1)), by omega⟩, rfl⟩
    have f₀ : n₀.val = max 2 (t.val % 66 - 1) := hi ▸ e₀
    have f₂ : n₂.val = max 2 (min 65 (t.val % 66 + 1)) := hi ▸ e₂
    refine Rows.Attn.attend_latent ti.val (by omega) ti.isLt y1 _ rfl _ _ _ kh g d (Ok ti.val y1) (fun _ => Iff.rfl) _ _ _ _ _
      (fun j hj => if_neg hj) (fun j hj => (if_pos hj).trans ?_) (fun j => ?_) (fun j hj => ?_) (fun j => ?_)
    · unfold qrow
      exact Finset.sum_congr rfl fun e _ => congrArg₂ (· * ·) (read1 m c t bt ti hb hi y1 _)
        (cat3_at ti.val (by omega) ti.isLt _ bt _ _ _ n₀ ti n₂ e₀ rfl e₂ (read2 m c t bt n₀ hb f₀) (read3 m c t bt ti hb hi)
          (read4 m c t bt n₂ hb f₂) kh y1 j hj e)
    · unfold ctxScores qrow
      exact Finset.sum_congr rfl fun e _ => congrArg₂ (· * ·) (read1 m c t bt ti hb hi y1 _) (read5 m c t bt hb j _)
    · exact cat3_at ti.val (by omega) ti.isLt _ bt _ _ _ n₀ ti n₂ e₀ rfl e₂ (read6 m c t bt n₀ hb f₀) (read7 m c t bt ti hb hi)
          (read8 m c t bt n₂ hb f₂) kh y1 j hj d
    · exact read9 m c t bt hb j _

end Cert.KernelAttnIdeal.Hand

end
-- ==== Proof.Attn.RefValue.lean ====
/-
  The windowed attention: what the reference computes, read at an index, as the row function of Attn/Row.lean.
-/
module

public import proofs.«01_k».proof.Proof.Gen.ReferenceAttnIdeal.Read
public import proofs.«01_k».proof.Proof.Attn.Row
public import Idealize.ShloMosaic.Lib.KernelVsHost
public import Idealize.ShloMosaic.Lib.WordCmp

@[expose] public section

set_option maxRecDepth 16384

noncomputable section

namespace Cert.ReferenceAttnIdeal.Hand

open Cert.ReferenceAttnIdeal Cert.ReferenceAttnIdeal.Gen Cert.ReferenceAttnIdeal.Read Idealize.ShloMosaic Idealize.ShloMosaic.TcCoe

/-- The word the maxima start from is −∞. -/
theorem neg_inf : Ideal.ofBits .f32 0xFF800000#32 = ⊥ := by simp [Ideal.ofBits, Ideal.ieee]

/-- The distance of two tokens, compared with the window. -/
theorem near (a b : Nat) (ha : a < 8448) (hb : b < 8448) :
    IntOp.cmpi .sle (IntOp.absi (IntOp.subi (BitVec.ofNat 32 a) (BitVec.ofNat 32 b))) 128#32
      = BitVec.ofBool (decide (a ≤ b + 128 ∧ b ≤ a + 128)) := by
  have key : IntOp.absi (IntOp.subi (BitVec.ofNat 32 a) (BitVec.ofNat 32 b)) = BitVec.ofNat 32 (if b ≤ a then a - b else b - a) := by
    show (if (BitVec.ofNat 32 a - BitVec.ofNat 32 b).msb then -(BitVec.ofNat 32 a - BitVec.ofNat 32 b) else BitVec.ofNat 32 a - BitVec.ofNat 32 b) = _
    rw [BitVec.msb_eq_decide]
    apply BitVec.eq_of_toNat_eq
    by_cases h : b ≤ a
    · have e : (BitVec.ofNat 32 a - BitVec.ofNat 32 b).toNat = a - b := by
        rw [BitVec.toNat_sub, BitVec.toNat_ofNat, BitVec.toNat_ofNat]; omega
      rw [if_neg (by rw [e]; simp; omega), e, if_pos h, BitVec.toNat_ofNat]; omega
    · have e : (BitVec.ofNat 32 a - BitVec.ofNat 32 b).toNat = 2 ^ 32 + a - b := by
        rw [BitVec.toNat_sub, BitVec.toNat_ofNat, BitVec.toNat_ofNat]; omega
      rw [if_pos (by rw [e]; simp; omega), BitVec.toNat_neg, e, if_neg h, BitVec.toNat_ofNat]; omega
  rw [key, WordCmp.cmpi_sle_eq, WordCmp.toInt_ofNat_of_lt (by split_ifs <;> omega)]
  congr 1
  have : (128#32 : BitVec 32).toInt = 128 := by decide
  rw [this]
  apply decide_eq_decide.2
  split_ifs <;> omega

/-- Which keys a token sees. -/
theorem mask_apply (row key : Fin 8448) : val_main_v19 (F := Ideal) (ix2 row key) = BitVec.ofBool (decide (Rows.Attn.Sees row key)) := by
  have h : val_main_v19 (F := Ideal) (ix2 row key)
      = IntOp.ori (IntOp.cmpi .slt (BitVec.ofNat 32 key.val) 256#32)
          (IntOp.andi (IntOp.cmpi .sge (BitVec.ofNat 32 row.val) 256#32)
            (IntOp.cmpi .sle (IntOp.absi (IntOp.subi (BitVec.ofNat 32 row.val) (BitVec.ofNat 32 key.val))) 128#32)) := by
    rw [val_main_v19_apply, val_main_v18_apply, val_main_v17_apply, val_main_v16_apply, val_main_v15_apply, val_main_v14_apply,
      val_main_v13_apply, val_main_v12_apply, val_main_v11_apply, val_main_v10_apply, val_main_v9_apply, val_main_v8_apply,
      val_main_c_apply, val_main_c_0_apply, val_main_c_1_apply]
    rfl
  rw [h, near _ _ row.isLt key.isLt, WordCmp.cmpi_slt_eq, WordCmp.cmpi_sge_eq, WordCmp.toInt_ofNat_of_lt (a := key.val) (by have := key.isLt; omega),
    WordCmp.toInt_ofNat_of_lt (a := row.val) (by have := row.isLt; omega), WordCmp.andi_ofBool, WordCmp.ori_ofBool]
  have : (256#32 : BitVec 32).toInt = 256 := by decide
  rw [this, ← Bool.decide_and, ← Bool.decide_or]
  congr 1
  apply decide_eq_decide.2
  unfold Rows.Attn.Sees
  omega

variable (x0 : FVec Ideal S8 .f32) (x1 : FVec Ideal S4x8448x512 .bf16) (x2 x3 : FVec Ideal S4x8448x128 .bf16)

/-- The scores. -/
theorem dot_apply (bt : Fin 4) (h : Fin 2) (g : Fin 4) (row key : Fin 8448) :
    val_main_v7 (F := Ideal) x1 x2 (ix5 bt h g row key)
      = ∑ e : Fin 64, x1 (ix3 bt row ⟨256 * h.val + 64 * g.val + e.val, by omega⟩) * x2 (ix3 bt key ⟨64 * h.val + e.val, by omega⟩) := by
  rw [val_main_v7_apply, val_main_v6_apply]
  refine Finset.sum_congr rfl fun e _ => ?_
  rw [val_main_v3_apply, val_main_v2_apply, val_main_v1_apply, val_main_v0_apply, mul_comm]
  refine congrArg₂ (· * ·) (congrArg x1 (funext fun a => Fin.ext ?_)) (congrArg x2 (funext fun a => Fin.ext ?_))
  · have h0 := bt.isLt; have h1 := row.isLt; have h2 := h.isLt; have h3 := g.isLt; have h4 := e.isLt
    match a with
    | ⟨0, _⟩ => show ((((bt.val * 8448 + row.val) * 2 + h.val) * 4 + g.val) * 64 + e.val) / 4325376 = bt.val; omega
    | ⟨1, _⟩ => show ((((bt.val * 8448 + row.val) * 2 + h.val) * 4 + g.val) * 64 + e.val) / 512 % 8448 = row.val; omega
    | ⟨2, _⟩ => show ((((bt.val * 8448 + row.val) * 2 + h.val) * 4 + g.val) * 64 + e.val) % 512 = 256 * h.val + 64 * g.val + e.val; omega
  · have h0 := bt.isLt; have h1 := key.isLt; have h2 := h.isLt; have h4 := e.isLt
    match a with
    | ⟨0, _⟩ => show (((bt.val * 8448 + key.val) * 2 + h.val) * 64 + e.val) / 1081344 = bt.val; omega
    | ⟨1, _⟩ => show (((bt.val * 8448 + key.val) * 2 + h.val) * 64 + e.val) / 128 % 8448 = key.val; omega
    | ⟨2, _⟩ => show (((bt.val * 8448 + key.val) * 2 + h.val) * 64 + e.val) % 128 = 64 * h.val + e.val; omega

/-- The scores of one token, as the row function has them. -/
abbrev srow (bt : Fin 4) (h : Fin 2) (g : Fin 4) (row : Fin 8448) : Fin 8448 → EReal :=
  Rows.Attn.score row (fun e => x1 (ix3 bt row e)) (fun key e => x2 (ix3 bt key e)) h g

/-- The masked scores. -/
theorem score_apply (bt : Fin 4) (h : Fin 2) (g : Fin 4) (row key : Fin 8448) :
    val_main_v20 (F := Ideal) x1 x2 (ix5 bt h g row key) = srow x1 x2 bt h g row key := by
  have e1 : val_main_call0_v1 (F := Ideal) (ix5 bt h g row key) = BitVec.ofBool (decide (Rows.Attn.Sees row key)) := by
    rw [val_main_call0_v1_apply]
    exact (congrArg _ (funext fun a => Fin.ext (by match a with | ⟨0, _⟩ => rfl | ⟨1, _⟩ => rfl))).trans (mask_apply row key)
  have e2 : val_main_call0_v2 (F := Ideal) (ix5 bt h g row key) = (⊥ : EReal) := by
    rw [val_main_call0_v2_apply, val_main_call0_v0_apply, val_main_cst_apply]
    exact neg_inf
  rw [val_main_v20_apply, e1, e2, dot_apply]
  unfold srow Rows.Attn.score
  by_cases hs : Rows.Attn.Sees row key
  · rw [if_pos hs, decide_eq_true hs]; rfl
  · rw [if_neg hs, decide_eq_false hs]; rfl

/-- The largest score's reduction drops the last axis. -/
theorem drops : S4x2x4x8448x8448.Reduces [4] S4x2x4x8448 := by decide

/-- The host's maximum along an axis is the accumulating maximum along it. -/
theorem reduce_eq {s t u : Shape} {axes : List (Fin s.rank)} (x : FVec Ideal s .f32) (h : s.ReducesTo axes t) (hu : 0 < u.numel)
    (h' : s.Reduces axes t) :
    Host.reduce FloatOps.maximumf x (constant u .f32 0xFF800000#32) h hu
      = multiReduction .maximumf axes t x 0xFF800000#32 h' (.inl rfl) rfl :=
  hostReduce_maximumf_eq_multiReduction x _ h hu h' (.inl rfl) rfl

/-- The accumulating maximum along an axis, as a fold. -/
theorem fold_eq {s t : Shape} {a : Fin s.rank} (x : FVec Ideal s .f32) (h' : s.Reduces [a] t) (j : t.Idx) :
    multiReduction .maximumf [a] t x 0xFF800000#32 h' (.inl rfl) rfl j = Finset.univ.fold max ⊥ (x ∘ h'.lift j) := by
  rw [← neg_inf]
  exact Ideal.multiReduction_maximumf_single x _ h' (.inl rfl) rfl j

/-- The maximum along the last axis. -/
theorem reduce_max (y : FVec Ideal S4x2x4x8448x8448 .f32) (a : Fin 4) (b : Fin 2) (c : Fin 4) (d : Fin 8448) :
    Host.reduce FloatOps.maximumf y (constant S_ .f32 0xFF800000#32) reducesTo_S4x2x4x8448x8448_S4x2x4x8448_d4 h_S_ (ix4 a b c d)
      = Finset.univ.fold max ⊥ (fun k : Fin 8448 => y (ix5 a b c d k)) := by
  rw [reduce_eq y reducesTo_S4x2x4x8448x8448_S4x2x4x8448_d4 h_S_ drops]
  refine (fold_eq y drops _).trans (congrArg (fun f => Finset.fold max (⊥ : EReal) f Finset.univ) (funext fun k => ?_))
  exact congrArg y (funext fun a => Fin.ext (by match a with | ⟨0, _⟩ => rfl | ⟨1, _⟩ => rfl | ⟨2, _⟩ => rfl | ⟨3, _⟩ => rfl | ⟨4, _⟩ => rfl))

/-- The largest score. -/
theorem max_apply (bt : Fin 4) (h : Fin 2) (g : Fin 4) (row : Fin 8448) :
    val_main_v22 (F := Ideal) x1 x2 (ix4 bt h g row) = Finset.univ.fold max ⊥ (srow x1 x2 bt h g row) := by
  unfold val_main_v22 val_main_cst_2
  refine (reduce_max (val_main_v20 (F := Ideal) x1 x2) bt h g row).trans ?_
  exact congrArg (fun f => Finset.fold max (⊥ : EReal) f Finset.univ) (funext fun key => score_apply x1 x2 bt h g row key)

/-- The sink logit of a head. -/
theorem sink_apply (h : Fin 2) (g : Fin 4) : val_main_v21 (F := Ideal) x0 (ix4 0 h g 0) = x0 (ix1 ⟨4 * h.val + g.val, by omega⟩) := by
  rw [val_main_v21_apply]
  refine congrArg x0 (funext fun a => Fin.ext ?_)
  have h0 := h.isLt; have h1 := g.isLt
  match a with
  | ⟨0, _⟩ => show ((0 * 2 + h.val) * 4 + g.val) * 1 + 0 = 4 * h.val + g.val; omega

/-- The largest score or sink logit. -/
theorem top_apply (bt : Fin 4) (h : Fin 2) (g : Fin 4) (row : Fin 8448) :
    val_main_v24 (F := Ideal) x0 x1 x2 (ix4 bt h g row)
      = Rows.Attn.top (srow x1 x2 bt h g row) (x0 (ix1 ⟨4 * h.val + g.val, by omega⟩)) := by
  rw [val_main_v24_apply, max_apply, val_main_v23_apply, ← sink_apply x0 h g]
  unfold Rows.Attn.top
  refine congrArg (max _) (congrArg _ (funext fun a => Fin.ext ?_))
  match a with | ⟨0, _⟩ => rfl | ⟨1, _⟩ => rfl | ⟨2, _⟩ => rfl | ⟨3, _⟩ => rfl

/-- A key's weight before division. -/
theorem exp_apply (bt : Fin 4) (h : Fin 2) (g : Fin 4) (row key : Fin 8448) :
    val_main_v28 (F := Ideal) x0 x1 x2 (ix5 bt h g row key)
      = Ideal.exp (srow x1 x2 bt h g row key
          - Rows.Attn.top (srow x1 x2 bt h g row) (x0 (ix1 ⟨4 * h.val + g.val, by omega⟩))) := by
  rw [val_main_v28_apply, val_main_v27_apply, score_apply, val_main_v26_apply, val_main_v25_apply, ← top_apply]
  refine congrArg Ideal.exp (congrArg (srow x1 x2 bt h g row key - ·) (congrArg _ (funext fun a => Fin.ext ?_)))
  match a with | ⟨0, _⟩ => rfl | ⟨1, _⟩ => rfl | ⟨2, _⟩ => rfl | ⟨3, _⟩ => rfl

/-- The sum of the weights. -/
theorem den_apply (bt : Fin 4) (h : Fin 2) (g : Fin 4) (row : Fin 8448) :
    val_main_v33 (F := Ideal) x0 x1 x2 (ix4 bt h g row)
      = Rows.Attn.den (srow x1 x2 bt h g row) (x0 (ix1 ⟨4 * h.val + g.val, by omega⟩)) := by
  have e1 : val_main_v29 (F := Ideal) x0 x1 x2 (ix4 bt h g row)
      = ∑ key, Ideal.exp (srow x1 x2 bt h g row key
          - Rows.Attn.top (srow x1 x2 bt h g row) (x0 (ix1 ⟨4 * h.val + g.val, by omega⟩))) := by
    rw [val_main_v29_apply, val_main_cst_3_apply]
    have hz : (FloatOps.ofBits .f32 0x00000000#32 : Ideal .f32) = (0 : EReal) := by
      show Ideal.ofBits .f32 0x00000000#32 = 0
      simp [Ideal.ofBits, Ideal.ieee]
    rw [hz]
    refine (zero_add _).trans (Finset.sum_congr rfl fun key _ => (congrArg _ (funext fun a => Fin.ext ?_)).trans (exp_apply x0 x1 x2 bt h g row key))
    match a with | ⟨0, _⟩ => rfl | ⟨1, _⟩ => rfl | ⟨2, _⟩ => rfl | ⟨3, _⟩ => rfl | ⟨4, _⟩ => rfl
  rw [val_main_v33_apply, val_main_v32_apply, val_main_v31_apply, e1, top_apply, val_main_v30_apply]
  unfold Rows.Attn.den
  rw [← sink_apply x0 h g]
  refine congrArg (_ + ·) (congrArg Ideal.exp (congrArg (· - _) (congrArg _ (funext fun a => Fin.ext ?_))))
  match a with | ⟨0, _⟩ => rfl | ⟨1, _⟩ => rfl | ⟨2, _⟩ => rfl | ⟨3, _⟩ => rfl

/-- A key's weight. -/
theorem weight_apply (bt : Fin 4) (h : Fin 2) (g : Fin 4) (row key : Fin 8448) :
    val_main_v36 (F := Ideal) x0 x1 x2 (ix5 bt h g row key)
      = Ideal.div (Ideal.exp (srow x1 x2 bt h g row key
            - Rows.Attn.top (srow x1 x2 bt h g row) (x0 (ix1 ⟨4 * h.val + g.val, by omega⟩))))
          (Rows.Attn.den (srow x1 x2 bt h g row) (x0 (ix1 ⟨4 * h.val + g.val, by omega⟩))) := by
  rw [val_main_v36_apply, exp_apply, val_main_v35_apply, val_main_v34_apply, ← den_apply]
  refine congrArg (Ideal.div _) (congrArg _ (funext fun a => Fin.ext ?_))
  match a with | ⟨0, _⟩ => rfl | ⟨1, _⟩ => rfl | ⟨2, _⟩ => rfl | ⟨3, _⟩ => rfl

/-- The reference's result, at a head and a feature. -/
theorem attn_apply (bt : Fin 4) (row : Fin 8448) (h : Fin 2) (g : Fin 4) (d : Fin 64) :
    val_main_v39 (F := Ideal) x0 x1 x2 x3 (ix3 bt row ⟨256 * h.val + 64 * g.val + d.val, by omega⟩)
      = ∑ key, Rows.Attn.value (fun key e => x3 (ix3 bt key e)) h d key
          * Ideal.div (Ideal.exp (srow x1 x2 bt h g row key
              - Rows.Attn.top (srow x1 x2 bt h g row) (x0 (ix1 ⟨4 * h.val + g.val, by omega⟩))))
            (Rows.Attn.den (srow x1 x2 bt h g row) (x0 (ix1 ⟨4 * h.val + g.val, by omega⟩))) := by
  have e : idx_main_v39 (ix3 bt row ⟨256 * h.val + 64 * g.val + d.val, by omega⟩) = ix5 bt row h g d := by
    have h0 := bt.isLt; have h1 := row.isLt; have h2 := h.isLt; have h3 := g.isLt; have h4 := d.isLt
    refine funext fun a => Fin.ext ?_
    match a with
    | ⟨0, _⟩ => show ((bt.val * 8448 + row.val) * 512 + (256 * h.val + 64 * g.val + d.val)) / 4325376 = bt.val; omega
    | ⟨1, _⟩ => show ((bt.val * 8448 + row.val) * 512 + (256 * h.val + 64 * g.val + d.val)) / 512 % 8448 = row.val; omega
    | ⟨2, _⟩ => show ((bt.val * 8448 + row.val) * 512 + (256 * h.val + 64 * g.val + d.val)) / 256 % 2 = h.val; omega
    | ⟨3, _⟩ => show ((bt.val * 8448 + row.val) * 512 + (256 * h.val + 64 * g.val + d.val)) / 64 % 4 = g.val; omega
    | ⟨4, _⟩ => show ((bt.val * 8448 + row.val) * 512 + (256 * h.val + 64 * g.val + d.val)) % 64 = d.val; omega
  rw [val_main_v39_apply, e, val_main_v38_apply, val_main_v37_apply]
  refine Finset.sum_congr rfl fun key _ => congrArg₂ (· * ·) ?_ ((congrArg _ (funext fun a => Fin.ext ?_)).trans (weight_apply x0 x1 x2 bt h g row key))
  · rw [val_main_v5_apply, val_main_v4_apply]
    unfold Rows.Attn.value
    refine congrArg x3 (funext fun a => Fin.ext ?_)
    have h0 := bt.isLt; have h1 := key.isLt; have h2 := h.isLt; have h4 := d.isLt
    match a with
    | ⟨0, _⟩ => show (((bt.val * 8448 + key.val) * 2 + h.val) * 64 + d.val) / 1081344 = bt.val; omega
    | ⟨1, _⟩ => show (((bt.val * 8448 + key.val) * 2 + h.val) * 64 + d.val) / 128 % 8448 = key.val; omega
    | ⟨2, _⟩ => show (((bt.val * 8448 + key.val) * 2 + h.val) * 64 + d.val) % 128 = 64 * h.val + d.val; omega
  · match a with | ⟨0, _⟩ => rfl | ⟨1, _⟩ => rfl | ⟨2, _⟩ => rfl | ⟨3, _⟩ => rfl | ⟨4, _⟩ => rfl

end Cert.ReferenceAttnIdeal.Hand

end
-- ==== Proof.Attn.Equation.lean ====
/-
  The windowed attention: the kernel's array is the reference's result where the sink logits, the queries and the keys are real
  numbers, and the two programs' claims.
-/
module

public import proofs.«01_k».proof.Defs
public import proofs.«01_k».proof.Proof.Gen.KernelAttnIdeal.Value
public import proofs.«01_k».proof.Proof.Gen.ReferenceAttnIdeal.Run
public import proofs.«01_k».proof.Proof.Gen.ReferenceAttnIdeal.Read
public import proofs.«01_k».proof.Proof.Gen.Pre_finite_scores
public import proofs.«01_k».proof.Proof.Attn.KernelValue
public import proofs.«01_k».proof.Proof.Attn.RefValue
public import Idealize.ShloMosaic.Lib.Claim

@[expose] public section

set_option maxRecDepth 16384

noncomputable section

namespace Cert.Proof.Attn

open Idealize.ShloMosaic Idealize.ShloMosaic.TcCoe Idealize.SL.Sem

/-- The word the precondition compares with is +∞. -/
theorem pos_inf : Ideal.ofBits .f32 0x7F800000#32 = ⊤ := by simp [Ideal.ofBits, Ideal.ieee]

/-- A value whose absolute value is below +∞ is a real number. -/
theorem real_of_abs (x : EReal) (h : Ideal.cmp .olt (max x (-x)) ⊤ = 1#1) : ∃ r : ℝ, x = r := by
  induction x with
  | bot => exact absurd h (by simp [Ideal.cmp])
  | coe r => exact ⟨r, rfl⟩
  | top => exact absurd h (by simp [Ideal.cmp])

/-- The precondition, read: the sink logits, the queries and the keys are real numbers. -/
theorem pre_real (x0 : FVec Ideal Pre_finite_scores.S8 .f32) (x1 : FVec Ideal Pre_finite_scores.S4x8448x512 .bf16)
    (x2 x3 : FVec Ideal Pre_finite_scores.S4x8448x128 .bf16)
    (h0 : (Pre_finite_scores.fn (F := Ideal) x0 x1 x2 x3).1 = fun _ => 1#1)
    (h1 : (Pre_finite_scores.fn (F := Ideal) x0 x1 x2 x3).2.1 = fun _ => 1#1)
    (h2 : (Pre_finite_scores.fn (F := Ideal) x0 x1 x2 x3).2.2 = fun _ => 1#1) :
    (∀ i, ∃ r : ℝ, x0 i = (r : EReal)) ∧ (∀ i, ∃ r : ℝ, x1 i = (r : EReal)) ∧ ∀ i, ∃ r : ℝ, x2 i = (r : EReal) := by
  have key : ∀ x : EReal, Ideal.cmp .olt (max x (-x)) (Ideal.ofBits .f32 0x7F800000#32) = 1#1 → ∃ r : ℝ, x = r := fun x h =>
    real_of_abs x (pos_inf ▸ h)
  exact ⟨fun i => key _ (congrFun h0 i), fun i => key _ (congrFun h1 i), fun i => key _ (congrFun h2 i)⟩

/-- A token's scores are never +∞, its queries and the keys real numbers. -/
theorem score_ne_top (row : Fin 8448) (q : Fin 512 → EReal) (k : Fin 8448 → Fin 128 → EReal) (h : Fin 2) (g : Fin 4)
    (hq : ∀ c, ∃ r : ℝ, q c = r) (hk : ∀ n c, ∃ r : ℝ, k n c = r) (key : Fin 8448) : Rows.Attn.score row q k h g key ≠ ⊤ := by
  unfold Rows.Attn.score
  split_ifs
  · exact Rows.Attn.dot_ne_top _ _ (fun e => hq _) (fun e => hk _ _)
  · exact bot_ne_top

/-- The array the kernel leaves is the reference's result. -/
theorem result_eq (m : (ℓ : Loc KernelAttnIdeal.nD KernelAttnIdeal.τ KernelAttnIdeal.sig) → Buf (Elt Ideal) ℓ)
    (hpre : Pre_KernelAttnIdeal_finite_scores m) (c : Dev KernelAttnIdeal.nD) :
    (KernelAttnIdeal.Gen.dats m 0 c).arrAt 10 KernelAttnIdeal.cfg0.N
      = ReferenceAttnIdeal.Read.val_main_v39 (F := Ideal) (m ((c.tc : Thread KernelAttnIdeal.nD KernelAttnIdeal.τ).loc KernelAttnIdeal.main_arg0))
          (m ((c.tc : Thread KernelAttnIdeal.nD KernelAttnIdeal.τ).loc KernelAttnIdeal.main_arg1))
          (m ((c.tc : Thread KernelAttnIdeal.nD KernelAttnIdeal.τ).loc KernelAttnIdeal.main_arg2))
          (m ((c.tc : Thread KernelAttnIdeal.nD KernelAttnIdeal.τ).loc KernelAttnIdeal.main_arg3)) := by
  refine (KernelAttnIdeal.Hand.final m c).trans (funext fun i => ?_)
  obtain ⟨r0, r1, r2⟩ := pre_real _ _ _ _ (hpre c).1 (hpre c).2.1 (hpre c).2.2
  idx_vars i
  obtain ⟨h, g, d, rfl⟩ := KernelAttnIdeal.Hand.column i2
  refine (KernelAttnIdeal.Hand.result_at _ _ _ _ i0 i1 h g d).trans (Eq.symm ?_)
  refine (ReferenceAttnIdeal.Hand.attn_apply _ _ _ _ i0 i1 h g d).trans ?_
  obtain ⟨sk, hsk⟩ := r0 (ix1 ⟨4 * h.val + g.val, by omega⟩)
  have e := Rows.Attn.attend_eq
    (Rows.Attn.score i1 (fun e => m ((c.tc : Thread KernelAttnIdeal.nD KernelAttnIdeal.τ).loc KernelAttnIdeal.main_arg1) (ix3 i0 i1 e))
      (fun key e => m ((c.tc : Thread KernelAttnIdeal.nD KernelAttnIdeal.τ).loc KernelAttnIdeal.main_arg2) (ix3 i0 key e)) h g)
    (Rows.Attn.value (fun key e => m ((c.tc : Thread KernelAttnIdeal.nD KernelAttnIdeal.τ).loc KernelAttnIdeal.main_arg3) (ix3 i0 key e)) h d)
    sk (score_ne_top _ _ _ h g (fun c => r1 _) (fun n c => r2 _))
  rw [← hsk] at e
  exact e

/-- The idealized kernel computes what the idealized reference computes. -/
theorem algebraic : algebraic_KernelAttnIdeal_ReferenceAttnIdeal_pre_finite_scores (hKernelAttnIdeal := KernelAttnIdeal.Gen.facts)
    (hReferenceAttnIdeal := ReferenceAttnIdeal.Gen.facts) (hPre_finite_scores := Pre_finite_scores.Gen.facts) := by
  pair_intro
  · run_from KernelAttnIdeal.Value.run_blocks m g
  · run_from ReferenceAttnIdeal.Value.run m' g'
    obtain ⟨a0, a1, a2, a3⟩ := hagree c
    rw [result_eq m (by assumption), ReferenceAttnIdeal.Read.val_main_v39_eq]
    exact congr (congr (congrArg₂ _ a0 a1) a2) a3

/-- The masking constant's name denotes −∞. -/
theorem preserves : preserves_KernelAttn_KernelAttnIdeal :=
  IdealRules.named_const.statement Cert.KernelAttnIdeal.κ "mask" .f32 0xF149F2CA#32 ⊥ rfl

/-- The reference terminates, its arguments unchanged. -/
theorem quiescent_reference : quiescent_ReferenceAttnIdeal (hReferenceAttnIdeal := ReferenceAttnIdeal.Gen.facts) := by
  intro m g _
  exact (θ_run ReferenceAttnIdeal.defs _ _).mono (fun r h => ⟨fun c => (h c).2, sem_eq_zero_of_no_sems (by decide) r.2⟩)
    (ReferenceAttnIdeal.Value.run (F := Ideal) m g)

end Cert.Proof.Attn

end
-- ==== Proof.lean ====
/-
  The proof of `Cert.Claim`: for every call, the frames of the three programs, that the idealized kernel is the kernel, and
  that the idealized kernel computes the idealized reference's result.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelFirst.Frame
public import proofs.«01_k».proof.Proof.Gen.KernelFirstIdeal.Frame
public import proofs.«01_k».proof.Proof.Gen.KernelFirstIdeal.Value
public import proofs.«01_k».proof.Proof.Gen.ReferenceFirstIdeal.Run
public import proofs.«01_k».proof.Proof.Gen.ReferenceFirstIdeal.Read
public import proofs.«01_k».proof.Proof.Gen.KernelMid.Frame
public import proofs.«01_k».proof.Proof.Gen.KernelMidIdeal.Frame
public import proofs.«01_k».proof.Proof.Gen.KernelMidIdeal.Value
public import proofs.«01_k».proof.Proof.Gen.ReferenceMidIdeal.Run
public import proofs.«01_k».proof.Proof.Gen.ReferenceMidIdeal.Read
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.ReferenceProjIdeal.Read
public import proofs.«01_k».proof.Proof.Gen.KernelMerge.Frame
public import proofs.«01_k».proof.Proof.Gen.KernelMergeIdeal.Frame
public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Gen.KernelMod.Frame
public import proofs.«01_k».proof.Proof.Gen.KernelModIdeal.Frame
public import proofs.«01_k».proof.Proof.Gen.KernelModIdeal.Value
public import proofs.«01_k».proof.Proof.Gen.ReferenceModIdeal.Run
public import proofs.«01_k».proof.Proof.Gen.ReferenceModIdeal.Read
public import proofs.«01_k».proof.Proof.Gen.KernelAttn.Frame
public import proofs.«01_k».proof.Proof.Gen.KernelAttnIdeal.Frame
public import proofs.«01_k».proof.Proof.Gen.KernelAttnIdeal.Value
public import proofs.«01_k».proof.Proof.Gen.ReferenceAttnIdeal.Run
public import proofs.«01_k».proof.Proof.Gen.ReferenceAttnIdeal.Read
public import proofs.«01_k».proof.Proof.Gen.Pre_finite_scores
public import proofs.«01_k».proof.Proof.Last.Equation
public import proofs.«01_k».proof.Proof.First.Equation
public import proofs.«01_k».proof.Proof.Mid.Equation
public import proofs.«01_k».proof.Proof.Proj.Equation
public import proofs.«01_k».proof.Proof.Merge.Equation
public import proofs.«01_k».proof.Proof.Mod.Equation
public import proofs.«01_k».proof.Proof.Attn.Equation

@[expose] public section

noncomputable section

namespace Cert.Proof

/-- Every claim of the certificate, call by call. -/
theorem claim : Cert.Claim :=
  ⟨Kernel.Gen.facts, KernelIdeal.Gen.facts, ReferenceIdeal.Gen.facts,
    KernelFirst.Gen.facts, KernelFirstIdeal.Gen.facts, ReferenceFirstIdeal.Gen.facts,
    KernelMid.Gen.facts, KernelMidIdeal.Gen.facts, ReferenceMidIdeal.Gen.facts,
    KernelProj.Gen.facts, KernelProjIdeal.Gen.facts, ReferenceProjIdeal.Gen.facts,
    KernelMerge.Gen.facts, KernelMergeIdeal.Gen.facts, ReferenceMergeIdeal.Gen.facts,
    KernelMod.Gen.facts, KernelModIdeal.Gen.facts, ReferenceModIdeal.Gen.facts,
    KernelAttn.Gen.facts, KernelAttnIdeal.Gen.facts, ReferenceAttnIdeal.Gen.facts,
    Pre_finite_scores.Gen.facts,
    fun m g _ => Kernel.Gen.frame m g, fun m g _ => KernelIdeal.Gen.frame m g, Last.quiescent_reference,
    fun m g _ => KernelFirst.Gen.frame m g, fun m g _ => KernelFirstIdeal.Gen.frame m g, First.quiescent_reference,
    fun m g _ => KernelMid.Gen.frame m g, fun m g _ => KernelMidIdeal.Gen.frame m g, Mid.quiescent_reference,
    fun m g _ => KernelProj.Gen.frame m g, fun m g _ => KernelProjIdeal.Gen.frame m g, Proj.quiescent_reference,
    fun m g _ => KernelMerge.Gen.frame m g, fun m g _ => KernelMergeIdeal.Gen.frame m g, Merge.quiescent_reference,
    fun m g _ => KernelMod.Gen.frame m g, fun m g _ => KernelModIdeal.Gen.frame m g, Mod.quiescent_reference,
    fun m g _ => KernelAttn.Gen.frame m g, fun m g _ => KernelAttnIdeal.Gen.frame m g, fun m g _ => KernelAttnIdeal.Gen.frame m g,
    Attn.quiescent_reference, fun m g _ => Attn.quiescent_reference m g trivial,
    trivial, Last.algebraic, trivial, First.algebraic, trivial, Mid.algebraic,
    trivial, Proj.algebraic, trivial, Merge.algebraic, trivial, Mod.algebraic,
    Attn.preserves, Attn.algebraic⟩

end Cert.Proof

end
